-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S8x4096x256 : Shape := ⟨3, ![8, 4096, 256]⟩
abbrev S32x128x64 : Shape := ⟨3, ![32, 128, 64]⟩
abbrev S1x128 : Shape := ⟨2, ![1, 128]⟩
abbrev S32x128 : Shape := ⟨2, ![32, 128]⟩
abbrev S8 : Shape := ⟨1, ![8]⟩
abbrev S32 : Shape := ⟨1, ![32]⟩
abbrev S_ : Shape := ⟨0, ![]⟩
abbrev S1 : Shape := ⟨1, ![1]⟩
abbrev S1x4096x256 : Shape := ⟨3, ![1, 4096, 256]⟩
abbrev S4096x256 : Shape := ⟨2, ![4096, 256]⟩
abbrev S128x256 : Shape := ⟨2, ![128, 256]⟩
abbrev S1x128x256 : Shape := ⟨3, ![1, 128, 256]⟩
abbrev S1x1x1 : Shape := ⟨3, ![1, 1, 1]⟩
abbrev S128x64 : Shape := ⟨2, ![128, 64]⟩
abbrev S1x128x64 : Shape := ⟨3, ![1, 128, 64]⟩
abbrev S128 : Shape := ⟨1, ![128]⟩
abbrev S1x32x128 : Shape := ⟨3, ![1, 32, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S8x4096x256, .f32⟩
  | .local _ .vmem, ⟨3, _⟩ => ⟨S32x128x64, .bf16⟩
  | .local _ .vmem, ⟨4, _⟩ => ⟨S4096x64, .bf16⟩
  | .local _ .vmem, ⟨5, _⟩ => ⟨S1x128, .f32⟩
  | .local _ .vmem, ⟨6, _⟩ => ⟨S32x128, .f32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c0_i32 : BitVec 32 := 0#32
  let v5 : BitVec 32 := Scalar.addi v4 c0_i32
  let c32_i32_1 : BitVec 32 := 32#32
  let v6 : BitVec 32 := Scalar.remsi v5 c32_i32_1
  let c1_i32_3 : BitVec 32 := 1#32
  let v7 : BitVec 32 := Scalar.muli v6 c1_i32_3
  let v8 : BitVec 32 := Scalar.addi c0_i32_4 v7
  v8.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v9 : BitVec 32 := Scalar.addi v2 c1_i32_5
  let c1_i32_6 : BitVec 32 := 1#32
  let v10 : BitVec 32 := Scalar.addi v9 c1_i32_6
  let c32_i32_7 : BitVec 32 := 32#32
  let v11 : BitVec 32 := Scalar.remsi v10 c32_i32_7
  let c1_i32_9 : BitVec 32 := 1#32
  let v12 : BitVec 32 := Scalar.muli v11 c1_i32_9
  let v13 : BitVec 32 := Scalar.addi c0_i32_10 v12
  v13.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v14 : BitVec 32 := Scalar.addi v2 c1_i32_11
  let c2_i32 : BitVec 32 := 2#32
  let v15 : BitVec 32 := Scalar.addi v14 c2_i32
  let c32_i32_12 : BitVec 32 := 32#32
  let v16 : BitVec 32 := Scalar.remsi v15 c32_i32_12
  let c1_i32_14 : BitVec 32 := 1#32
  let v17 : BitVec 32 := Scalar.muli v16 c1_i32_14
  let v18 : BitVec 32 := Scalar.addi c0_i32_15 v17
  v18.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v19 : BitVec 32 := Scalar.addi v2 c1_i32_16
  let c3_i32 : BitVec 32 := 3#32
  let v20 : BitVec 32 := Scalar.addi v19 c3_i32
  let c32_i32_17 : BitVec 32 := 32#32
  let v21 : BitVec 32 := Scalar.remsi v20 c32_i32_17
  let c1_i32_19 : BitVec 32 := 1#32
  let v22 : BitVec 32 := Scalar.muli v21 c1_i32_19
  let v23 : BitVec 32 := Scalar.addi c0_i32_20 v22
  v23.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_21 : BitVec 32 := 1#32
  let v24 : BitVec 32 := Scalar.addi v2 c1_i32_21
  let c4_i32 : BitVec 32 := 4#32
  let v25 : BitVec 32 := Scalar.addi v24 c4_i32
  let c32_i32_22 : BitVec 32 := 32#32
  let v26 : BitVec 32 := Scalar.remsi v25 c32_i32_22
  let c1_i32_24 : BitVec 32 := 1#32
  let v27 : BitVec 32 := Scalar.muli v26 c1_i32_24
  let v28 : BitVec 32 := Scalar.addi c0_i32_25 v27
  v28.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_26 : BitVec 32 := 1#32
  let v29 : BitVec 32 := Scalar.addi v2 c1_i32_26
  let c5_i32 : BitVec 32 := 5#32
  let v30 : BitVec 32 := Scalar.addi v29 c5_i32
  let c32_i32_27 : BitVec 32 := 32#32
  let v31 : BitVec 32 := Scalar.remsi v30 c32_i32_27
  let c1_i32_29 : BitVec 32 := 1#32
  let v32 : BitVec 32 := Scalar.muli v31 c1_i32_29
  let v33 : BitVec 32 := Scalar.addi c0_i32_30 v32
  v33.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_31 : BitVec 32 := 1#32
  let v34 : BitVec 32 := Scalar.addi v2 c1_i32_31
  let c6_i32 : BitVec 32 := 6#32
  let v35 : BitVec 32 := Scalar.addi v34 c6_i32
  let c32_i32_32 : BitVec 32 := 32#32
  let v36 : BitVec 32 := Scalar.remsi v35 c32_i32_32
  let c1_i32_34 : BitVec 32 := 1#32
  let v37 : BitVec 32 := Scalar.muli v36 c1_i32_34
  let v38 : BitVec 32 := Scalar.addi c0_i32_35 v37
  v38.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_36 : BitVec 32 := 1#32
  let v39 : BitVec 32 := Scalar.addi v2 c1_i32_36
  let c7_i32 : BitVec 32 := 7#32
  let v40 : BitVec 32 := Scalar.addi v39 c7_i32
  let c32_i32_37 : BitVec 32 := 32#32
  let v41 : BitVec 32 := Scalar.remsi v40 c32_i32_37
  let c1_i32_39 : BitVec 32 := 1#32
  let v42 : BitVec 32 := Scalar.muli v41 c1_i32_39
  let v43 : BitVec 32 := Scalar.addi c0_i32_40 v42
  v43.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_41 : BitVec 32 := 1#32
  let v44 : BitVec 32 := Scalar.addi v2 c1_i32_41
  let c8_i32 : BitVec 32 := 8#32
  let v45 : BitVec 32 := Scalar.addi v44 c8_i32
  let c32_i32_42 : BitVec 32 := 32#32
  let v46 : BitVec 32 := Scalar.remsi v45 c32_i32_42
  let c1_i32_44 : BitVec 32 := 1#32
  let v47 : BitVec 32 := Scalar.muli v46 c1_i32_44
  let v48 : BitVec 32 := Scalar.addi c0_i32_45 v47
  v48.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_46 : BitVec 32 := 1#32
  let v49 : BitVec 32 := Scalar.addi v2 c1_i32_46
  let c9_i32 : BitVec 32 := 9#32
  let v50 : BitVec 32 := Scalar.addi v49 c9_i32
  let c32_i32_47 : BitVec 32 := 32#32
  let v51 : BitVec 32 := Scalar.remsi v50 c32_i32_47
  let c1_i32_49 : BitVec 32 := 1#32
  let v52 : BitVec 32 := Scalar.muli v51 c1_i32_49
  let v53 : BitVec 32 := Scalar.addi c0_i32_50 v52
  v53.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_51 : BitVec 32 := 1#32
  let v54 : BitVec 32 := Scalar.addi v2 c1_i32_51
  let c10_i32 : BitVec 32 := 10#32
  let v55 : BitVec 32 := Scalar.addi v54 c10_i32
  let c32_i32_52 : BitVec 32 := 32#32
  let v56 : BitVec 32 := Scalar.remsi v55 c32_i32_52
  let c1_i32_54 : BitVec 32 := 1#32
  let v57 : BitVec 32 := Scalar.muli v56 c1_i32_54
  let v58 : BitVec 32 := Scalar.addi c0_i32_55 v57
  v58.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_56 : BitVec 32 := 1#32
  let v59 : BitVec 32 := Scalar.addi v2 c1_i32_56
  let c11_i32 : BitVec 32 := 11#32
  let v60 : BitVec 32 := Scalar.addi v59 c11_i32
  let c32_i32_57 : BitVec 32 := 32#32
  let v61 : BitVec 32 := Scalar.remsi v60 c32_i32_57
  let c1_i32_59 : BitVec 32 := 1#32
  let v62 : BitVec 32 := Scalar.muli v61 c1_i32_59
  let v63 : BitVec 32 := Scalar.addi c0_i32_60 v62
  v63.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_61 : BitVec 32 := 1#32
  let v64 : BitVec 32 := Scalar.addi v2 c1_i32_61
  let c12_i32 : BitVec 32 := 12#32
  let v65 : BitVec 32 := Scalar.addi v64 c12_i32
  let c32_i32_62 : BitVec 32 := 32#32
  let v66 : BitVec 32 := Scalar.remsi v65 c32_i32_62
  let c1_i32_64 : BitVec 32 := 1#32
  let v67 : BitVec 32 := Scalar.muli v66 c1_i32_64
  let v68 : BitVec 32 := Scalar.addi c0_i32_65 v67
  v68.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_66 : BitVec 32 := 1#32
  let v69 : BitVec 32 := Scalar.addi v2 c1_i32_66
  let c13_i32 : BitVec 32 := 13#32
  let v70 : BitVec 32 := Scalar.addi v69 c13_i32
  let c32_i32_67 : BitVec 32 := 32#32
  let v71 : BitVec 32 := Scalar.remsi v70 c32_i32_67
  let c1_i32_69 : BitVec 32 := 1#32
  let v72 : BitVec 32 := Scalar.muli v71 c1_i32_69
  let v73 : BitVec 32 := Scalar.addi c0_i32_70 v72
  v73.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_71 : BitVec 32 := 1#32
  let v74 : BitVec 32 := Scalar.addi v2 c1_i32_71
  let c14_i32 : BitVec 32 := 14#32
  let v75 : BitVec 32 := Scalar.addi v74 c14_i32
  let c32_i32_72 : BitVec 32 := 32#32
  let v76 : BitVec 32 := Scalar.remsi v75 c32_i32_72
  let c1_i32_74 : BitVec 32 := 1#32
  let v77 : BitVec 32 := Scalar.muli v76 c1_i32_74
  let v78 : BitVec 32 := Scalar.addi c0_i32_75 v77
  v78.toNat
def k0_dev16 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_76 : BitVec 32 := 1#32
  let v79 : BitVec 32 := Scalar.addi v2 c1_i32_76
  let c15_i32 : BitVec 32 := 15#32
  let v80 : BitVec 32 := Scalar.addi v79 c15_i32
  let c32_i32_77 : BitVec 32 := 32#32
  let v81 : BitVec 32 := Scalar.remsi v80 c32_i32_77
  let c1_i32_79 : BitVec 32 := 1#32
  let v82 : BitVec 32 := Scalar.muli v81 c1_i32_79
  let v83 : BitVec 32 := Scalar.addi c0_i32_80 v82
  v83.toNat
def k0_dev17 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_81 : BitVec 32 := 1#32
  let v84 : BitVec 32 := Scalar.addi v2 c1_i32_81
  let c16_i32 : BitVec 32 := 16#32
  let v85 : BitVec 32 := Scalar.addi v84 c16_i32
  let c32_i32_82 : BitVec 32 := 32#32
  let v86 : BitVec 32 := Scalar.remsi v85 c32_i32_82
  let c1_i32_84 : BitVec 32 := 1#32
  let v87 : BitVec 32 := Scalar.muli v86 c1_i32_84
  let v88 : BitVec 32 := Scalar.addi c0_i32_85 v87
  v88.toNat
def k0_dev18 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_86 : BitVec 32 := 1#32
  let v89 : BitVec 32 := Scalar.addi v2 c1_i32_86
  let c17_i32 : BitVec 32 := 17#32
  let v90 : BitVec 32 := Scalar.addi v89 c17_i32
  let c32_i32_87 : BitVec 32 := 32#32
  let v91 : BitVec 32 := Scalar.remsi v90 c32_i32_87
  let c1_i32_89 : BitVec 32 := 1#32
  let v92 : BitVec 32 := Scalar.muli v91 c1_i32_89
  let v93 : BitVec 32 := Scalar.addi c0_i32_90 v92
  v93.toNat
def k0_dev19 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_91 : BitVec 32 := 1#32
  let v94 : BitVec 32 := Scalar.addi v2 c1_i32_91
  let c18_i32 : BitVec 32 := 18#32
  let v95 : BitVec 32 := Scalar.addi v94 c18_i32
  let c32_i32_92 : BitVec 32 := 32#32
  let v96 : BitVec 32 := Scalar.remsi v95 c32_i32_92
  let c1_i32_94 : BitVec 32 := 1#32
  let v97 : BitVec 32 := Scalar.muli v96 c1_i32_94
  let v98 : BitVec 32 := Scalar.addi c0_i32_95 v97
  v98.toNat
def k0_dev20 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v99 : BitVec 32 := Scalar.addi v2 c1_i32_96
  let c19_i32 : BitVec 32 := 19#32
  let v100 : BitVec 32 := Scalar.addi v99 c19_i32
  let c32_i32_97 : BitVec 32 := 32#32
  let v101 : BitVec 32 := Scalar.remsi v100 c32_i32_97
  let c1_i32_99 : BitVec 32 := 1#32
  let v102 : BitVec 32 := Scalar.muli v101 c1_i32_99
  let v103 : BitVec 32 := Scalar.addi c0_i32_100 v102
  v103.toNat
def k0_dev21 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_101 : BitVec 32 := 1#32
  let v104 : BitVec 32 := Scalar.addi v2 c1_i32_101
  let c20_i32 : BitVec 32 := 20#32
  let v105 : BitVec 32 := Scalar.addi v104 c20_i32
  let c32_i32_102 : BitVec 32 := 32#32
  let v106 : BitVec 32 := Scalar.remsi v105 c32_i32_102
  let c1_i32_104 : BitVec 32 := 1#32
  let v107 : BitVec 32 := Scalar.muli v106 c1_i32_104
  let v108 : BitVec 32 := Scalar.addi c0_i32_105 v107
  v108.toNat
def k0_dev22 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_106 : BitVec 32 := 1#32
  let v109 : BitVec 32 := Scalar.addi v2 c1_i32_106
  let c21_i32 : BitVec 32 := 21#32
  let v110 : BitVec 32 := Scalar.addi v109 c21_i32
  let c32_i32_107 : BitVec 32 := 32#32
  let v111 : BitVec 32 := Scalar.remsi v110 c32_i32_107
  let c1_i32_109 : BitVec 32 := 1#32
  let v112 : BitVec 32 := Scalar.muli v111 c1_i32_109
  let v113 : BitVec 32 := Scalar.addi c0_i32_110 v112
  v113.toNat
def k0_dev23 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_111 : BitVec 32 := 1#32
  let v114 : BitVec 32 := Scalar.addi v2 c1_i32_111
  let c22_i32 : BitVec 32 := 22#32
  let v115 : BitVec 32 := Scalar.addi v114 c22_i32
  let c32_i32_112 : BitVec 32 := 32#32
  let v116 : BitVec 32 := Scalar.remsi v115 c32_i32_112
  let c1_i32_114 : BitVec 32 := 1#32
  let v117 : BitVec 32 := Scalar.muli v116 c1_i32_114
  let v118 : BitVec 32 := Scalar.addi c0_i32_115 v117
  v118.toNat
def k0_dev24 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_116 : BitVec 32 := 1#32
  let v119 : BitVec 32 := Scalar.addi v2 c1_i32_116
  let c23_i32 : BitVec 32 := 23#32
  let v120 : BitVec 32 := Scalar.addi v119 c23_i32
  let c32_i32_117 : BitVec 32 := 32#32
  let v121 : BitVec 32 := Scalar.remsi v120 c32_i32_117
  let c1_i32_119 : BitVec 32 := 1#32
  let v122 : BitVec 32 := Scalar.muli v121 c1_i32_119
  let v123 : BitVec 32 := Scalar.addi c0_i32_120 v122
  v123.toNat
def k0_dev25 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_121 : BitVec 32 := 1#32
  let v124 : BitVec 32 := Scalar.addi v2 c1_i32_121
  let c24_i32 : BitVec 32 := 24#32
  let v125 : BitVec 32 := Scalar.addi v124 c24_i32
  let c32_i32_122 : BitVec 32 := 32#32
  let v126 : BitVec 32 := Scalar.remsi v125 c32_i32_122
  let c1_i32_124 : BitVec 32 := 1#32
  let v127 : BitVec 32 := Scalar.muli v126 c1_i32_124
  let v128 : BitVec 32 := Scalar.addi c0_i32_125 v127
  v128.toNat
def k0_dev26 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_126 : BitVec 32 := 1#32
  let v129 : BitVec 32 := Scalar.addi v2 c1_i32_126
  let c25_i32 : BitVec 32 := 25#32
  let v130 : BitVec 32 := Scalar.addi v129 c25_i32
  let c32_i32_127 : BitVec 32 := 32#32
  let v131 : BitVec 32 := Scalar.remsi v130 c32_i32_127
  let c1_i32_129 : BitVec 32 := 1#32
  let v132 : BitVec 32 := Scalar.muli v131 c1_i32_129
  let v133 : BitVec 32 := Scalar.addi c0_i32_130 v132
  v133.toNat
def k0_dev27 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v134 : BitVec 32 := Scalar.addi v2 c1_i32_131
  let c26_i32 : BitVec 32 := 26#32
  let v135 : BitVec 32 := Scalar.addi v134 c26_i32
  let c32_i32_132 : BitVec 32 := 32#32
  let v136 : BitVec 32 := Scalar.remsi v135 c32_i32_132
  let c1_i32_134 : BitVec 32 := 1#32
  let v137 : BitVec 32 := Scalar.muli v136 c1_i32_134
  let v138 : BitVec 32 := Scalar.addi c0_i32_135 v137
  v138.toNat
def k0_dev28 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_136 : BitVec 32 := 1#32
  let v139 : BitVec 32 := Scalar.addi v2 c1_i32_136
  let c27_i32 : BitVec 32 := 27#32
  let v140 : BitVec 32 := Scalar.addi v139 c27_i32
  let c32_i32_137 : BitVec 32 := 32#32
  let v141 : BitVec 32 := Scalar.remsi v140 c32_i32_137
  let c1_i32_139 : BitVec 32 := 1#32
  let v142 : BitVec 32 := Scalar.muli v141 c1_i32_139
  let v143 : BitVec 32 := Scalar.addi c0_i32_140 v142
  v143.toNat
def k0_dev29 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_141 : BitVec 32 := 1#32
  let v144 : BitVec 32 := Scalar.addi v2 c1_i32_141
  let c28_i32 : BitVec 32 := 28#32
  let v145 : BitVec 32 := Scalar.addi v144 c28_i32
  let c32_i32_142 : BitVec 32 := 32#32
  let v146 : BitVec 32 := Scalar.remsi v145 c32_i32_142
  let c1_i32_144 : BitVec 32 := 1#32
  let v147 : BitVec 32 := Scalar.muli v146 c1_i32_144
  let v148 : BitVec 32 := Scalar.addi c0_i32_145 v147
  v148.toNat
def k0_dev30 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v149 : BitVec 32 := Scalar.addi v2 c1_i32_146
  let c29_i32 : BitVec 32 := 29#32
  let v150 : BitVec 32 := Scalar.addi v149 c29_i32
  let c32_i32_147 : BitVec 32 := 32#32
  let v151 : BitVec 32 := Scalar.remsi v150 c32_i32_147
  let c1_i32_149 : BitVec 32 := 1#32
  let v152 : BitVec 32 := Scalar.muli v151 c1_i32_149
  let v153 : BitVec 32 := Scalar.addi c0_i32_150 v152
  v153.toNat
def k0_dev31 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_151 : BitVec 32 := 1#32
  let v154 : BitVec 32 := Scalar.addi v2 c1_i32_151
  let c30_i32 : BitVec 32 := 30#32
  let v155 : BitVec 32 := Scalar.addi v154 c30_i32
  let c32_i32_152 : BitVec 32 := 32#32
  let v156 : BitVec 32 := Scalar.remsi v155 c32_i32_152
  let c1_i32_154 : BitVec 32 := 1#32
  let v157 : BitVec 32 := Scalar.muli v156 c1_i32_154
  let v158 : BitVec 32 := Scalar.addi c0_i32_155 v157
  v158.toNat
def k0_off1 (d0 : Dev nD) (c0_i32_163 : BitVec 32) : Fin 2 → Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v176 : BitVec 32 := Scalar.addi c0_i32_163 v175
  let c8_i32_164 : BitVec 32 := 8#32
  let v177 : BitVec 32 := Scalar.remsi v176 c8_i32_164
  let c256_i32 : BitVec 32 := 256#32
  let v178 : BitVec 32 := Scalar.muli v177 c256_i32
  ![0, v178.toNat]
def k0_off2 (d0 : Dev nD) (c0_i32_227 : BitVec 32) (c0_i32_241 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_240 : BitVec 32 := 4#32
  let v262 : BitVec 32 := Scalar.muli v244 c4_i32_240
  let v263 : BitVec 32 := Scalar.addi v262 c0_i32_241
  let v266 : Index := Scalar.indexCast v263
  let c0_242 : Index := 0#32
  let c0_243 : Index := 0#32
  ![v266.toNat, 0, 0]
def k0_cond1 (d0 : Dev nD) : BitVec 1 :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_240 : BitVec 32 := 4#32
  let v262 : BitVec 32 := Scalar.muli v244 c4_i32_240
  let c0_i32_241 : BitVec 32 := 0#32
  let v263 : BitVec 32 := Scalar.addi v262 c0_i32_241
  let v270 : BitVec 1 := Scalar.cmpi .eq v263 v2
  let v271 : BitVec 32 := Scalar.extui v270
  let c0_i32_244 : BitVec 32 := 0#32
  let v272 : BitVec 1 := Scalar.cmpi .ne v271 c0_i32_244
  v272

def k0_off3 (d0 : Dev nD) : Fin 3 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_240 : BitVec 32 := 4#32
  let v262 : BitVec 32 := Scalar.muli v244 c4_i32_240
  let c0_i32_241 : BitVec 32 := 0#32
  let v263 : BitVec 32 := Scalar.addi v262 c0_i32_241
  let v1565 : Index := Scalar.indexCast v263
  let c0_972 : Index := 0#32
  let c0_973 : Index := 0#32
  ![v1565.toNat, 0, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond2 (d0 : Dev nD) : BitVec 1 :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_240 : BitVec 32 := 4#32
  let v262 : BitVec 32 := Scalar.muli v244 c4_i32_240
  let c0_i32_241 : BitVec 32 := 0#32
  let v263 : BitVec 32 := Scalar.addi v262 c0_i32_241
  let v273 : BitVec 1 := Scalar.cmpi .ne v263 v2
  let v274 : BitVec 32 := Scalar.extui v273
  let c0_i32_245 : BitVec 32 := 0#32
  let v275 : BitVec 1 := Scalar.cmpi .ne v274 c0_i32_245
  v275

def k0_off5 (d0 : Dev nD) : Fin 1 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_240 : BitVec 32 := 4#32
  let v262 : BitVec 32 := Scalar.muli v244 c4_i32_240
  let c0_i32_241 : BitVec 32 := 0#32
  let v263 : BitVec 32 := Scalar.addi v262 c0_i32_241
  ![v263.toNat]
def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off8 (d0 : Dev nD) : Fin 3 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_240 : BitVec 32 := 4#32
  let v262 : BitVec 32 := Scalar.muli v244 c4_i32_240
  let c0_i32_241 : BitVec 32 := 0#32
  let v263 : BitVec 32 := Scalar.addi v262 c0_i32_241
  let c0_i32_975 : BitVec 32 := 0#32
  let c0_i32_976 : BitVec 32 := 0#32
  ![v263.toNat, 0, 0]
def k0_dev32 (d0 : Dev nD) : Nat :=
  let c0_i32_973 : BitVec 32 := 0#32
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_240 : BitVec 32 := 4#32
  let v262 : BitVec 32 := Scalar.muli v244 c4_i32_240
  let c0_i32_241 : BitVec 32 := 0#32
  let v263 : BitVec 32 := Scalar.addi v262 c0_i32_241
  let c1_i32_972 : BitVec 32 := 1#32
  let v1566 : BitVec 32 := Scalar.muli v263 c1_i32_972
  let v1567 : BitVec 32 := Scalar.addi c0_i32_973 v1566
  v1567.toNat
def k0_cond3 (d0 : Dev nD) : BitVec 1 :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_246 : BitVec 32 := 4#32
  let v276 : BitVec 32 := Scalar.muli v244 c4_i32_246
  let c1_i32_247 : BitVec 32 := 1#32
  let v277 : BitVec 32 := Scalar.addi v276 c1_i32_247
  let v284 : BitVec 1 := Scalar.cmpi .eq v277 v2
  let v285 : BitVec 32 := Scalar.extui v284
  let c0_i32_250 : BitVec 32 := 0#32
  let v286 : BitVec 1 := Scalar.cmpi .ne v285 c0_i32_250
  v286

def k0_off9 (d0 : Dev nD) : Fin 3 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_246 : BitVec 32 := 4#32
  let v276 : BitVec 32 := Scalar.muli v244 c4_i32_246
  let c1_i32_247 : BitVec 32 := 1#32
  let v277 : BitVec 32 := Scalar.addi v276 c1_i32_247
  let v1565 : Index := Scalar.indexCast v277
  let c0_972 : Index := 0#32
  let c0_973 : Index := 0#32
  ![v1565.toNat, 0, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond4 (d0 : Dev nD) : BitVec 1 :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_246 : BitVec 32 := 4#32
  let v276 : BitVec 32 := Scalar.muli v244 c4_i32_246
  let c1_i32_247 : BitVec 32 := 1#32
  let v277 : BitVec 32 := Scalar.addi v276 c1_i32_247
  let v287 : BitVec 1 := Scalar.cmpi .ne v277 v2
  let v288 : BitVec 32 := Scalar.extui v287
  let c0_i32_251 : BitVec 32 := 0#32
  let v289 : BitVec 1 := Scalar.cmpi .ne v288 c0_i32_251
  v289

def k0_off11 (d0 : Dev nD) : Fin 1 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_246 : BitVec 32 := 4#32
  let v276 : BitVec 32 := Scalar.muli v244 c4_i32_246
  let c1_i32_247 : BitVec 32 := 1#32
  let v277 : BitVec 32 := Scalar.addi v276 c1_i32_247
  ![v277.toNat]
def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off14 (d0 : Dev nD) : Fin 3 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_246 : BitVec 32 := 4#32
  let v276 : BitVec 32 := Scalar.muli v244 c4_i32_246
  let c1_i32_247 : BitVec 32 := 1#32
  let v277 : BitVec 32 := Scalar.addi v276 c1_i32_247
  let c0_i32_975 : BitVec 32 := 0#32
  let c0_i32_976 : BitVec 32 := 0#32
  ![v277.toNat, 0, 0]
def k0_dev33 (d0 : Dev nD) : Nat :=
  let c0_i32_973 : BitVec 32 := 0#32
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_246 : BitVec 32 := 4#32
  let v276 : BitVec 32 := Scalar.muli v244 c4_i32_246
  let c1_i32_247 : BitVec 32 := 1#32
  let v277 : BitVec 32 := Scalar.addi v276 c1_i32_247
  let c1_i32_972 : BitVec 32 := 1#32
  let v1566 : BitVec 32 := Scalar.muli v277 c1_i32_972
  let v1567 : BitVec 32 := Scalar.addi c0_i32_973 v1566
  v1567.toNat
def k0_cond5 (d0 : Dev nD) : BitVec 1 :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_252 : BitVec 32 := 4#32
  let v290 : BitVec 32 := Scalar.muli v244 c4_i32_252
  let c2_i32_253 : BitVec 32 := 2#32
  let v291 : BitVec 32 := Scalar.addi v290 c2_i32_253
  let v298 : BitVec 1 := Scalar.cmpi .eq v291 v2
  let v299 : BitVec 32 := Scalar.extui v298
  let c0_i32_256 : BitVec 32 := 0#32
  let v300 : BitVec 1 := Scalar.cmpi .ne v299 c0_i32_256
  v300

def k0_off15 (d0 : Dev nD) : Fin 3 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_252 : BitVec 32 := 4#32
  let v290 : BitVec 32 := Scalar.muli v244 c4_i32_252
  let c2_i32_253 : BitVec 32 := 2#32
  let v291 : BitVec 32 := Scalar.addi v290 c2_i32_253
  let v1565 : Index := Scalar.indexCast v291
  let c0_972 : Index := 0#32
  let c0_973 : Index := 0#32
  ![v1565.toNat, 0, 0]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond6 (d0 : Dev nD) : BitVec 1 :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_252 : BitVec 32 := 4#32
  let v290 : BitVec 32 := Scalar.muli v244 c4_i32_252
  let c2_i32_253 : BitVec 32 := 2#32
  let v291 : BitVec 32 := Scalar.addi v290 c2_i32_253
  let v301 : BitVec 1 := Scalar.cmpi .ne v291 v2
  let v302 : BitVec 32 := Scalar.extui v301
  let c0_i32_257 : BitVec 32 := 0#32
  let v303 : BitVec 1 := Scalar.cmpi .ne v302 c0_i32_257
  v303

def k0_off17 (d0 : Dev nD) : Fin 1 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_252 : BitVec 32 := 4#32
  let v290 : BitVec 32 := Scalar.muli v244 c4_i32_252
  let c2_i32_253 : BitVec 32 := 2#32
  let v291 : BitVec 32 := Scalar.addi v290 c2_i32_253
  ![v291.toNat]
def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off20 (d0 : Dev nD) : Fin 3 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_252 : BitVec 32 := 4#32
  let v290 : BitVec 32 := Scalar.muli v244 c4_i32_252
  let c2_i32_253 : BitVec 32 := 2#32
  let v291 : BitVec 32 := Scalar.addi v290 c2_i32_253
  let c0_i32_975 : BitVec 32 := 0#32
  let c0_i32_976 : BitVec 32 := 0#32
  ![v291.toNat, 0, 0]
def k0_dev34 (d0 : Dev nD) : Nat :=
  let c0_i32_973 : BitVec 32 := 0#32
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_252 : BitVec 32 := 4#32
  let v290 : BitVec 32 := Scalar.muli v244 c4_i32_252
  let c2_i32_253 : BitVec 32 := 2#32
  let v291 : BitVec 32 := Scalar.addi v290 c2_i32_253
  let c1_i32_972 : BitVec 32 := 1#32
  let v1566 : BitVec 32 := Scalar.muli v291 c1_i32_972
  let v1567 : BitVec 32 := Scalar.addi c0_i32_973 v1566
  v1567.toNat
def k0_cond7 (d0 : Dev nD) : BitVec 1 :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_258 : BitVec 32 := 4#32
  let v304 : BitVec 32 := Scalar.muli v244 c4_i32_258
  let c3_i32_259 : BitVec 32 := 3#32
  let v305 : BitVec 32 := Scalar.addi v304 c3_i32_259
  let v312 : BitVec 1 := Scalar.cmpi .eq v305 v2
  let v313 : BitVec 32 := Scalar.extui v312
  let c0_i32_262 : BitVec 32 := 0#32
  let v314 : BitVec 1 := Scalar.cmpi .ne v313 c0_i32_262
  v314

def k0_off21 (d0 : Dev nD) : Fin 3 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_258 : BitVec 32 := 4#32
  let v304 : BitVec 32 := Scalar.muli v244 c4_i32_258
  let c3_i32_259 : BitVec 32 := 3#32
  let v305 : BitVec 32 := Scalar.addi v304 c3_i32_259
  let v1565 : Index := Scalar.indexCast v305
  let c0_972 : Index := 0#32
  let c0_973 : Index := 0#32
  ![v1565.toNat, 0, 0]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond8 (d0 : Dev nD) : BitVec 1 :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_258 : BitVec 32 := 4#32
  let v304 : BitVec 32 := Scalar.muli v244 c4_i32_258
  let c3_i32_259 : BitVec 32 := 3#32
  let v305 : BitVec 32 := Scalar.addi v304 c3_i32_259
  let v315 : BitVec 1 := Scalar.cmpi .ne v305 v2
  let v316 : BitVec 32 := Scalar.extui v315
  let c0_i32_263 : BitVec 32 := 0#32
  let v317 : BitVec 1 := Scalar.cmpi .ne v316 c0_i32_263
  v317

def k0_off23 (d0 : Dev nD) : Fin 1 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_258 : BitVec 32 := 4#32
  let v304 : BitVec 32 := Scalar.muli v244 c4_i32_258
  let c3_i32_259 : BitVec 32 := 3#32
  let v305 : BitVec 32 := Scalar.addi v304 c3_i32_259
  ![v305.toNat]
def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off26 (d0 : Dev nD) : Fin 3 → Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_258 : BitVec 32 := 4#32
  let v304 : BitVec 32 := Scalar.muli v244 c4_i32_258
  let c3_i32_259 : BitVec 32 := 3#32
  let v305 : BitVec 32 := Scalar.addi v304 c3_i32_259
  let c0_i32_975 : BitVec 32 := 0#32
  let c0_i32_976 : BitVec 32 := 0#32
  ![v305.toNat, 0, 0]
def k0_dev35 (d0 : Dev nD) : Nat :=
  let c0_i32_973 : BitVec 32 := 0#32
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v243 : BitVec 32 := Scalar.addi c0_i32_227 v175
  let c8_i32_228 : BitVec 32 := 8#32
  let v244 : BitVec 32 := Scalar.remsi v243 c8_i32_228
  let c4_i32_258 : BitVec 32 := 4#32
  let v304 : BitVec 32 := Scalar.muli v244 c4_i32_258
  let c3_i32_259 : BitVec 32 := 3#32
  let v305 : BitVec 32 := Scalar.addi v304 c3_i32_259
  let c1_i32_972 : BitVec 32 := 1#32
  let v1566 : BitVec 32 := Scalar.muli v305 c1_i32_972
  let v1567 : BitVec 32 := Scalar.addi c0_i32_973 v1566
  v1567.toNat
def k0_cond9 (d0 : Dev nD) : BitVec 1 :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_276 : BitVec 32 := 4#32
  let v337 : BitVec 32 := Scalar.muli v319 c4_i32_276
  let c0_i32_277 : BitVec 32 := 0#32
  let v338 : BitVec 32 := Scalar.addi v337 c0_i32_277
  let v345 : BitVec 1 := Scalar.cmpi .eq v338 v2
  let v346 : BitVec 32 := Scalar.extui v345
  let c0_i32_280 : BitVec 32 := 0#32
  let v347 : BitVec 1 := Scalar.cmpi .ne v346 c0_i32_280
  v347

def k0_off27 (d0 : Dev nD) : Fin 3 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_276 : BitVec 32 := 4#32
  let v337 : BitVec 32 := Scalar.muli v319 c4_i32_276
  let c0_i32_277 : BitVec 32 := 0#32
  let v338 : BitVec 32 := Scalar.addi v337 c0_i32_277
  let v1565 : Index := Scalar.indexCast v338
  let c0_972 : Index := 0#32
  let c0_973 : Index := 0#32
  ![v1565.toNat, 0, 0]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond10 (d0 : Dev nD) : BitVec 1 :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_276 : BitVec 32 := 4#32
  let v337 : BitVec 32 := Scalar.muli v319 c4_i32_276
  let c0_i32_277 : BitVec 32 := 0#32
  let v338 : BitVec 32 := Scalar.addi v337 c0_i32_277
  let v348 : BitVec 1 := Scalar.cmpi .ne v338 v2
  let v349 : BitVec 32 := Scalar.extui v348
  let c0_i32_281 : BitVec 32 := 0#32
  let v350 : BitVec 1 := Scalar.cmpi .ne v349 c0_i32_281
  v350

def k0_off29 (d0 : Dev nD) : Fin 1 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_276 : BitVec 32 := 4#32
  let v337 : BitVec 32 := Scalar.muli v319 c4_i32_276
  let c0_i32_277 : BitVec 32 := 0#32
  let v338 : BitVec 32 := Scalar.addi v337 c0_i32_277
  ![v338.toNat]
def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off32 (d0 : Dev nD) : Fin 3 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_276 : BitVec 32 := 4#32
  let v337 : BitVec 32 := Scalar.muli v319 c4_i32_276
  let c0_i32_277 : BitVec 32 := 0#32
  let v338 : BitVec 32 := Scalar.addi v337 c0_i32_277
  let c0_i32_975 : BitVec 32 := 0#32
  let c0_i32_976 : BitVec 32 := 0#32
  ![v338.toNat, 0, 0]
def k0_dev36 (d0 : Dev nD) : Nat :=
  let c0_i32_973 : BitVec 32 := 0#32
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_276 : BitVec 32 := 4#32
  let v337 : BitVec 32 := Scalar.muli v319 c4_i32_276
  let c0_i32_277 : BitVec 32 := 0#32
  let v338 : BitVec 32 := Scalar.addi v337 c0_i32_277
  let c1_i32_972 : BitVec 32 := 1#32
  let v1566 : BitVec 32 := Scalar.muli v338 c1_i32_972
  let v1567 : BitVec 32 := Scalar.addi c0_i32_973 v1566
  v1567.toNat
def k0_cond11 (d0 : Dev nD) : BitVec 1 :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_282 : BitVec 32 := 4#32
  let v351 : BitVec 32 := Scalar.muli v319 c4_i32_282
  let c1_i32_283 : BitVec 32 := 1#32
  let v352 : BitVec 32 := Scalar.addi v351 c1_i32_283
  let v359 : BitVec 1 := Scalar.cmpi .eq v352 v2
  let v360 : BitVec 32 := Scalar.extui v359
  let c0_i32_286 : BitVec 32 := 0#32
  let v361 : BitVec 1 := Scalar.cmpi .ne v360 c0_i32_286
  v361

def k0_off33 (d0 : Dev nD) : Fin 3 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_282 : BitVec 32 := 4#32
  let v351 : BitVec 32 := Scalar.muli v319 c4_i32_282
  let c1_i32_283 : BitVec 32 := 1#32
  let v352 : BitVec 32 := Scalar.addi v351 c1_i32_283
  let v1565 : Index := Scalar.indexCast v352
  let c0_972 : Index := 0#32
  let c0_973 : Index := 0#32
  ![v1565.toNat, 0, 0]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond12 (d0 : Dev nD) : BitVec 1 :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_282 : BitVec 32 := 4#32
  let v351 : BitVec 32 := Scalar.muli v319 c4_i32_282
  let c1_i32_283 : BitVec 32 := 1#32
  let v352 : BitVec 32 := Scalar.addi v351 c1_i32_283
  let v362 : BitVec 1 := Scalar.cmpi .ne v352 v2
  let v363 : BitVec 32 := Scalar.extui v362
  let c0_i32_287 : BitVec 32 := 0#32
  let v364 : BitVec 1 := Scalar.cmpi .ne v363 c0_i32_287
  v364

def k0_off35 (d0 : Dev nD) : Fin 1 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_282 : BitVec 32 := 4#32
  let v351 : BitVec 32 := Scalar.muli v319 c4_i32_282
  let c1_i32_283 : BitVec 32 := 1#32
  let v352 : BitVec 32 := Scalar.addi v351 c1_i32_283
  ![v352.toNat]
def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off38 (d0 : Dev nD) : Fin 3 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_282 : BitVec 32 := 4#32
  let v351 : BitVec 32 := Scalar.muli v319 c4_i32_282
  let c1_i32_283 : BitVec 32 := 1#32
  let v352 : BitVec 32 := Scalar.addi v351 c1_i32_283
  let c0_i32_975 : BitVec 32 := 0#32
  let c0_i32_976 : BitVec 32 := 0#32
  ![v352.toNat, 0, 0]
def k0_dev37 (d0 : Dev nD) : Nat :=
  let c0_i32_973 : BitVec 32 := 0#32
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_282 : BitVec 32 := 4#32
  let v351 : BitVec 32 := Scalar.muli v319 c4_i32_282
  let c1_i32_283 : BitVec 32 := 1#32
  let v352 : BitVec 32 := Scalar.addi v351 c1_i32_283
  let c1_i32_972 : BitVec 32 := 1#32
  let v1566 : BitVec 32 := Scalar.muli v352 c1_i32_972
  let v1567 : BitVec 32 := Scalar.addi c0_i32_973 v1566
  v1567.toNat
def k0_cond13 (d0 : Dev nD) : BitVec 1 :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_288 : BitVec 32 := 4#32
  let v365 : BitVec 32 := Scalar.muli v319 c4_i32_288
  let c2_i32_289 : BitVec 32 := 2#32
  let v366 : BitVec 32 := Scalar.addi v365 c2_i32_289
  let v373 : BitVec 1 := Scalar.cmpi .eq v366 v2
  let v374 : BitVec 32 := Scalar.extui v373
  let c0_i32_292 : BitVec 32 := 0#32
  let v375 : BitVec 1 := Scalar.cmpi .ne v374 c0_i32_292
  v375

def k0_off39 (d0 : Dev nD) : Fin 3 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_288 : BitVec 32 := 4#32
  let v365 : BitVec 32 := Scalar.muli v319 c4_i32_288
  let c2_i32_289 : BitVec 32 := 2#32
  let v366 : BitVec 32 := Scalar.addi v365 c2_i32_289
  let v1565 : Index := Scalar.indexCast v366
  let c0_972 : Index := 0#32
  let c0_973 : Index := 0#32
  ![v1565.toNat, 0, 0]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond14 (d0 : Dev nD) : BitVec 1 :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_288 : BitVec 32 := 4#32
  let v365 : BitVec 32 := Scalar.muli v319 c4_i32_288
  let c2_i32_289 : BitVec 32 := 2#32
  let v366 : BitVec 32 := Scalar.addi v365 c2_i32_289
  let v376 : BitVec 1 := Scalar.cmpi .ne v366 v2
  let v377 : BitVec 32 := Scalar.extui v376
  let c0_i32_293 : BitVec 32 := 0#32
  let v378 : BitVec 1 := Scalar.cmpi .ne v377 c0_i32_293
  v378

def k0_off41 (d0 : Dev nD) : Fin 1 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_288 : BitVec 32 := 4#32
  let v365 : BitVec 32 := Scalar.muli v319 c4_i32_288
  let c2_i32_289 : BitVec 32 := 2#32
  let v366 : BitVec 32 := Scalar.addi v365 c2_i32_289
  ![v366.toNat]
def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off44 (d0 : Dev nD) : Fin 3 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_288 : BitVec 32 := 4#32
  let v365 : BitVec 32 := Scalar.muli v319 c4_i32_288
  let c2_i32_289 : BitVec 32 := 2#32
  let v366 : BitVec 32 := Scalar.addi v365 c2_i32_289
  let c0_i32_975 : BitVec 32 := 0#32
  let c0_i32_976 : BitVec 32 := 0#32
  ![v366.toNat, 0, 0]
def k0_dev38 (d0 : Dev nD) : Nat :=
  let c0_i32_973 : BitVec 32 := 0#32
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_288 : BitVec 32 := 4#32
  let v365 : BitVec 32 := Scalar.muli v319 c4_i32_288
  let c2_i32_289 : BitVec 32 := 2#32
  let v366 : BitVec 32 := Scalar.addi v365 c2_i32_289
  let c1_i32_972 : BitVec 32 := 1#32
  let v1566 : BitVec 32 := Scalar.muli v366 c1_i32_972
  let v1567 : BitVec 32 := Scalar.addi c0_i32_973 v1566
  v1567.toNat
def k0_cond15 (d0 : Dev nD) : BitVec 1 :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_294 : BitVec 32 := 4#32
  let v379 : BitVec 32 := Scalar.muli v319 c4_i32_294
  let c3_i32_295 : BitVec 32 := 3#32
  let v380 : BitVec 32 := Scalar.addi v379 c3_i32_295
  let v387 : BitVec 1 := Scalar.cmpi .eq v380 v2
  let v388 : BitVec 32 := Scalar.extui v387
  let c0_i32_298 : BitVec 32 := 0#32
  let v389 : BitVec 1 := Scalar.cmpi .ne v388 c0_i32_298
  v389

def k0_off45 (d0 : Dev nD) : Fin 3 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_294 : BitVec 32 := 4#32
  let v379 : BitVec 32 := Scalar.muli v319 c4_i32_294
  let c3_i32_295 : BitVec 32 := 3#32
  let v380 : BitVec 32 := Scalar.addi v379 c3_i32_295
  let v1565 : Index := Scalar.indexCast v380
  let c0_972 : Index := 0#32
  let c0_973 : Index := 0#32
  ![v1565.toNat, 0, 0]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond16 (d0 : Dev nD) : BitVec 1 :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_294 : BitVec 32 := 4#32
  let v379 : BitVec 32 := Scalar.muli v319 c4_i32_294
  let c3_i32_295 : BitVec 32 := 3#32
  let v380 : BitVec 32 := Scalar.addi v379 c3_i32_295
  let v390 : BitVec 1 := Scalar.cmpi .ne v380 v2
  let v391 : BitVec 32 := Scalar.extui v390
  let c0_i32_299 : BitVec 32 := 0#32
  let v392 : BitVec 1 := Scalar.cmpi .ne v391 c0_i32_299
  v392

def k0_off47 (d0 : Dev nD) : Fin 1 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_294 : BitVec 32 := 4#32
  let v379 : BitVec 32 := Scalar.muli v319 c4_i32_294
  let c3_i32_295 : BitVec 32 := 3#32
  let v380 : BitVec 32 := Scalar.addi v379 c3_i32_295
  ![v380.toNat]
def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off50 (d0 : Dev nD) : Fin 3 → Nat :=
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_294 : BitVec 32 := 4#32
  let v379 : BitVec 32 := Scalar.muli v319 c4_i32_294
  let c3_i32_295 : BitVec 32 := 3#32
  let v380 : BitVec 32 := Scalar.addi v379 c3_i32_295
  let c0_i32_975 : BitVec 32 := 0#32
  let c0_i32_976 : BitVec 32 := 0#32
  ![v380.toNat, 0, 0]
def k0_dev39 (d0 : Dev nD) : Nat :=
  let c0_i32_973 : BitVec 32 := 0#32
  let c1_i32_264 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v318 : BitVec 32 := Scalar.addi c1_i32_264 v175
  let c8_i32_265 : BitVec 32 := 8#32
  let v319 : BitVec 32 := Scalar.remsi v318 c8_i32_265
  let c4_i32_294 : BitVec 32 := 4#32
  let v379 : BitVec 32 := Scalar.muli v319 c4_i32_294
  let c3_i32_295 : BitVec 32 := 3#32
  let v380 : BitVec 32 := Scalar.addi v379 c3_i32_295
  let c1_i32_972 : BitVec 32 := 1#32
  let v1566 : BitVec 32 := Scalar.muli v380 c1_i32_972
  let v1567 : BitVec 32 := Scalar.addi c0_i32_973 v1566
  v1567.toNat
def k0_cond17 (d0 : Dev nD) : BitVec 1 :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_312 : BitVec 32 := 4#32
  let v412 : BitVec 32 := Scalar.muli v394 c4_i32_312
  let c0_i32_313 : BitVec 32 := 0#32
  let v413 : BitVec 32 := Scalar.addi v412 c0_i32_313
  let v420 : BitVec 1 := Scalar.cmpi .eq v413 v2
  let v421 : BitVec 32 := Scalar.extui v420
  let c0_i32_316 : BitVec 32 := 0#32
  let v422 : BitVec 1 := Scalar.cmpi .ne v421 c0_i32_316
  v422

def k0_off51 (d0 : Dev nD) : Fin 3 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_312 : BitVec 32 := 4#32
  let v412 : BitVec 32 := Scalar.muli v394 c4_i32_312
  let c0_i32_313 : BitVec 32 := 0#32
  let v413 : BitVec 32 := Scalar.addi v412 c0_i32_313
  let v1565 : Index := Scalar.indexCast v413
  let c0_972 : Index := 0#32
  let c0_973 : Index := 0#32
  ![v1565.toNat, 0, 0]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond18 (d0 : Dev nD) : BitVec 1 :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_312 : BitVec 32 := 4#32
  let v412 : BitVec 32 := Scalar.muli v394 c4_i32_312
  let c0_i32_313 : BitVec 32 := 0#32
  let v413 : BitVec 32 := Scalar.addi v412 c0_i32_313
  let v423 : BitVec 1 := Scalar.cmpi .ne v413 v2
  let v424 : BitVec 32 := Scalar.extui v423
  let c0_i32_317 : BitVec 32 := 0#32
  let v425 : BitVec 1 := Scalar.cmpi .ne v424 c0_i32_317
  v425

def k0_off53 (d0 : Dev nD) : Fin 1 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_312 : BitVec 32 := 4#32
  let v412 : BitVec 32 := Scalar.muli v394 c4_i32_312
  let c0_i32_313 : BitVec 32 := 0#32
  let v413 : BitVec 32 := Scalar.addi v412 c0_i32_313
  ![v413.toNat]
def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off56 (d0 : Dev nD) : Fin 3 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_312 : BitVec 32 := 4#32
  let v412 : BitVec 32 := Scalar.muli v394 c4_i32_312
  let c0_i32_313 : BitVec 32 := 0#32
  let v413 : BitVec 32 := Scalar.addi v412 c0_i32_313
  let c0_i32_975 : BitVec 32 := 0#32
  let c0_i32_976 : BitVec 32 := 0#32
  ![v413.toNat, 0, 0]
def k0_dev40 (d0 : Dev nD) : Nat :=
  let c0_i32_973 : BitVec 32 := 0#32
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_312 : BitVec 32 := 4#32
  let v412 : BitVec 32 := Scalar.muli v394 c4_i32_312
  let c0_i32_313 : BitVec 32 := 0#32
  let v413 : BitVec 32 := Scalar.addi v412 c0_i32_313
  let c1_i32_972 : BitVec 32 := 1#32
  let v1566 : BitVec 32 := Scalar.muli v413 c1_i32_972
  let v1567 : BitVec 32 := Scalar.addi c0_i32_973 v1566
  v1567.toNat
def k0_cond19 (d0 : Dev nD) : BitVec 1 :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_318 : BitVec 32 := 4#32
  let v426 : BitVec 32 := Scalar.muli v394 c4_i32_318
  let c1_i32_319 : BitVec 32 := 1#32
  let v427 : BitVec 32 := Scalar.addi v426 c1_i32_319
  let v434 : BitVec 1 := Scalar.cmpi .eq v427 v2
  let v435 : BitVec 32 := Scalar.extui v434
  let c0_i32_322 : BitVec 32 := 0#32
  let v436 : BitVec 1 := Scalar.cmpi .ne v435 c0_i32_322
  v436

def k0_off57 (d0 : Dev nD) : Fin 3 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_318 : BitVec 32 := 4#32
  let v426 : BitVec 32 := Scalar.muli v394 c4_i32_318
  let c1_i32_319 : BitVec 32 := 1#32
  let v427 : BitVec 32 := Scalar.addi v426 c1_i32_319
  let v1565 : Index := Scalar.indexCast v427
  let c0_972 : Index := 0#32
  let c0_973 : Index := 0#32
  ![v1565.toNat, 0, 0]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond20 (d0 : Dev nD) : BitVec 1 :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_318 : BitVec 32 := 4#32
  let v426 : BitVec 32 := Scalar.muli v394 c4_i32_318
  let c1_i32_319 : BitVec 32 := 1#32
  let v427 : BitVec 32 := Scalar.addi v426 c1_i32_319
  let v437 : BitVec 1 := Scalar.cmpi .ne v427 v2
  let v438 : BitVec 32 := Scalar.extui v437
  let c0_i32_323 : BitVec 32 := 0#32
  let v439 : BitVec 1 := Scalar.cmpi .ne v438 c0_i32_323
  v439

def k0_off59 (d0 : Dev nD) : Fin 1 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_318 : BitVec 32 := 4#32
  let v426 : BitVec 32 := Scalar.muli v394 c4_i32_318
  let c1_i32_319 : BitVec 32 := 1#32
  let v427 : BitVec 32 := Scalar.addi v426 c1_i32_319
  ![v427.toNat]
def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off62 (d0 : Dev nD) : Fin 3 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_318 : BitVec 32 := 4#32
  let v426 : BitVec 32 := Scalar.muli v394 c4_i32_318
  let c1_i32_319 : BitVec 32 := 1#32
  let v427 : BitVec 32 := Scalar.addi v426 c1_i32_319
  let c0_i32_975 : BitVec 32 := 0#32
  let c0_i32_976 : BitVec 32 := 0#32
  ![v427.toNat, 0, 0]
def k0_dev41 (d0 : Dev nD) : Nat :=
  let c0_i32_973 : BitVec 32 := 0#32
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_318 : BitVec 32 := 4#32
  let v426 : BitVec 32 := Scalar.muli v394 c4_i32_318
  let c1_i32_319 : BitVec 32 := 1#32
  let v427 : BitVec 32 := Scalar.addi v426 c1_i32_319
  let c1_i32_972 : BitVec 32 := 1#32
  let v1566 : BitVec 32 := Scalar.muli v427 c1_i32_972
  let v1567 : BitVec 32 := Scalar.addi c0_i32_973 v1566
  v1567.toNat
def k0_cond21 (d0 : Dev nD) : BitVec 1 :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_324 : BitVec 32 := 4#32
  let v440 : BitVec 32 := Scalar.muli v394 c4_i32_324
  let c2_i32_325 : BitVec 32 := 2#32
  let v441 : BitVec 32 := Scalar.addi v440 c2_i32_325
  let v448 : BitVec 1 := Scalar.cmpi .eq v441 v2
  let v449 : BitVec 32 := Scalar.extui v448
  let c0_i32_328 : BitVec 32 := 0#32
  let v450 : BitVec 1 := Scalar.cmpi .ne v449 c0_i32_328
  v450

def k0_off63 (d0 : Dev nD) : Fin 3 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_324 : BitVec 32 := 4#32
  let v440 : BitVec 32 := Scalar.muli v394 c4_i32_324
  let c2_i32_325 : BitVec 32 := 2#32
  let v441 : BitVec 32 := Scalar.addi v440 c2_i32_325
  let v1565 : Index := Scalar.indexCast v441
  let c0_972 : Index := 0#32
  let c0_973 : Index := 0#32
  ![v1565.toNat, 0, 0]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond22 (d0 : Dev nD) : BitVec 1 :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_324 : BitVec 32 := 4#32
  let v440 : BitVec 32 := Scalar.muli v394 c4_i32_324
  let c2_i32_325 : BitVec 32 := 2#32
  let v441 : BitVec 32 := Scalar.addi v440 c2_i32_325
  let v451 : BitVec 1 := Scalar.cmpi .ne v441 v2
  let v452 : BitVec 32 := Scalar.extui v451
  let c0_i32_329 : BitVec 32 := 0#32
  let v453 : BitVec 1 := Scalar.cmpi .ne v452 c0_i32_329
  v453

def k0_off65 (d0 : Dev nD) : Fin 1 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_324 : BitVec 32 := 4#32
  let v440 : BitVec 32 := Scalar.muli v394 c4_i32_324
  let c2_i32_325 : BitVec 32 := 2#32
  let v441 : BitVec 32 := Scalar.addi v440 c2_i32_325
  ![v441.toNat]
def k0_off66 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off68 (d0 : Dev nD) : Fin 3 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_324 : BitVec 32 := 4#32
  let v440 : BitVec 32 := Scalar.muli v394 c4_i32_324
  let c2_i32_325 : BitVec 32 := 2#32
  let v441 : BitVec 32 := Scalar.addi v440 c2_i32_325
  let c0_i32_975 : BitVec 32 := 0#32
  let c0_i32_976 : BitVec 32 := 0#32
  ![v441.toNat, 0, 0]
def k0_dev42 (d0 : Dev nD) : Nat :=
  let c0_i32_973 : BitVec 32 := 0#32
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_324 : BitVec 32 := 4#32
  let v440 : BitVec 32 := Scalar.muli v394 c4_i32_324
  let c2_i32_325 : BitVec 32 := 2#32
  let v441 : BitVec 32 := Scalar.addi v440 c2_i32_325
  let c1_i32_972 : BitVec 32 := 1#32
  let v1566 : BitVec 32 := Scalar.muli v441 c1_i32_972
  let v1567 : BitVec 32 := Scalar.addi c0_i32_973 v1566
  v1567.toNat
def k0_cond23 (d0 : Dev nD) : BitVec 1 :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_330 : BitVec 32 := 4#32
  let v454 : BitVec 32 := Scalar.muli v394 c4_i32_330
  let c3_i32_331 : BitVec 32 := 3#32
  let v455 : BitVec 32 := Scalar.addi v454 c3_i32_331
  let v462 : BitVec 1 := Scalar.cmpi .eq v455 v2
  let v463 : BitVec 32 := Scalar.extui v462
  let c0_i32_334 : BitVec 32 := 0#32
  let v464 : BitVec 1 := Scalar.cmpi .ne v463 c0_i32_334
  v464

def k0_off69 (d0 : Dev nD) : Fin 3 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_330 : BitVec 32 := 4#32
  let v454 : BitVec 32 := Scalar.muli v394 c4_i32_330
  let c3_i32_331 : BitVec 32 := 3#32
  let v455 : BitVec 32 := Scalar.addi v454 c3_i32_331
  let v1565 : Index := Scalar.indexCast v455
  let c0_972 : Index := 0#32
  let c0_973 : Index := 0#32
  ![v1565.toNat, 0, 0]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond24 (d0 : Dev nD) : BitVec 1 :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_330 : BitVec 32 := 4#32
  let v454 : BitVec 32 := Scalar.muli v394 c4_i32_330
  let c3_i32_331 : BitVec 32 := 3#32
  let v455 : BitVec 32 := Scalar.addi v454 c3_i32_331
  let v465 : BitVec 1 := Scalar.cmpi .ne v455 v2
  let v466 : BitVec 32 := Scalar.extui v465
  let c0_i32_335 : BitVec 32 := 0#32
  let v467 : BitVec 1 := Scalar.cmpi .ne v466 c0_i32_335
  v467

def k0_off71 (d0 : Dev nD) : Fin 1 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_330 : BitVec 32 := 4#32
  let v454 : BitVec 32 := Scalar.muli v394 c4_i32_330
  let c3_i32_331 : BitVec 32 := 3#32
  let v455 : BitVec 32 := Scalar.addi v454 c3_i32_331
  ![v455.toNat]
def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off74 (d0 : Dev nD) : Fin 3 → Nat :=
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_330 : BitVec 32 := 4#32
  let v454 : BitVec 32 := Scalar.muli v394 c4_i32_330
  let c3_i32_331 : BitVec 32 := 3#32
  let v455 : BitVec 32 := Scalar.addi v454 c3_i32_331
  let c0_i32_975 : BitVec 32 := 0#32
  let c0_i32_976 : BitVec 32 := 0#32
  ![v455.toNat, 0, 0]
def k0_dev43 (d0 : Dev nD) : Nat :=
  let c0_i32_973 : BitVec 32 := 0#32
  let c2_i32_300 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v393 : BitVec 32 := Scalar.addi c2_i32_300 v175
  let c8_i32_301 : BitVec 32 := 8#32
  let v394 : BitVec 32 := Scalar.remsi v393 c8_i32_301
  let c4_i32_330 : BitVec 32 := 4#32
  let v454 : BitVec 32 := Scalar.muli v394 c4_i32_330
  let c3_i32_331 : BitVec 32 := 3#32
  let v455 : BitVec 32 := Scalar.addi v454 c3_i32_331
  let c1_i32_972 : BitVec 32 := 1#32
  let v1566 : BitVec 32 := Scalar.muli v455 c1_i32_972
  let v1567 : BitVec 32 := Scalar.addi c0_i32_973 v1566
  v1567.toNat
def k0_cond25 (d0 : Dev nD) : BitVec 1 :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_348 : BitVec 32 := 4#32
  let v487 : BitVec 32 := Scalar.muli v469 c4_i32_348
  let c0_i32_349 : BitVec 32 := 0#32
  let v488 : BitVec 32 := Scalar.addi v487 c0_i32_349
  let v495 : BitVec 1 := Scalar.cmpi .eq v488 v2
  let v496 : BitVec 32 := Scalar.extui v495
  let c0_i32_352 : BitVec 32 := 0#32
  let v497 : BitVec 1 := Scalar.cmpi .ne v496 c0_i32_352
  v497

def k0_off75 (d0 : Dev nD) : Fin 3 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_348 : BitVec 32 := 4#32
  let v487 : BitVec 32 := Scalar.muli v469 c4_i32_348
  let c0_i32_349 : BitVec 32 := 0#32
  let v488 : BitVec 32 := Scalar.addi v487 c0_i32_349
  let v1565 : Index := Scalar.indexCast v488
  let c0_972 : Index := 0#32
  let c0_973 : Index := 0#32
  ![v1565.toNat, 0, 0]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond26 (d0 : Dev nD) : BitVec 1 :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_348 : BitVec 32 := 4#32
  let v487 : BitVec 32 := Scalar.muli v469 c4_i32_348
  let c0_i32_349 : BitVec 32 := 0#32
  let v488 : BitVec 32 := Scalar.addi v487 c0_i32_349
  let v498 : BitVec 1 := Scalar.cmpi .ne v488 v2
  let v499 : BitVec 32 := Scalar.extui v498
  let c0_i32_353 : BitVec 32 := 0#32
  let v500 : BitVec 1 := Scalar.cmpi .ne v499 c0_i32_353
  v500

def k0_off77 (d0 : Dev nD) : Fin 1 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_348 : BitVec 32 := 4#32
  let v487 : BitVec 32 := Scalar.muli v469 c4_i32_348
  let c0_i32_349 : BitVec 32 := 0#32
  let v488 : BitVec 32 := Scalar.addi v487 c0_i32_349
  ![v488.toNat]
def k0_off78 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off80 (d0 : Dev nD) : Fin 3 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_348 : BitVec 32 := 4#32
  let v487 : BitVec 32 := Scalar.muli v469 c4_i32_348
  let c0_i32_349 : BitVec 32 := 0#32
  let v488 : BitVec 32 := Scalar.addi v487 c0_i32_349
  let c0_i32_975 : BitVec 32 := 0#32
  let c0_i32_976 : BitVec 32 := 0#32
  ![v488.toNat, 0, 0]
def k0_dev44 (d0 : Dev nD) : Nat :=
  let c0_i32_973 : BitVec 32 := 0#32
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_348 : BitVec 32 := 4#32
  let v487 : BitVec 32 := Scalar.muli v469 c4_i32_348
  let c0_i32_349 : BitVec 32 := 0#32
  let v488 : BitVec 32 := Scalar.addi v487 c0_i32_349
  let c1_i32_972 : BitVec 32 := 1#32
  let v1566 : BitVec 32 := Scalar.muli v488 c1_i32_972
  let v1567 : BitVec 32 := Scalar.addi c0_i32_973 v1566
  v1567.toNat
def k0_cond27 (d0 : Dev nD) : BitVec 1 :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_354 : BitVec 32 := 4#32
  let v501 : BitVec 32 := Scalar.muli v469 c4_i32_354
  let c1_i32_355 : BitVec 32 := 1#32
  let v502 : BitVec 32 := Scalar.addi v501 c1_i32_355
  let v509 : BitVec 1 := Scalar.cmpi .eq v502 v2
  let v510 : BitVec 32 := Scalar.extui v509
  let c0_i32_358 : BitVec 32 := 0#32
  let v511 : BitVec 1 := Scalar.cmpi .ne v510 c0_i32_358
  v511

def k0_off81 (d0 : Dev nD) : Fin 3 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_354 : BitVec 32 := 4#32
  let v501 : BitVec 32 := Scalar.muli v469 c4_i32_354
  let c1_i32_355 : BitVec 32 := 1#32
  let v502 : BitVec 32 := Scalar.addi v501 c1_i32_355
  let v1565 : Index := Scalar.indexCast v502
  let c0_972 : Index := 0#32
  let c0_973 : Index := 0#32
  ![v1565.toNat, 0, 0]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond28 (d0 : Dev nD) : BitVec 1 :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_354 : BitVec 32 := 4#32
  let v501 : BitVec 32 := Scalar.muli v469 c4_i32_354
  let c1_i32_355 : BitVec 32 := 1#32
  let v502 : BitVec 32 := Scalar.addi v501 c1_i32_355
  let v512 : BitVec 1 := Scalar.cmpi .ne v502 v2
  let v513 : BitVec 32 := Scalar.extui v512
  let c0_i32_359 : BitVec 32 := 0#32
  let v514 : BitVec 1 := Scalar.cmpi .ne v513 c0_i32_359
  v514

def k0_off83 (d0 : Dev nD) : Fin 1 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_354 : BitVec 32 := 4#32
  let v501 : BitVec 32 := Scalar.muli v469 c4_i32_354
  let c1_i32_355 : BitVec 32 := 1#32
  let v502 : BitVec 32 := Scalar.addi v501 c1_i32_355
  ![v502.toNat]
def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off86 (d0 : Dev nD) : Fin 3 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_354 : BitVec 32 := 4#32
  let v501 : BitVec 32 := Scalar.muli v469 c4_i32_354
  let c1_i32_355 : BitVec 32 := 1#32
  let v502 : BitVec 32 := Scalar.addi v501 c1_i32_355
  let c0_i32_975 : BitVec 32 := 0#32
  let c0_i32_976 : BitVec 32 := 0#32
  ![v502.toNat, 0, 0]
def k0_dev45 (d0 : Dev nD) : Nat :=
  let c0_i32_973 : BitVec 32 := 0#32
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_354 : BitVec 32 := 4#32
  let v501 : BitVec 32 := Scalar.muli v469 c4_i32_354
  let c1_i32_355 : BitVec 32 := 1#32
  let v502 : BitVec 32 := Scalar.addi v501 c1_i32_355
  let c1_i32_972 : BitVec 32 := 1#32
  let v1566 : BitVec 32 := Scalar.muli v502 c1_i32_972
  let v1567 : BitVec 32 := Scalar.addi c0_i32_973 v1566
  v1567.toNat
def k0_cond29 (d0 : Dev nD) : BitVec 1 :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_360 : BitVec 32 := 4#32
  let v515 : BitVec 32 := Scalar.muli v469 c4_i32_360
  let c2_i32_361 : BitVec 32 := 2#32
  let v516 : BitVec 32 := Scalar.addi v515 c2_i32_361
  let v523 : BitVec 1 := Scalar.cmpi .eq v516 v2
  let v524 : BitVec 32 := Scalar.extui v523
  let c0_i32_364 : BitVec 32 := 0#32
  let v525 : BitVec 1 := Scalar.cmpi .ne v524 c0_i32_364
  v525

def k0_off87 (d0 : Dev nD) : Fin 3 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_360 : BitVec 32 := 4#32
  let v515 : BitVec 32 := Scalar.muli v469 c4_i32_360
  let c2_i32_361 : BitVec 32 := 2#32
  let v516 : BitVec 32 := Scalar.addi v515 c2_i32_361
  let v1565 : Index := Scalar.indexCast v516
  let c0_972 : Index := 0#32
  let c0_973 : Index := 0#32
  ![v1565.toNat, 0, 0]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond30 (d0 : Dev nD) : BitVec 1 :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_360 : BitVec 32 := 4#32
  let v515 : BitVec 32 := Scalar.muli v469 c4_i32_360
  let c2_i32_361 : BitVec 32 := 2#32
  let v516 : BitVec 32 := Scalar.addi v515 c2_i32_361
  let v526 : BitVec 1 := Scalar.cmpi .ne v516 v2
  let v527 : BitVec 32 := Scalar.extui v526
  let c0_i32_365 : BitVec 32 := 0#32
  let v528 : BitVec 1 := Scalar.cmpi .ne v527 c0_i32_365
  v528

def k0_off89 (d0 : Dev nD) : Fin 1 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_360 : BitVec 32 := 4#32
  let v515 : BitVec 32 := Scalar.muli v469 c4_i32_360
  let c2_i32_361 : BitVec 32 := 2#32
  let v516 : BitVec 32 := Scalar.addi v515 c2_i32_361
  ![v516.toNat]
def k0_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off92 (d0 : Dev nD) : Fin 3 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_360 : BitVec 32 := 4#32
  let v515 : BitVec 32 := Scalar.muli v469 c4_i32_360
  let c2_i32_361 : BitVec 32 := 2#32
  let v516 : BitVec 32 := Scalar.addi v515 c2_i32_361
  let c0_i32_975 : BitVec 32 := 0#32
  let c0_i32_976 : BitVec 32 := 0#32
  ![v516.toNat, 0, 0]
def k0_dev46 (d0 : Dev nD) : Nat :=
  let c0_i32_973 : BitVec 32 := 0#32
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_360 : BitVec 32 := 4#32
  let v515 : BitVec 32 := Scalar.muli v469 c4_i32_360
  let c2_i32_361 : BitVec 32 := 2#32
  let v516 : BitVec 32 := Scalar.addi v515 c2_i32_361
  let c1_i32_972 : BitVec 32 := 1#32
  let v1566 : BitVec 32 := Scalar.muli v516 c1_i32_972
  let v1567 : BitVec 32 := Scalar.addi c0_i32_973 v1566
  v1567.toNat
def k0_cond31 (d0 : Dev nD) : BitVec 1 :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_366 : BitVec 32 := 4#32
  let v529 : BitVec 32 := Scalar.muli v469 c4_i32_366
  let c3_i32_367 : BitVec 32 := 3#32
  let v530 : BitVec 32 := Scalar.addi v529 c3_i32_367
  let v537 : BitVec 1 := Scalar.cmpi .eq v530 v2
  let v538 : BitVec 32 := Scalar.extui v537
  let c0_i32_370 : BitVec 32 := 0#32
  let v539 : BitVec 1 := Scalar.cmpi .ne v538 c0_i32_370
  v539

def k0_off93 (d0 : Dev nD) : Fin 3 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_366 : BitVec 32 := 4#32
  let v529 : BitVec 32 := Scalar.muli v469 c4_i32_366
  let c3_i32_367 : BitVec 32 := 3#32
  let v530 : BitVec 32 := Scalar.addi v529 c3_i32_367
  let v1565 : Index := Scalar.indexCast v530
  let c0_972 : Index := 0#32
  let c0_973 : Index := 0#32
  ![v1565.toNat, 0, 0]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond32 (d0 : Dev nD) : BitVec 1 :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_366 : BitVec 32 := 4#32
  let v529 : BitVec 32 := Scalar.muli v469 c4_i32_366
  let c3_i32_367 : BitVec 32 := 3#32
  let v530 : BitVec 32 := Scalar.addi v529 c3_i32_367
  let v540 : BitVec 1 := Scalar.cmpi .ne v530 v2
  let v541 : BitVec 32 := Scalar.extui v540
  let c0_i32_371 : BitVec 32 := 0#32
  let v542 : BitVec 1 := Scalar.cmpi .ne v541 c0_i32_371
  v542

def k0_off95 (d0 : Dev nD) : Fin 1 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_366 : BitVec 32 := 4#32
  let v529 : BitVec 32 := Scalar.muli v469 c4_i32_366
  let c3_i32_367 : BitVec 32 := 3#32
  let v530 : BitVec 32 := Scalar.addi v529 c3_i32_367
  ![v530.toNat]
def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off98 (d0 : Dev nD) : Fin 3 → Nat :=
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_366 : BitVec 32 := 4#32
  let v529 : BitVec 32 := Scalar.muli v469 c4_i32_366
  let c3_i32_367 : BitVec 32 := 3#32
  let v530 : BitVec 32 := Scalar.addi v529 c3_i32_367
  let c0_i32_975 : BitVec 32 := 0#32
  let c0_i32_976 : BitVec 32 := 0#32
  ![v530.toNat, 0, 0]
def k0_dev47 (d0 : Dev nD) : Nat :=
  let c0_i32_973 : BitVec 32 := 0#32
  let c3_i32_336 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v468 : BitVec 32 := Scalar.addi c3_i32_336 v175
  let c8_i32_337 : BitVec 32 := 8#32
  let v469 : BitVec 32 := Scalar.remsi v468 c8_i32_337
  let c4_i32_366 : BitVec 32 := 4#32
  let v529 : BitVec 32 := Scalar.muli v469 c4_i32_366
  let c3_i32_367 : BitVec 32 := 3#32
  let v530 : BitVec 32 := Scalar.addi v529 c3_i32_367
  let c1_i32_972 : BitVec 32 := 1#32
  let v1566 : BitVec 32 := Scalar.muli v530 c1_i32_972
  let v1567 : BitVec 32 := Scalar.addi c0_i32_973 v1566
  v1567.toNat
def k0_cond33 (d0 : Dev nD) : BitVec 1 :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_384 : BitVec 32 := 4#32
  let v562 : BitVec 32 := Scalar.muli v544 c4_i32_384
  let c0_i32_385 : BitVec 32 := 0#32
  let v563 : BitVec 32 := Scalar.addi v562 c0_i32_385
  let v570 : BitVec 1 := Scalar.cmpi .eq v563 v2
  let v571 : BitVec 32 := Scalar.extui v570
  let c0_i32_388 : BitVec 32 := 0#32
  let v572 : BitVec 1 := Scalar.cmpi .ne v571 c0_i32_388
  v572

def k0_off99 (d0 : Dev nD) : Fin 3 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_384 : BitVec 32 := 4#32
  let v562 : BitVec 32 := Scalar.muli v544 c4_i32_384
  let c0_i32_385 : BitVec 32 := 0#32
  let v563 : BitVec 32 := Scalar.addi v562 c0_i32_385
  let v1565 : Index := Scalar.indexCast v563
  let c0_972 : Index := 0#32
  let c0_973 : Index := 0#32
  ![v1565.toNat, 0, 0]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond34 (d0 : Dev nD) : BitVec 1 :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_384 : BitVec 32 := 4#32
  let v562 : BitVec 32 := Scalar.muli v544 c4_i32_384
  let c0_i32_385 : BitVec 32 := 0#32
  let v563 : BitVec 32 := Scalar.addi v562 c0_i32_385
  let v573 : BitVec 1 := Scalar.cmpi .ne v563 v2
  let v574 : BitVec 32 := Scalar.extui v573
  let c0_i32_389 : BitVec 32 := 0#32
  let v575 : BitVec 1 := Scalar.cmpi .ne v574 c0_i32_389
  v575

def k0_off101 (d0 : Dev nD) : Fin 1 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_384 : BitVec 32 := 4#32
  let v562 : BitVec 32 := Scalar.muli v544 c4_i32_384
  let c0_i32_385 : BitVec 32 := 0#32
  let v563 : BitVec 32 := Scalar.addi v562 c0_i32_385
  ![v563.toNat]
def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off104 (d0 : Dev nD) : Fin 3 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_384 : BitVec 32 := 4#32
  let v562 : BitVec 32 := Scalar.muli v544 c4_i32_384
  let c0_i32_385 : BitVec 32 := 0#32
  let v563 : BitVec 32 := Scalar.addi v562 c0_i32_385
  let c0_i32_975 : BitVec 32 := 0#32
  let c0_i32_976 : BitVec 32 := 0#32
  ![v563.toNat, 0, 0]
def k0_dev48 (d0 : Dev nD) : Nat :=
  let c0_i32_973 : BitVec 32 := 0#32
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_384 : BitVec 32 := 4#32
  let v562 : BitVec 32 := Scalar.muli v544 c4_i32_384
  let c0_i32_385 : BitVec 32 := 0#32
  let v563 : BitVec 32 := Scalar.addi v562 c0_i32_385
  let c1_i32_972 : BitVec 32 := 1#32
  let v1566 : BitVec 32 := Scalar.muli v563 c1_i32_972
  let v1567 : BitVec 32 := Scalar.addi c0_i32_973 v1566
  v1567.toNat
def k0_cond35 (d0 : Dev nD) : BitVec 1 :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_390 : BitVec 32 := 4#32
  let v576 : BitVec 32 := Scalar.muli v544 c4_i32_390
  let c1_i32_391 : BitVec 32 := 1#32
  let v577 : BitVec 32 := Scalar.addi v576 c1_i32_391
  let v584 : BitVec 1 := Scalar.cmpi .eq v577 v2
  let v585 : BitVec 32 := Scalar.extui v584
  let c0_i32_394 : BitVec 32 := 0#32
  let v586 : BitVec 1 := Scalar.cmpi .ne v585 c0_i32_394
  v586

def k0_off105 (d0 : Dev nD) : Fin 3 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_390 : BitVec 32 := 4#32
  let v576 : BitVec 32 := Scalar.muli v544 c4_i32_390
  let c1_i32_391 : BitVec 32 := 1#32
  let v577 : BitVec 32 := Scalar.addi v576 c1_i32_391
  let v1565 : Index := Scalar.indexCast v577
  let c0_972 : Index := 0#32
  let c0_973 : Index := 0#32
  ![v1565.toNat, 0, 0]
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond36 (d0 : Dev nD) : BitVec 1 :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_390 : BitVec 32 := 4#32
  let v576 : BitVec 32 := Scalar.muli v544 c4_i32_390
  let c1_i32_391 : BitVec 32 := 1#32
  let v577 : BitVec 32 := Scalar.addi v576 c1_i32_391
  let v587 : BitVec 1 := Scalar.cmpi .ne v577 v2
  let v588 : BitVec 32 := Scalar.extui v587
  let c0_i32_395 : BitVec 32 := 0#32
  let v589 : BitVec 1 := Scalar.cmpi .ne v588 c0_i32_395
  v589

def k0_off107 (d0 : Dev nD) : Fin 1 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_390 : BitVec 32 := 4#32
  let v576 : BitVec 32 := Scalar.muli v544 c4_i32_390
  let c1_i32_391 : BitVec 32 := 1#32
  let v577 : BitVec 32 := Scalar.addi v576 c1_i32_391
  ![v577.toNat]
def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off110 (d0 : Dev nD) : Fin 3 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_390 : BitVec 32 := 4#32
  let v576 : BitVec 32 := Scalar.muli v544 c4_i32_390
  let c1_i32_391 : BitVec 32 := 1#32
  let v577 : BitVec 32 := Scalar.addi v576 c1_i32_391
  let c0_i32_975 : BitVec 32 := 0#32
  let c0_i32_976 : BitVec 32 := 0#32
  ![v577.toNat, 0, 0]
def k0_dev49 (d0 : Dev nD) : Nat :=
  let c0_i32_973 : BitVec 32 := 0#32
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_390 : BitVec 32 := 4#32
  let v576 : BitVec 32 := Scalar.muli v544 c4_i32_390
  let c1_i32_391 : BitVec 32 := 1#32
  let v577 : BitVec 32 := Scalar.addi v576 c1_i32_391
  let c1_i32_972 : BitVec 32 := 1#32
  let v1566 : BitVec 32 := Scalar.muli v577 c1_i32_972
  let v1567 : BitVec 32 := Scalar.addi c0_i32_973 v1566
  v1567.toNat
def k0_cond37 (d0 : Dev nD) : BitVec 1 :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_396 : BitVec 32 := 4#32
  let v590 : BitVec 32 := Scalar.muli v544 c4_i32_396
  let c2_i32_397 : BitVec 32 := 2#32
  let v591 : BitVec 32 := Scalar.addi v590 c2_i32_397
  let v598 : BitVec 1 := Scalar.cmpi .eq v591 v2
  let v599 : BitVec 32 := Scalar.extui v598
  let c0_i32_400 : BitVec 32 := 0#32
  let v600 : BitVec 1 := Scalar.cmpi .ne v599 c0_i32_400
  v600

def k0_off111 (d0 : Dev nD) : Fin 3 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_396 : BitVec 32 := 4#32
  let v590 : BitVec 32 := Scalar.muli v544 c4_i32_396
  let c2_i32_397 : BitVec 32 := 2#32
  let v591 : BitVec 32 := Scalar.addi v590 c2_i32_397
  let v1565 : Index := Scalar.indexCast v591
  let c0_972 : Index := 0#32
  let c0_973 : Index := 0#32
  ![v1565.toNat, 0, 0]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond38 (d0 : Dev nD) : BitVec 1 :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_396 : BitVec 32 := 4#32
  let v590 : BitVec 32 := Scalar.muli v544 c4_i32_396
  let c2_i32_397 : BitVec 32 := 2#32
  let v591 : BitVec 32 := Scalar.addi v590 c2_i32_397
  let v601 : BitVec 1 := Scalar.cmpi .ne v591 v2
  let v602 : BitVec 32 := Scalar.extui v601
  let c0_i32_401 : BitVec 32 := 0#32
  let v603 : BitVec 1 := Scalar.cmpi .ne v602 c0_i32_401
  v603

def k0_off113 (d0 : Dev nD) : Fin 1 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_396 : BitVec 32 := 4#32
  let v590 : BitVec 32 := Scalar.muli v544 c4_i32_396
  let c2_i32_397 : BitVec 32 := 2#32
  let v591 : BitVec 32 := Scalar.addi v590 c2_i32_397
  ![v591.toNat]
def k0_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off116 (d0 : Dev nD) : Fin 3 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_396 : BitVec 32 := 4#32
  let v590 : BitVec 32 := Scalar.muli v544 c4_i32_396
  let c2_i32_397 : BitVec 32 := 2#32
  let v591 : BitVec 32 := Scalar.addi v590 c2_i32_397
  let c0_i32_975 : BitVec 32 := 0#32
  let c0_i32_976 : BitVec 32 := 0#32
  ![v591.toNat, 0, 0]
def k0_dev50 (d0 : Dev nD) : Nat :=
  let c0_i32_973 : BitVec 32 := 0#32
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_396 : BitVec 32 := 4#32
  let v590 : BitVec 32 := Scalar.muli v544 c4_i32_396
  let c2_i32_397 : BitVec 32 := 2#32
  let v591 : BitVec 32 := Scalar.addi v590 c2_i32_397
  let c1_i32_972 : BitVec 32 := 1#32
  let v1566 : BitVec 32 := Scalar.muli v591 c1_i32_972
  let v1567 : BitVec 32 := Scalar.addi c0_i32_973 v1566
  v1567.toNat
def k0_cond39 (d0 : Dev nD) : BitVec 1 :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_402 : BitVec 32 := 4#32
  let v604 : BitVec 32 := Scalar.muli v544 c4_i32_402
  let c3_i32_403 : BitVec 32 := 3#32
  let v605 : BitVec 32 := Scalar.addi v604 c3_i32_403
  let v612 : BitVec 1 := Scalar.cmpi .eq v605 v2
  let v613 : BitVec 32 := Scalar.extui v612
  let c0_i32_406 : BitVec 32 := 0#32
  let v614 : BitVec 1 := Scalar.cmpi .ne v613 c0_i32_406
  v614

def k0_off117 (d0 : Dev nD) : Fin 3 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_402 : BitVec 32 := 4#32
  let v604 : BitVec 32 := Scalar.muli v544 c4_i32_402
  let c3_i32_403 : BitVec 32 := 3#32
  let v605 : BitVec 32 := Scalar.addi v604 c3_i32_403
  let v1565 : Index := Scalar.indexCast v605
  let c0_972 : Index := 0#32
  let c0_973 : Index := 0#32
  ![v1565.toNat, 0, 0]
def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond40 (d0 : Dev nD) : BitVec 1 :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_402 : BitVec 32 := 4#32
  let v604 : BitVec 32 := Scalar.muli v544 c4_i32_402
  let c3_i32_403 : BitVec 32 := 3#32
  let v605 : BitVec 32 := Scalar.addi v604 c3_i32_403
  let v615 : BitVec 1 := Scalar.cmpi .ne v605 v2
  let v616 : BitVec 32 := Scalar.extui v615
  let c0_i32_407 : BitVec 32 := 0#32
  let v617 : BitVec 1 := Scalar.cmpi .ne v616 c0_i32_407
  v617

def k0_off119 (d0 : Dev nD) : Fin 1 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_402 : BitVec 32 := 4#32
  let v604 : BitVec 32 := Scalar.muli v544 c4_i32_402
  let c3_i32_403 : BitVec 32 := 3#32
  let v605 : BitVec 32 := Scalar.addi v604 c3_i32_403
  ![v605.toNat]
def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off122 (d0 : Dev nD) : Fin 3 → Nat :=
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_402 : BitVec 32 := 4#32
  let v604 : BitVec 32 := Scalar.muli v544 c4_i32_402
  let c3_i32_403 : BitVec 32 := 3#32
  let v605 : BitVec 32 := Scalar.addi v604 c3_i32_403
  let c0_i32_975 : BitVec 32 := 0#32
  let c0_i32_976 : BitVec 32 := 0#32
  ![v605.toNat, 0, 0]
def k0_dev51 (d0 : Dev nD) : Nat :=
  let c0_i32_973 : BitVec 32 := 0#32
  let c4_i32_372 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v543 : BitVec 32 := Scalar.addi c4_i32_372 v175
  let c8_i32_373 : BitVec 32 := 8#32
  let v544 : BitVec 32 := Scalar.remsi v543 c8_i32_373
  let c4_i32_402 : BitVec 32 := 4#32
  let v604 : BitVec 32 := Scalar.muli v544 c4_i32_402
  let c3_i32_403 : BitVec 32 := 3#32
  let v605 : BitVec 32 := Scalar.addi v604 c3_i32_403
  let c1_i32_972 : BitVec 32 := 1#32
  let v1566 : BitVec 32 := Scalar.muli v605 c1_i32_972
  let v1567 : BitVec 32 := Scalar.addi c0_i32_973 v1566
  v1567.toNat
def k0_cond41 (d0 : Dev nD) : BitVec 1 :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_420 : BitVec 32 := 4#32
  let v637 : BitVec 32 := Scalar.muli v619 c4_i32_420
  let c0_i32_421 : BitVec 32 := 0#32
  let v638 : BitVec 32 := Scalar.addi v637 c0_i32_421
  let v645 : BitVec 1 := Scalar.cmpi .eq v638 v2
  let v646 : BitVec 32 := Scalar.extui v645
  let c0_i32_424 : BitVec 32 := 0#32
  let v647 : BitVec 1 := Scalar.cmpi .ne v646 c0_i32_424
  v647

def k0_off123 (d0 : Dev nD) : Fin 3 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_420 : BitVec 32 := 4#32
  let v637 : BitVec 32 := Scalar.muli v619 c4_i32_420
  let c0_i32_421 : BitVec 32 := 0#32
  let v638 : BitVec 32 := Scalar.addi v637 c0_i32_421
  let v1565 : Index := Scalar.indexCast v638
  let c0_972 : Index := 0#32
  let c0_973 : Index := 0#32
  ![v1565.toNat, 0, 0]
def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond42 (d0 : Dev nD) : BitVec 1 :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_420 : BitVec 32 := 4#32
  let v637 : BitVec 32 := Scalar.muli v619 c4_i32_420
  let c0_i32_421 : BitVec 32 := 0#32
  let v638 : BitVec 32 := Scalar.addi v637 c0_i32_421
  let v648 : BitVec 1 := Scalar.cmpi .ne v638 v2
  let v649 : BitVec 32 := Scalar.extui v648
  let c0_i32_425 : BitVec 32 := 0#32
  let v650 : BitVec 1 := Scalar.cmpi .ne v649 c0_i32_425
  v650

def k0_off125 (d0 : Dev nD) : Fin 1 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_420 : BitVec 32 := 4#32
  let v637 : BitVec 32 := Scalar.muli v619 c4_i32_420
  let c0_i32_421 : BitVec 32 := 0#32
  let v638 : BitVec 32 := Scalar.addi v637 c0_i32_421
  ![v638.toNat]
def k0_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off128 (d0 : Dev nD) : Fin 3 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_420 : BitVec 32 := 4#32
  let v637 : BitVec 32 := Scalar.muli v619 c4_i32_420
  let c0_i32_421 : BitVec 32 := 0#32
  let v638 : BitVec 32 := Scalar.addi v637 c0_i32_421
  let c0_i32_975 : BitVec 32 := 0#32
  let c0_i32_976 : BitVec 32 := 0#32
  ![v638.toNat, 0, 0]
def k0_dev52 (d0 : Dev nD) : Nat :=
  let c0_i32_973 : BitVec 32 := 0#32
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_420 : BitVec 32 := 4#32
  let v637 : BitVec 32 := Scalar.muli v619 c4_i32_420
  let c0_i32_421 : BitVec 32 := 0#32
  let v638 : BitVec 32 := Scalar.addi v637 c0_i32_421
  let c1_i32_972 : BitVec 32 := 1#32
  let v1566 : BitVec 32 := Scalar.muli v638 c1_i32_972
  let v1567 : BitVec 32 := Scalar.addi c0_i32_973 v1566
  v1567.toNat
def k0_cond43 (d0 : Dev nD) : BitVec 1 :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_426 : BitVec 32 := 4#32
  let v651 : BitVec 32 := Scalar.muli v619 c4_i32_426
  let c1_i32_427 : BitVec 32 := 1#32
  let v652 : BitVec 32 := Scalar.addi v651 c1_i32_427
  let v659 : BitVec 1 := Scalar.cmpi .eq v652 v2
  let v660 : BitVec 32 := Scalar.extui v659
  let c0_i32_430 : BitVec 32 := 0#32
  let v661 : BitVec 1 := Scalar.cmpi .ne v660 c0_i32_430
  v661

def k0_off129 (d0 : Dev nD) : Fin 3 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_426 : BitVec 32 := 4#32
  let v651 : BitVec 32 := Scalar.muli v619 c4_i32_426
  let c1_i32_427 : BitVec 32 := 1#32
  let v652 : BitVec 32 := Scalar.addi v651 c1_i32_427
  let v1565 : Index := Scalar.indexCast v652
  let c0_972 : Index := 0#32
  let c0_973 : Index := 0#32
  ![v1565.toNat, 0, 0]
def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond44 (d0 : Dev nD) : BitVec 1 :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_426 : BitVec 32 := 4#32
  let v651 : BitVec 32 := Scalar.muli v619 c4_i32_426
  let c1_i32_427 : BitVec 32 := 1#32
  let v652 : BitVec 32 := Scalar.addi v651 c1_i32_427
  let v662 : BitVec 1 := Scalar.cmpi .ne v652 v2
  let v663 : BitVec 32 := Scalar.extui v662
  let c0_i32_431 : BitVec 32 := 0#32
  let v664 : BitVec 1 := Scalar.cmpi .ne v663 c0_i32_431
  v664

def k0_off131 (d0 : Dev nD) : Fin 1 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_426 : BitVec 32 := 4#32
  let v651 : BitVec 32 := Scalar.muli v619 c4_i32_426
  let c1_i32_427 : BitVec 32 := 1#32
  let v652 : BitVec 32 := Scalar.addi v651 c1_i32_427
  ![v652.toNat]
def k0_off132 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off134 (d0 : Dev nD) : Fin 3 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_426 : BitVec 32 := 4#32
  let v651 : BitVec 32 := Scalar.muli v619 c4_i32_426
  let c1_i32_427 : BitVec 32 := 1#32
  let v652 : BitVec 32 := Scalar.addi v651 c1_i32_427
  let c0_i32_975 : BitVec 32 := 0#32
  let c0_i32_976 : BitVec 32 := 0#32
  ![v652.toNat, 0, 0]
def k0_dev53 (d0 : Dev nD) : Nat :=
  let c0_i32_973 : BitVec 32 := 0#32
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_426 : BitVec 32 := 4#32
  let v651 : BitVec 32 := Scalar.muli v619 c4_i32_426
  let c1_i32_427 : BitVec 32 := 1#32
  let v652 : BitVec 32 := Scalar.addi v651 c1_i32_427
  let c1_i32_972 : BitVec 32 := 1#32
  let v1566 : BitVec 32 := Scalar.muli v652 c1_i32_972
  let v1567 : BitVec 32 := Scalar.addi c0_i32_973 v1566
  v1567.toNat
def k0_cond45 (d0 : Dev nD) : BitVec 1 :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_432 : BitVec 32 := 4#32
  let v665 : BitVec 32 := Scalar.muli v619 c4_i32_432
  let c2_i32_433 : BitVec 32 := 2#32
  let v666 : BitVec 32 := Scalar.addi v665 c2_i32_433
  let v673 : BitVec 1 := Scalar.cmpi .eq v666 v2
  let v674 : BitVec 32 := Scalar.extui v673
  let c0_i32_436 : BitVec 32 := 0#32
  let v675 : BitVec 1 := Scalar.cmpi .ne v674 c0_i32_436
  v675

def k0_off135 (d0 : Dev nD) : Fin 3 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_432 : BitVec 32 := 4#32
  let v665 : BitVec 32 := Scalar.muli v619 c4_i32_432
  let c2_i32_433 : BitVec 32 := 2#32
  let v666 : BitVec 32 := Scalar.addi v665 c2_i32_433
  let v1565 : Index := Scalar.indexCast v666
  let c0_972 : Index := 0#32
  let c0_973 : Index := 0#32
  ![v1565.toNat, 0, 0]
def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond46 (d0 : Dev nD) : BitVec 1 :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_432 : BitVec 32 := 4#32
  let v665 : BitVec 32 := Scalar.muli v619 c4_i32_432
  let c2_i32_433 : BitVec 32 := 2#32
  let v666 : BitVec 32 := Scalar.addi v665 c2_i32_433
  let v676 : BitVec 1 := Scalar.cmpi .ne v666 v2
  let v677 : BitVec 32 := Scalar.extui v676
  let c0_i32_437 : BitVec 32 := 0#32
  let v678 : BitVec 1 := Scalar.cmpi .ne v677 c0_i32_437
  v678

def k0_off137 (d0 : Dev nD) : Fin 1 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_432 : BitVec 32 := 4#32
  let v665 : BitVec 32 := Scalar.muli v619 c4_i32_432
  let c2_i32_433 : BitVec 32 := 2#32
  let v666 : BitVec 32 := Scalar.addi v665 c2_i32_433
  ![v666.toNat]
def k0_off138 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off139 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off140 (d0 : Dev nD) : Fin 3 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_432 : BitVec 32 := 4#32
  let v665 : BitVec 32 := Scalar.muli v619 c4_i32_432
  let c2_i32_433 : BitVec 32 := 2#32
  let v666 : BitVec 32 := Scalar.addi v665 c2_i32_433
  let c0_i32_975 : BitVec 32 := 0#32
  let c0_i32_976 : BitVec 32 := 0#32
  ![v666.toNat, 0, 0]
def k0_dev54 (d0 : Dev nD) : Nat :=
  let c0_i32_973 : BitVec 32 := 0#32
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_432 : BitVec 32 := 4#32
  let v665 : BitVec 32 := Scalar.muli v619 c4_i32_432
  let c2_i32_433 : BitVec 32 := 2#32
  let v666 : BitVec 32 := Scalar.addi v665 c2_i32_433
  let c1_i32_972 : BitVec 32 := 1#32
  let v1566 : BitVec 32 := Scalar.muli v666 c1_i32_972
  let v1567 : BitVec 32 := Scalar.addi c0_i32_973 v1566
  v1567.toNat
def k0_cond47 (d0 : Dev nD) : BitVec 1 :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_438 : BitVec 32 := 4#32
  let v679 : BitVec 32 := Scalar.muli v619 c4_i32_438
  let c3_i32_439 : BitVec 32 := 3#32
  let v680 : BitVec 32 := Scalar.addi v679 c3_i32_439
  let v687 : BitVec 1 := Scalar.cmpi .eq v680 v2
  let v688 : BitVec 32 := Scalar.extui v687
  let c0_i32_442 : BitVec 32 := 0#32
  let v689 : BitVec 1 := Scalar.cmpi .ne v688 c0_i32_442
  v689

def k0_off141 (d0 : Dev nD) : Fin 3 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_438 : BitVec 32 := 4#32
  let v679 : BitVec 32 := Scalar.muli v619 c4_i32_438
  let c3_i32_439 : BitVec 32 := 3#32
  let v680 : BitVec 32 := Scalar.addi v679 c3_i32_439
  let v1565 : Index := Scalar.indexCast v680
  let c0_972 : Index := 0#32
  let c0_973 : Index := 0#32
  ![v1565.toNat, 0, 0]
def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond48 (d0 : Dev nD) : BitVec 1 :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_438 : BitVec 32 := 4#32
  let v679 : BitVec 32 := Scalar.muli v619 c4_i32_438
  let c3_i32_439 : BitVec 32 := 3#32
  let v680 : BitVec 32 := Scalar.addi v679 c3_i32_439
  let v690 : BitVec 1 := Scalar.cmpi .ne v680 v2
  let v691 : BitVec 32 := Scalar.extui v690
  let c0_i32_443 : BitVec 32 := 0#32
  let v692 : BitVec 1 := Scalar.cmpi .ne v691 c0_i32_443
  v692

def k0_off143 (d0 : Dev nD) : Fin 1 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_438 : BitVec 32 := 4#32
  let v679 : BitVec 32 := Scalar.muli v619 c4_i32_438
  let c3_i32_439 : BitVec 32 := 3#32
  let v680 : BitVec 32 := Scalar.addi v679 c3_i32_439
  ![v680.toNat]
def k0_off144 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off145 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off146 (d0 : Dev nD) : Fin 3 → Nat :=
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_438 : BitVec 32 := 4#32
  let v679 : BitVec 32 := Scalar.muli v619 c4_i32_438
  let c3_i32_439 : BitVec 32 := 3#32
  let v680 : BitVec 32 := Scalar.addi v679 c3_i32_439
  let c0_i32_975 : BitVec 32 := 0#32
  let c0_i32_976 : BitVec 32 := 0#32
  ![v680.toNat, 0, 0]
def k0_dev55 (d0 : Dev nD) : Nat :=
  let c0_i32_973 : BitVec 32 := 0#32
  let c5_i32_408 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v618 : BitVec 32 := Scalar.addi c5_i32_408 v175
  let c8_i32_409 : BitVec 32 := 8#32
  let v619 : BitVec 32 := Scalar.remsi v618 c8_i32_409
  let c4_i32_438 : BitVec 32 := 4#32
  let v679 : BitVec 32 := Scalar.muli v619 c4_i32_438
  let c3_i32_439 : BitVec 32 := 3#32
  let v680 : BitVec 32 := Scalar.addi v679 c3_i32_439
  let c1_i32_972 : BitVec 32 := 1#32
  let v1566 : BitVec 32 := Scalar.muli v680 c1_i32_972
  let v1567 : BitVec 32 := Scalar.addi c0_i32_973 v1566
  v1567.toNat
def k0_cond49 (d0 : Dev nD) : BitVec 1 :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_456 : BitVec 32 := 4#32
  let v712 : BitVec 32 := Scalar.muli v694 c4_i32_456
  let c0_i32_457 : BitVec 32 := 0#32
  let v713 : BitVec 32 := Scalar.addi v712 c0_i32_457
  let v720 : BitVec 1 := Scalar.cmpi .eq v713 v2
  let v721 : BitVec 32 := Scalar.extui v720
  let c0_i32_460 : BitVec 32 := 0#32
  let v722 : BitVec 1 := Scalar.cmpi .ne v721 c0_i32_460
  v722

def k0_off147 (d0 : Dev nD) : Fin 3 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_456 : BitVec 32 := 4#32
  let v712 : BitVec 32 := Scalar.muli v694 c4_i32_456
  let c0_i32_457 : BitVec 32 := 0#32
  let v713 : BitVec 32 := Scalar.addi v712 c0_i32_457
  let v1565 : Index := Scalar.indexCast v713
  let c0_972 : Index := 0#32
  let c0_973 : Index := 0#32
  ![v1565.toNat, 0, 0]
def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond50 (d0 : Dev nD) : BitVec 1 :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_456 : BitVec 32 := 4#32
  let v712 : BitVec 32 := Scalar.muli v694 c4_i32_456
  let c0_i32_457 : BitVec 32 := 0#32
  let v713 : BitVec 32 := Scalar.addi v712 c0_i32_457
  let v723 : BitVec 1 := Scalar.cmpi .ne v713 v2
  let v724 : BitVec 32 := Scalar.extui v723
  let c0_i32_461 : BitVec 32 := 0#32
  let v725 : BitVec 1 := Scalar.cmpi .ne v724 c0_i32_461
  v725

def k0_off149 (d0 : Dev nD) : Fin 1 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_456 : BitVec 32 := 4#32
  let v712 : BitVec 32 := Scalar.muli v694 c4_i32_456
  let c0_i32_457 : BitVec 32 := 0#32
  let v713 : BitVec 32 := Scalar.addi v712 c0_i32_457
  ![v713.toNat]
def k0_off150 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off151 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off152 (d0 : Dev nD) : Fin 3 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_456 : BitVec 32 := 4#32
  let v712 : BitVec 32 := Scalar.muli v694 c4_i32_456
  let c0_i32_457 : BitVec 32 := 0#32
  let v713 : BitVec 32 := Scalar.addi v712 c0_i32_457
  let c0_i32_975 : BitVec 32 := 0#32
  let c0_i32_976 : BitVec 32 := 0#32
  ![v713.toNat, 0, 0]
def k0_dev56 (d0 : Dev nD) : Nat :=
  let c0_i32_973 : BitVec 32 := 0#32
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_456 : BitVec 32 := 4#32
  let v712 : BitVec 32 := Scalar.muli v694 c4_i32_456
  let c0_i32_457 : BitVec 32 := 0#32
  let v713 : BitVec 32 := Scalar.addi v712 c0_i32_457
  let c1_i32_972 : BitVec 32 := 1#32
  let v1566 : BitVec 32 := Scalar.muli v713 c1_i32_972
  let v1567 : BitVec 32 := Scalar.addi c0_i32_973 v1566
  v1567.toNat
def k0_cond51 (d0 : Dev nD) : BitVec 1 :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_462 : BitVec 32 := 4#32
  let v726 : BitVec 32 := Scalar.muli v694 c4_i32_462
  let c1_i32_463 : BitVec 32 := 1#32
  let v727 : BitVec 32 := Scalar.addi v726 c1_i32_463
  let v734 : BitVec 1 := Scalar.cmpi .eq v727 v2
  let v735 : BitVec 32 := Scalar.extui v734
  let c0_i32_466 : BitVec 32 := 0#32
  let v736 : BitVec 1 := Scalar.cmpi .ne v735 c0_i32_466
  v736

def k0_off153 (d0 : Dev nD) : Fin 3 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_462 : BitVec 32 := 4#32
  let v726 : BitVec 32 := Scalar.muli v694 c4_i32_462
  let c1_i32_463 : BitVec 32 := 1#32
  let v727 : BitVec 32 := Scalar.addi v726 c1_i32_463
  let v1565 : Index := Scalar.indexCast v727
  let c0_972 : Index := 0#32
  let c0_973 : Index := 0#32
  ![v1565.toNat, 0, 0]
def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond52 (d0 : Dev nD) : BitVec 1 :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_462 : BitVec 32 := 4#32
  let v726 : BitVec 32 := Scalar.muli v694 c4_i32_462
  let c1_i32_463 : BitVec 32 := 1#32
  let v727 : BitVec 32 := Scalar.addi v726 c1_i32_463
  let v737 : BitVec 1 := Scalar.cmpi .ne v727 v2
  let v738 : BitVec 32 := Scalar.extui v737
  let c0_i32_467 : BitVec 32 := 0#32
  let v739 : BitVec 1 := Scalar.cmpi .ne v738 c0_i32_467
  v739

def k0_off155 (d0 : Dev nD) : Fin 1 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_462 : BitVec 32 := 4#32
  let v726 : BitVec 32 := Scalar.muli v694 c4_i32_462
  let c1_i32_463 : BitVec 32 := 1#32
  let v727 : BitVec 32 := Scalar.addi v726 c1_i32_463
  ![v727.toNat]
def k0_off156 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off158 (d0 : Dev nD) : Fin 3 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_462 : BitVec 32 := 4#32
  let v726 : BitVec 32 := Scalar.muli v694 c4_i32_462
  let c1_i32_463 : BitVec 32 := 1#32
  let v727 : BitVec 32 := Scalar.addi v726 c1_i32_463
  let c0_i32_975 : BitVec 32 := 0#32
  let c0_i32_976 : BitVec 32 := 0#32
  ![v727.toNat, 0, 0]
def k0_dev57 (d0 : Dev nD) : Nat :=
  let c0_i32_973 : BitVec 32 := 0#32
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_462 : BitVec 32 := 4#32
  let v726 : BitVec 32 := Scalar.muli v694 c4_i32_462
  let c1_i32_463 : BitVec 32 := 1#32
  let v727 : BitVec 32 := Scalar.addi v726 c1_i32_463
  let c1_i32_972 : BitVec 32 := 1#32
  let v1566 : BitVec 32 := Scalar.muli v727 c1_i32_972
  let v1567 : BitVec 32 := Scalar.addi c0_i32_973 v1566
  v1567.toNat
def k0_cond53 (d0 : Dev nD) : BitVec 1 :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_468 : BitVec 32 := 4#32
  let v740 : BitVec 32 := Scalar.muli v694 c4_i32_468
  let c2_i32_469 : BitVec 32 := 2#32
  let v741 : BitVec 32 := Scalar.addi v740 c2_i32_469
  let v748 : BitVec 1 := Scalar.cmpi .eq v741 v2
  let v749 : BitVec 32 := Scalar.extui v748
  let c0_i32_472 : BitVec 32 := 0#32
  let v750 : BitVec 1 := Scalar.cmpi .ne v749 c0_i32_472
  v750

def k0_off159 (d0 : Dev nD) : Fin 3 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_468 : BitVec 32 := 4#32
  let v740 : BitVec 32 := Scalar.muli v694 c4_i32_468
  let c2_i32_469 : BitVec 32 := 2#32
  let v741 : BitVec 32 := Scalar.addi v740 c2_i32_469
  let v1565 : Index := Scalar.indexCast v741
  let c0_972 : Index := 0#32
  let c0_973 : Index := 0#32
  ![v1565.toNat, 0, 0]
def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond54 (d0 : Dev nD) : BitVec 1 :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_468 : BitVec 32 := 4#32
  let v740 : BitVec 32 := Scalar.muli v694 c4_i32_468
  let c2_i32_469 : BitVec 32 := 2#32
  let v741 : BitVec 32 := Scalar.addi v740 c2_i32_469
  let v751 : BitVec 1 := Scalar.cmpi .ne v741 v2
  let v752 : BitVec 32 := Scalar.extui v751
  let c0_i32_473 : BitVec 32 := 0#32
  let v753 : BitVec 1 := Scalar.cmpi .ne v752 c0_i32_473
  v753

def k0_off161 (d0 : Dev nD) : Fin 1 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_468 : BitVec 32 := 4#32
  let v740 : BitVec 32 := Scalar.muli v694 c4_i32_468
  let c2_i32_469 : BitVec 32 := 2#32
  let v741 : BitVec 32 := Scalar.addi v740 c2_i32_469
  ![v741.toNat]
def k0_off162 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off163 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off164 (d0 : Dev nD) : Fin 3 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_468 : BitVec 32 := 4#32
  let v740 : BitVec 32 := Scalar.muli v694 c4_i32_468
  let c2_i32_469 : BitVec 32 := 2#32
  let v741 : BitVec 32 := Scalar.addi v740 c2_i32_469
  let c0_i32_975 : BitVec 32 := 0#32
  let c0_i32_976 : BitVec 32 := 0#32
  ![v741.toNat, 0, 0]
def k0_dev58 (d0 : Dev nD) : Nat :=
  let c0_i32_973 : BitVec 32 := 0#32
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_468 : BitVec 32 := 4#32
  let v740 : BitVec 32 := Scalar.muli v694 c4_i32_468
  let c2_i32_469 : BitVec 32 := 2#32
  let v741 : BitVec 32 := Scalar.addi v740 c2_i32_469
  let c1_i32_972 : BitVec 32 := 1#32
  let v1566 : BitVec 32 := Scalar.muli v741 c1_i32_972
  let v1567 : BitVec 32 := Scalar.addi c0_i32_973 v1566
  v1567.toNat
def k0_cond55 (d0 : Dev nD) : BitVec 1 :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_474 : BitVec 32 := 4#32
  let v754 : BitVec 32 := Scalar.muli v694 c4_i32_474
  let c3_i32_475 : BitVec 32 := 3#32
  let v755 : BitVec 32 := Scalar.addi v754 c3_i32_475
  let v762 : BitVec 1 := Scalar.cmpi .eq v755 v2
  let v763 : BitVec 32 := Scalar.extui v762
  let c0_i32_478 : BitVec 32 := 0#32
  let v764 : BitVec 1 := Scalar.cmpi .ne v763 c0_i32_478
  v764

def k0_off165 (d0 : Dev nD) : Fin 3 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_474 : BitVec 32 := 4#32
  let v754 : BitVec 32 := Scalar.muli v694 c4_i32_474
  let c3_i32_475 : BitVec 32 := 3#32
  let v755 : BitVec 32 := Scalar.addi v754 c3_i32_475
  let v1565 : Index := Scalar.indexCast v755
  let c0_972 : Index := 0#32
  let c0_973 : Index := 0#32
  ![v1565.toNat, 0, 0]
def k0_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond56 (d0 : Dev nD) : BitVec 1 :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_474 : BitVec 32 := 4#32
  let v754 : BitVec 32 := Scalar.muli v694 c4_i32_474
  let c3_i32_475 : BitVec 32 := 3#32
  let v755 : BitVec 32 := Scalar.addi v754 c3_i32_475
  let v765 : BitVec 1 := Scalar.cmpi .ne v755 v2
  let v766 : BitVec 32 := Scalar.extui v765
  let c0_i32_479 : BitVec 32 := 0#32
  let v767 : BitVec 1 := Scalar.cmpi .ne v766 c0_i32_479
  v767

def k0_off167 (d0 : Dev nD) : Fin 1 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_474 : BitVec 32 := 4#32
  let v754 : BitVec 32 := Scalar.muli v694 c4_i32_474
  let c3_i32_475 : BitVec 32 := 3#32
  let v755 : BitVec 32 := Scalar.addi v754 c3_i32_475
  ![v755.toNat]
def k0_off168 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off169 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off170 (d0 : Dev nD) : Fin 3 → Nat :=
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_474 : BitVec 32 := 4#32
  let v754 : BitVec 32 := Scalar.muli v694 c4_i32_474
  let c3_i32_475 : BitVec 32 := 3#32
  let v755 : BitVec 32 := Scalar.addi v754 c3_i32_475
  let c0_i32_975 : BitVec 32 := 0#32
  let c0_i32_976 : BitVec 32 := 0#32
  ![v755.toNat, 0, 0]
def k0_dev59 (d0 : Dev nD) : Nat :=
  let c0_i32_973 : BitVec 32 := 0#32
  let c6_i32_444 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v693 : BitVec 32 := Scalar.addi c6_i32_444 v175
  let c8_i32_445 : BitVec 32 := 8#32
  let v694 : BitVec 32 := Scalar.remsi v693 c8_i32_445
  let c4_i32_474 : BitVec 32 := 4#32
  let v754 : BitVec 32 := Scalar.muli v694 c4_i32_474
  let c3_i32_475 : BitVec 32 := 3#32
  let v755 : BitVec 32 := Scalar.addi v754 c3_i32_475
  let c1_i32_972 : BitVec 32 := 1#32
  let v1566 : BitVec 32 := Scalar.muli v755 c1_i32_972
  let v1567 : BitVec 32 := Scalar.addi c0_i32_973 v1566
  v1567.toNat
def k0_cond57 (d0 : Dev nD) : BitVec 1 :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_492 : BitVec 32 := 4#32
  let v787 : BitVec 32 := Scalar.muli v769 c4_i32_492
  let c0_i32_493 : BitVec 32 := 0#32
  let v788 : BitVec 32 := Scalar.addi v787 c0_i32_493
  let v795 : BitVec 1 := Scalar.cmpi .eq v788 v2
  let v796 : BitVec 32 := Scalar.extui v795
  let c0_i32_496 : BitVec 32 := 0#32
  let v797 : BitVec 1 := Scalar.cmpi .ne v796 c0_i32_496
  v797

def k0_off171 (d0 : Dev nD) : Fin 3 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_492 : BitVec 32 := 4#32
  let v787 : BitVec 32 := Scalar.muli v769 c4_i32_492
  let c0_i32_493 : BitVec 32 := 0#32
  let v788 : BitVec 32 := Scalar.addi v787 c0_i32_493
  let v1565 : Index := Scalar.indexCast v788
  let c0_972 : Index := 0#32
  let c0_973 : Index := 0#32
  ![v1565.toNat, 0, 0]
def k0_off172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond58 (d0 : Dev nD) : BitVec 1 :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_492 : BitVec 32 := 4#32
  let v787 : BitVec 32 := Scalar.muli v769 c4_i32_492
  let c0_i32_493 : BitVec 32 := 0#32
  let v788 : BitVec 32 := Scalar.addi v787 c0_i32_493
  let v798 : BitVec 1 := Scalar.cmpi .ne v788 v2
  let v799 : BitVec 32 := Scalar.extui v798
  let c0_i32_497 : BitVec 32 := 0#32
  let v800 : BitVec 1 := Scalar.cmpi .ne v799 c0_i32_497
  v800

def k0_off173 (d0 : Dev nD) : Fin 1 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_492 : BitVec 32 := 4#32
  let v787 : BitVec 32 := Scalar.muli v769 c4_i32_492
  let c0_i32_493 : BitVec 32 := 0#32
  let v788 : BitVec 32 := Scalar.addi v787 c0_i32_493
  ![v788.toNat]
def k0_off174 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off175 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off176 (d0 : Dev nD) : Fin 3 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_492 : BitVec 32 := 4#32
  let v787 : BitVec 32 := Scalar.muli v769 c4_i32_492
  let c0_i32_493 : BitVec 32 := 0#32
  let v788 : BitVec 32 := Scalar.addi v787 c0_i32_493
  let c0_i32_975 : BitVec 32 := 0#32
  let c0_i32_976 : BitVec 32 := 0#32
  ![v788.toNat, 0, 0]
def k0_dev60 (d0 : Dev nD) : Nat :=
  let c0_i32_973 : BitVec 32 := 0#32
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_492 : BitVec 32 := 4#32
  let v787 : BitVec 32 := Scalar.muli v769 c4_i32_492
  let c0_i32_493 : BitVec 32 := 0#32
  let v788 : BitVec 32 := Scalar.addi v787 c0_i32_493
  let c1_i32_972 : BitVec 32 := 1#32
  let v1566 : BitVec 32 := Scalar.muli v788 c1_i32_972
  let v1567 : BitVec 32 := Scalar.addi c0_i32_973 v1566
  v1567.toNat
def k0_cond59 (d0 : Dev nD) : BitVec 1 :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_498 : BitVec 32 := 4#32
  let v801 : BitVec 32 := Scalar.muli v769 c4_i32_498
  let c1_i32_499 : BitVec 32 := 1#32
  let v802 : BitVec 32 := Scalar.addi v801 c1_i32_499
  let v809 : BitVec 1 := Scalar.cmpi .eq v802 v2
  let v810 : BitVec 32 := Scalar.extui v809
  let c0_i32_502 : BitVec 32 := 0#32
  let v811 : BitVec 1 := Scalar.cmpi .ne v810 c0_i32_502
  v811

def k0_off177 (d0 : Dev nD) : Fin 3 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_498 : BitVec 32 := 4#32
  let v801 : BitVec 32 := Scalar.muli v769 c4_i32_498
  let c1_i32_499 : BitVec 32 := 1#32
  let v802 : BitVec 32 := Scalar.addi v801 c1_i32_499
  let v1565 : Index := Scalar.indexCast v802
  let c0_972 : Index := 0#32
  let c0_973 : Index := 0#32
  ![v1565.toNat, 0, 0]
def k0_off178 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond60 (d0 : Dev nD) : BitVec 1 :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_498 : BitVec 32 := 4#32
  let v801 : BitVec 32 := Scalar.muli v769 c4_i32_498
  let c1_i32_499 : BitVec 32 := 1#32
  let v802 : BitVec 32 := Scalar.addi v801 c1_i32_499
  let v812 : BitVec 1 := Scalar.cmpi .ne v802 v2
  let v813 : BitVec 32 := Scalar.extui v812
  let c0_i32_503 : BitVec 32 := 0#32
  let v814 : BitVec 1 := Scalar.cmpi .ne v813 c0_i32_503
  v814

def k0_off179 (d0 : Dev nD) : Fin 1 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_498 : BitVec 32 := 4#32
  let v801 : BitVec 32 := Scalar.muli v769 c4_i32_498
  let c1_i32_499 : BitVec 32 := 1#32
  let v802 : BitVec 32 := Scalar.addi v801 c1_i32_499
  ![v802.toNat]
def k0_off180 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off181 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off182 (d0 : Dev nD) : Fin 3 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_498 : BitVec 32 := 4#32
  let v801 : BitVec 32 := Scalar.muli v769 c4_i32_498
  let c1_i32_499 : BitVec 32 := 1#32
  let v802 : BitVec 32 := Scalar.addi v801 c1_i32_499
  let c0_i32_975 : BitVec 32 := 0#32
  let c0_i32_976 : BitVec 32 := 0#32
  ![v802.toNat, 0, 0]
def k0_dev61 (d0 : Dev nD) : Nat :=
  let c0_i32_973 : BitVec 32 := 0#32
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_498 : BitVec 32 := 4#32
  let v801 : BitVec 32 := Scalar.muli v769 c4_i32_498
  let c1_i32_499 : BitVec 32 := 1#32
  let v802 : BitVec 32 := Scalar.addi v801 c1_i32_499
  let c1_i32_972 : BitVec 32 := 1#32
  let v1566 : BitVec 32 := Scalar.muli v802 c1_i32_972
  let v1567 : BitVec 32 := Scalar.addi c0_i32_973 v1566
  v1567.toNat
def k0_cond61 (d0 : Dev nD) : BitVec 1 :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_504 : BitVec 32 := 4#32
  let v815 : BitVec 32 := Scalar.muli v769 c4_i32_504
  let c2_i32_505 : BitVec 32 := 2#32
  let v816 : BitVec 32 := Scalar.addi v815 c2_i32_505
  let v823 : BitVec 1 := Scalar.cmpi .eq v816 v2
  let v824 : BitVec 32 := Scalar.extui v823
  let c0_i32_508 : BitVec 32 := 0#32
  let v825 : BitVec 1 := Scalar.cmpi .ne v824 c0_i32_508
  v825

def k0_off183 (d0 : Dev nD) : Fin 3 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_504 : BitVec 32 := 4#32
  let v815 : BitVec 32 := Scalar.muli v769 c4_i32_504
  let c2_i32_505 : BitVec 32 := 2#32
  let v816 : BitVec 32 := Scalar.addi v815 c2_i32_505
  let v1565 : Index := Scalar.indexCast v816
  let c0_972 : Index := 0#32
  let c0_973 : Index := 0#32
  ![v1565.toNat, 0, 0]
def k0_off184 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond62 (d0 : Dev nD) : BitVec 1 :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_504 : BitVec 32 := 4#32
  let v815 : BitVec 32 := Scalar.muli v769 c4_i32_504
  let c2_i32_505 : BitVec 32 := 2#32
  let v816 : BitVec 32 := Scalar.addi v815 c2_i32_505
  let v826 : BitVec 1 := Scalar.cmpi .ne v816 v2
  let v827 : BitVec 32 := Scalar.extui v826
  let c0_i32_509 : BitVec 32 := 0#32
  let v828 : BitVec 1 := Scalar.cmpi .ne v827 c0_i32_509
  v828

def k0_off185 (d0 : Dev nD) : Fin 1 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_504 : BitVec 32 := 4#32
  let v815 : BitVec 32 := Scalar.muli v769 c4_i32_504
  let c2_i32_505 : BitVec 32 := 2#32
  let v816 : BitVec 32 := Scalar.addi v815 c2_i32_505
  ![v816.toNat]
def k0_off186 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off187 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off188 (d0 : Dev nD) : Fin 3 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_504 : BitVec 32 := 4#32
  let v815 : BitVec 32 := Scalar.muli v769 c4_i32_504
  let c2_i32_505 : BitVec 32 := 2#32
  let v816 : BitVec 32 := Scalar.addi v815 c2_i32_505
  let c0_i32_975 : BitVec 32 := 0#32
  let c0_i32_976 : BitVec 32 := 0#32
  ![v816.toNat, 0, 0]
def k0_dev62 (d0 : Dev nD) : Nat :=
  let c0_i32_973 : BitVec 32 := 0#32
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_504 : BitVec 32 := 4#32
  let v815 : BitVec 32 := Scalar.muli v769 c4_i32_504
  let c2_i32_505 : BitVec 32 := 2#32
  let v816 : BitVec 32 := Scalar.addi v815 c2_i32_505
  let c1_i32_972 : BitVec 32 := 1#32
  let v1566 : BitVec 32 := Scalar.muli v816 c1_i32_972
  let v1567 : BitVec 32 := Scalar.addi c0_i32_973 v1566
  v1567.toNat
def k0_cond63 (d0 : Dev nD) : BitVec 1 :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_510 : BitVec 32 := 4#32
  let v829 : BitVec 32 := Scalar.muli v769 c4_i32_510
  let c3_i32_511 : BitVec 32 := 3#32
  let v830 : BitVec 32 := Scalar.addi v829 c3_i32_511
  let v837 : BitVec 1 := Scalar.cmpi .eq v830 v2
  let v838 : BitVec 32 := Scalar.extui v837
  let c0_i32_514 : BitVec 32 := 0#32
  let v839 : BitVec 1 := Scalar.cmpi .ne v838 c0_i32_514
  v839

def k0_off189 (d0 : Dev nD) : Fin 3 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_510 : BitVec 32 := 4#32
  let v829 : BitVec 32 := Scalar.muli v769 c4_i32_510
  let c3_i32_511 : BitVec 32 := 3#32
  let v830 : BitVec 32 := Scalar.addi v829 c3_i32_511
  let v1565 : Index := Scalar.indexCast v830
  let c0_972 : Index := 0#32
  let c0_973 : Index := 0#32
  ![v1565.toNat, 0, 0]
def k0_off190 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1568 : BitVec 32 := Scalar.muli v2 c128_i32
  let v1569 : Index := Scalar.indexCast v1568
  let c0_974 : Index := 0#32
  ![v1569.toNat, 0]
def k0_cond64 (d0 : Dev nD) : BitVec 1 :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_510 : BitVec 32 := 4#32
  let v829 : BitVec 32 := Scalar.muli v769 c4_i32_510
  let c3_i32_511 : BitVec 32 := 3#32
  let v830 : BitVec 32 := Scalar.addi v829 c3_i32_511
  let v840 : BitVec 1 := Scalar.cmpi .ne v830 v2
  let v841 : BitVec 32 := Scalar.extui v840
  let c0_i32_515 : BitVec 32 := 0#32
  let v842 : BitVec 1 := Scalar.cmpi .ne v841 c0_i32_515
  v842

def k0_off191 (d0 : Dev nD) : Fin 1 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_510 : BitVec 32 := 4#32
  let v829 : BitVec 32 := Scalar.muli v769 c4_i32_510
  let c3_i32_511 : BitVec 32 := 3#32
  let v830 : BitVec 32 := Scalar.addi v829 c3_i32_511
  ![v830.toNat]
def k0_off192 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off193 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_974 : BitVec 32 := 0#32
  ![v1565.toNat, 0]
def k0_off194 (d0 : Dev nD) : Fin 3 → Nat :=
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_510 : BitVec 32 := 4#32
  let v829 : BitVec 32 := Scalar.muli v769 c4_i32_510
  let c3_i32_511 : BitVec 32 := 3#32
  let v830 : BitVec 32 := Scalar.addi v829 c3_i32_511
  let c0_i32_975 : BitVec 32 := 0#32
  let c0_i32_976 : BitVec 32 := 0#32
  ![v830.toNat, 0, 0]
def k0_dev63 (d0 : Dev nD) : Nat :=
  let c0_i32_973 : BitVec 32 := 0#32
  let c7_i32_480 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_157 : BitVec 32 := 0#32
  let v160 : BitVec 1 := Scalar.cmpi .sgt v2 c0_i32_157
  let v161 : BitVec 32 := Scalar.extui v160
  let c0_i32_158 : BitVec 32 := 0#32
  let v162 : BitVec 1 := Scalar.cmpi .slt v2 c0_i32_158
  let v163 : BitVec 32 := Scalar.extui v162
  let v164 : BitVec 32 := Scalar.subi v161 v163
  let c4_i32_156 : BitVec 32 := 4#32
  let c0_i32_159 : BitVec 32 := 0#32
  let v165 : BitVec 1 := Scalar.cmpi .sgt c4_i32_156 c0_i32_159
  let v166 : BitVec 32 := Scalar.extui v165
  let c0_i32_160 : BitVec 32 := 0#32
  let v167 : BitVec 1 := Scalar.cmpi .slt c4_i32_156 c0_i32_160
  let v168 : BitVec 32 := Scalar.extui v167
  let v169 : BitVec 32 := Scalar.subi v166 v168
  let v170 : BitVec 1 := Scalar.cmpi .ne v164 v169
  let v171 : BitVec 32 := Scalar.remsi v2 c4_i32_156
  let c0_i32_161 : BitVec 32 := 0#32
  let v172 : BitVec 1 := Scalar.cmpi .ne v171 c0_i32_161
  let v173 : BitVec 1 := Scalar.andi v170 v172
  let v159 : BitVec 32 := Scalar.divsi v2 c4_i32_156
  let c1_i32_162 : BitVec 32 := 1#32
  let v174 : BitVec 32 := Scalar.subi v159 c1_i32_162
  let v175 : BitVec 32 := Scalar.select v173 v174 v159
  let v768 : BitVec 32 := Scalar.addi c7_i32_480 v175
  let c8_i32_481 : BitVec 32 := 8#32
  let v769 : BitVec 32 := Scalar.remsi v768 c8_i32_481
  let c4_i32_510 : BitVec 32 := 4#32
  let v829 : BitVec 32 := Scalar.muli v769 c4_i32_510
  let c3_i32_511 : BitVec 32 := 3#32
  let v830 : BitVec 32 := Scalar.addi v829 c3_i32_511
  let c1_i32_972 : BitVec 32 := 1#32
  let v1566 : BitVec 32 := Scalar.muli v830 c1_i32_972
  let v1567 : BitVec 32 := Scalar.addi c0_i32_973 v1566
  v1567.toNat
def k0_off195 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v848 : Index := Scalar.indexCast v2
  let c0_518 : Index := 0#32
  ![v848.toNat, 0]
def k0_off196 (d0 : Dev nD) (c0_i32_520 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_519 : BitVec 32 := 1#32
  let v852 : BitVec 32 := Scalar.addi v2 c1_i32_519
  let v853 : BitVec 32 := Scalar.addi v852 c0_i32_520
  let c32_i32_521 : BitVec 32 := 32#32
  let v854 : BitVec 32 := Scalar.remsi v853 c32_i32_521
  ![v854.toNat]
def k0_off197 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off198 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_524 : BitVec 32 := 0#32
  ![v2.toNat, 0]
def k0_dev64 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_519 : BitVec 32 := 1#32
  let v852 : BitVec 32 := Scalar.addi v2 c1_i32_519
  let c0_i32_520 : BitVec 32 := 0#32
  let v853 : BitVec 32 := Scalar.addi v852 c0_i32_520
  let c32_i32_521 : BitVec 32 := 32#32
  let v854 : BitVec 32 := Scalar.remsi v853 c32_i32_521
  let c1_i32_522 : BitVec 32 := 1#32
  let v855 : BitVec 32 := Scalar.muli v854 c1_i32_522
  let v856 : BitVec 32 := Scalar.addi c0_i32_523 v855
  v856.toNat
def k0_dev65 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_525 : BitVec 32 := 1#32
  let v862 : BitVec 32 := Scalar.addi v2 c1_i32_525
  let c1_i32_526 : BitVec 32 := 1#32
  let v863 : BitVec 32 := Scalar.addi v862 c1_i32_526
  let c32_i32_527 : BitVec 32 := 32#32
  let v864 : BitVec 32 := Scalar.remsi v863 c32_i32_527
  let c1_i32_528 : BitVec 32 := 1#32
  let v865 : BitVec 32 := Scalar.muli v864 c1_i32_528
  let v866 : BitVec 32 := Scalar.addi c0_i32_529 v865
  v866.toNat
def k0_dev66 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_531 : BitVec 32 := 1#32
  let v872 : BitVec 32 := Scalar.addi v2 c1_i32_531
  let c2_i32_532 : BitVec 32 := 2#32
  let v873 : BitVec 32 := Scalar.addi v872 c2_i32_532
  let c32_i32_533 : BitVec 32 := 32#32
  let v874 : BitVec 32 := Scalar.remsi v873 c32_i32_533
  let c1_i32_534 : BitVec 32 := 1#32
  let v875 : BitVec 32 := Scalar.muli v874 c1_i32_534
  let v876 : BitVec 32 := Scalar.addi c0_i32_535 v875
  v876.toNat
def k0_dev67 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_537 : BitVec 32 := 1#32
  let v882 : BitVec 32 := Scalar.addi v2 c1_i32_537
  let c3_i32_538 : BitVec 32 := 3#32
  let v883 : BitVec 32 := Scalar.addi v882 c3_i32_538
  let c32_i32_539 : BitVec 32 := 32#32
  let v884 : BitVec 32 := Scalar.remsi v883 c32_i32_539
  let c1_i32_540 : BitVec 32 := 1#32
  let v885 : BitVec 32 := Scalar.muli v884 c1_i32_540
  let v886 : BitVec 32 := Scalar.addi c0_i32_541 v885
  v886.toNat
def k0_dev68 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_543 : BitVec 32 := 1#32
  let v892 : BitVec 32 := Scalar.addi v2 c1_i32_543
  let c4_i32_544 : BitVec 32 := 4#32
  let v893 : BitVec 32 := Scalar.addi v892 c4_i32_544
  let c32_i32_545 : BitVec 32 := 32#32
  let v894 : BitVec 32 := Scalar.remsi v893 c32_i32_545
  let c1_i32_546 : BitVec 32 := 1#32
  let v895 : BitVec 32 := Scalar.muli v894 c1_i32_546
  let v896 : BitVec 32 := Scalar.addi c0_i32_547 v895
  v896.toNat
def k0_dev69 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_549 : BitVec 32 := 1#32
  let v902 : BitVec 32 := Scalar.addi v2 c1_i32_549
  let c5_i32_550 : BitVec 32 := 5#32
  let v903 : BitVec 32 := Scalar.addi v902 c5_i32_550
  let c32_i32_551 : BitVec 32 := 32#32
  let v904 : BitVec 32 := Scalar.remsi v903 c32_i32_551
  let c1_i32_552 : BitVec 32 := 1#32
  let v905 : BitVec 32 := Scalar.muli v904 c1_i32_552
  let v906 : BitVec 32 := Scalar.addi c0_i32_553 v905
  v906.toNat
def k0_dev70 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_555 : BitVec 32 := 1#32
  let v912 : BitVec 32 := Scalar.addi v2 c1_i32_555
  let c6_i32_556 : BitVec 32 := 6#32
  let v913 : BitVec 32 := Scalar.addi v912 c6_i32_556
  let c32_i32_557 : BitVec 32 := 32#32
  let v914 : BitVec 32 := Scalar.remsi v913 c32_i32_557
  let c1_i32_558 : BitVec 32 := 1#32
  let v915 : BitVec 32 := Scalar.muli v914 c1_i32_558
  let v916 : BitVec 32 := Scalar.addi c0_i32_559 v915
  v916.toNat
def k0_dev71 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_561 : BitVec 32 := 1#32
  let v922 : BitVec 32 := Scalar.addi v2 c1_i32_561
  let c7_i32_562 : BitVec 32 := 7#32
  let v923 : BitVec 32 := Scalar.addi v922 c7_i32_562
  let c32_i32_563 : BitVec 32 := 32#32
  let v924 : BitVec 32 := Scalar.remsi v923 c32_i32_563
  let c1_i32_564 : BitVec 32 := 1#32
  let v925 : BitVec 32 := Scalar.muli v924 c1_i32_564
  let v926 : BitVec 32 := Scalar.addi c0_i32_565 v925
  v926.toNat
def k0_dev72 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_567 : BitVec 32 := 1#32
  let v932 : BitVec 32 := Scalar.addi v2 c1_i32_567
  let c8_i32_568 : BitVec 32 := 8#32
  let v933 : BitVec 32 := Scalar.addi v932 c8_i32_568
  let c32_i32_569 : BitVec 32 := 32#32
  let v934 : BitVec 32 := Scalar.remsi v933 c32_i32_569
  let c1_i32_570 : BitVec 32 := 1#32
  let v935 : BitVec 32 := Scalar.muli v934 c1_i32_570
  let v936 : BitVec 32 := Scalar.addi c0_i32_571 v935
  v936.toNat
def k0_dev73 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_573 : BitVec 32 := 1#32
  let v942 : BitVec 32 := Scalar.addi v2 c1_i32_573
  let c9_i32_574 : BitVec 32 := 9#32
  let v943 : BitVec 32 := Scalar.addi v942 c9_i32_574
  let c32_i32_575 : BitVec 32 := 32#32
  let v944 : BitVec 32 := Scalar.remsi v943 c32_i32_575
  let c1_i32_576 : BitVec 32 := 1#32
  let v945 : BitVec 32 := Scalar.muli v944 c1_i32_576
  let v946 : BitVec 32 := Scalar.addi c0_i32_577 v945
  v946.toNat
def k0_dev74 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_579 : BitVec 32 := 1#32
  let v952 : BitVec 32 := Scalar.addi v2 c1_i32_579
  let c10_i32_580 : BitVec 32 := 10#32
  let v953 : BitVec 32 := Scalar.addi v952 c10_i32_580
  let c32_i32_581 : BitVec 32 := 32#32
  let v954 : BitVec 32 := Scalar.remsi v953 c32_i32_581
  let c1_i32_582 : BitVec 32 := 1#32
  let v955 : BitVec 32 := Scalar.muli v954 c1_i32_582
  let v956 : BitVec 32 := Scalar.addi c0_i32_583 v955
  v956.toNat
def k0_dev75 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_585 : BitVec 32 := 1#32
  let v962 : BitVec 32 := Scalar.addi v2 c1_i32_585
  let c11_i32_586 : BitVec 32 := 11#32
  let v963 : BitVec 32 := Scalar.addi v962 c11_i32_586
  let c32_i32_587 : BitVec 32 := 32#32
  let v964 : BitVec 32 := Scalar.remsi v963 c32_i32_587
  let c1_i32_588 : BitVec 32 := 1#32
  let v965 : BitVec 32 := Scalar.muli v964 c1_i32_588
  let v966 : BitVec 32 := Scalar.addi c0_i32_589 v965
  v966.toNat
def k0_dev76 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_591 : BitVec 32 := 1#32
  let v972 : BitVec 32 := Scalar.addi v2 c1_i32_591
  let c12_i32_592 : BitVec 32 := 12#32
  let v973 : BitVec 32 := Scalar.addi v972 c12_i32_592
  let c32_i32_593 : BitVec 32 := 32#32
  let v974 : BitVec 32 := Scalar.remsi v973 c32_i32_593
  let c1_i32_594 : BitVec 32 := 1#32
  let v975 : BitVec 32 := Scalar.muli v974 c1_i32_594
  let v976 : BitVec 32 := Scalar.addi c0_i32_595 v975
  v976.toNat
def k0_dev77 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_597 : BitVec 32 := 1#32
  let v982 : BitVec 32 := Scalar.addi v2 c1_i32_597
  let c13_i32_598 : BitVec 32 := 13#32
  let v983 : BitVec 32 := Scalar.addi v982 c13_i32_598
  let c32_i32_599 : BitVec 32 := 32#32
  let v984 : BitVec 32 := Scalar.remsi v983 c32_i32_599
  let c1_i32_600 : BitVec 32 := 1#32
  let v985 : BitVec 32 := Scalar.muli v984 c1_i32_600
  let v986 : BitVec 32 := Scalar.addi c0_i32_601 v985
  v986.toNat
def k0_dev78 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_603 : BitVec 32 := 1#32
  let v992 : BitVec 32 := Scalar.addi v2 c1_i32_603
  let c14_i32_604 : BitVec 32 := 14#32
  let v993 : BitVec 32 := Scalar.addi v992 c14_i32_604
  let c32_i32_605 : BitVec 32 := 32#32
  let v994 : BitVec 32 := Scalar.remsi v993 c32_i32_605
  let c1_i32_606 : BitVec 32 := 1#32
  let v995 : BitVec 32 := Scalar.muli v994 c1_i32_606
  let v996 : BitVec 32 := Scalar.addi c0_i32_607 v995
  v996.toNat
def k0_dev79 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_609 : BitVec 32 := 1#32
  let v1002 : BitVec 32 := Scalar.addi v2 c1_i32_609
  let c15_i32_610 : BitVec 32 := 15#32
  let v1003 : BitVec 32 := Scalar.addi v1002 c15_i32_610
  let c32_i32_611 : BitVec 32 := 32#32
  let v1004 : BitVec 32 := Scalar.remsi v1003 c32_i32_611
  let c1_i32_612 : BitVec 32 := 1#32
  let v1005 : BitVec 32 := Scalar.muli v1004 c1_i32_612
  let v1006 : BitVec 32 := Scalar.addi c0_i32_613 v1005
  v1006.toNat
def k0_dev80 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_615 : BitVec 32 := 1#32
  let v1012 : BitVec 32 := Scalar.addi v2 c1_i32_615
  let c16_i32_616 : BitVec 32 := 16#32
  let v1013 : BitVec 32 := Scalar.addi v1012 c16_i32_616
  let c32_i32_617 : BitVec 32 := 32#32
  let v1014 : BitVec 32 := Scalar.remsi v1013 c32_i32_617
  let c1_i32_618 : BitVec 32 := 1#32
  let v1015 : BitVec 32 := Scalar.muli v1014 c1_i32_618
  let v1016 : BitVec 32 := Scalar.addi c0_i32_619 v1015
  v1016.toNat
def k0_dev81 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_621 : BitVec 32 := 1#32
  let v1022 : BitVec 32 := Scalar.addi v2 c1_i32_621
  let c17_i32_622 : BitVec 32 := 17#32
  let v1023 : BitVec 32 := Scalar.addi v1022 c17_i32_622
  let c32_i32_623 : BitVec 32 := 32#32
  let v1024 : BitVec 32 := Scalar.remsi v1023 c32_i32_623
  let c1_i32_624 : BitVec 32 := 1#32
  let v1025 : BitVec 32 := Scalar.muli v1024 c1_i32_624
  let v1026 : BitVec 32 := Scalar.addi c0_i32_625 v1025
  v1026.toNat
def k0_dev82 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_627 : BitVec 32 := 1#32
  let v1032 : BitVec 32 := Scalar.addi v2 c1_i32_627
  let c18_i32_628 : BitVec 32 := 18#32
  let v1033 : BitVec 32 := Scalar.addi v1032 c18_i32_628
  let c32_i32_629 : BitVec 32 := 32#32
  let v1034 : BitVec 32 := Scalar.remsi v1033 c32_i32_629
  let c1_i32_630 : BitVec 32 := 1#32
  let v1035 : BitVec 32 := Scalar.muli v1034 c1_i32_630
  let v1036 : BitVec 32 := Scalar.addi c0_i32_631 v1035
  v1036.toNat
def k0_dev83 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_633 : BitVec 32 := 1#32
  let v1042 : BitVec 32 := Scalar.addi v2 c1_i32_633
  let c19_i32_634 : BitVec 32 := 19#32
  let v1043 : BitVec 32 := Scalar.addi v1042 c19_i32_634
  let c32_i32_635 : BitVec 32 := 32#32
  let v1044 : BitVec 32 := Scalar.remsi v1043 c32_i32_635
  let c1_i32_636 : BitVec 32 := 1#32
  let v1045 : BitVec 32 := Scalar.muli v1044 c1_i32_636
  let v1046 : BitVec 32 := Scalar.addi c0_i32_637 v1045
  v1046.toNat
def k0_dev84 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_639 : BitVec 32 := 1#32
  let v1052 : BitVec 32 := Scalar.addi v2 c1_i32_639
  let c20_i32_640 : BitVec 32 := 20#32
  let v1053 : BitVec 32 := Scalar.addi v1052 c20_i32_640
  let c32_i32_641 : BitVec 32 := 32#32
  let v1054 : BitVec 32 := Scalar.remsi v1053 c32_i32_641
  let c1_i32_642 : BitVec 32 := 1#32
  let v1055 : BitVec 32 := Scalar.muli v1054 c1_i32_642
  let v1056 : BitVec 32 := Scalar.addi c0_i32_643 v1055
  v1056.toNat
def k0_dev85 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_645 : BitVec 32 := 1#32
  let v1062 : BitVec 32 := Scalar.addi v2 c1_i32_645
  let c21_i32_646 : BitVec 32 := 21#32
  let v1063 : BitVec 32 := Scalar.addi v1062 c21_i32_646
  let c32_i32_647 : BitVec 32 := 32#32
  let v1064 : BitVec 32 := Scalar.remsi v1063 c32_i32_647
  let c1_i32_648 : BitVec 32 := 1#32
  let v1065 : BitVec 32 := Scalar.muli v1064 c1_i32_648
  let v1066 : BitVec 32 := Scalar.addi c0_i32_649 v1065
  v1066.toNat
def k0_dev86 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_651 : BitVec 32 := 1#32
  let v1072 : BitVec 32 := Scalar.addi v2 c1_i32_651
  let c22_i32_652 : BitVec 32 := 22#32
  let v1073 : BitVec 32 := Scalar.addi v1072 c22_i32_652
  let c32_i32_653 : BitVec 32 := 32#32
  let v1074 : BitVec 32 := Scalar.remsi v1073 c32_i32_653
  let c1_i32_654 : BitVec 32 := 1#32
  let v1075 : BitVec 32 := Scalar.muli v1074 c1_i32_654
  let v1076 : BitVec 32 := Scalar.addi c0_i32_655 v1075
  v1076.toNat
def k0_dev87 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_657 : BitVec 32 := 1#32
  let v1082 : BitVec 32 := Scalar.addi v2 c1_i32_657
  let c23_i32_658 : BitVec 32 := 23#32
  let v1083 : BitVec 32 := Scalar.addi v1082 c23_i32_658
  let c32_i32_659 : BitVec 32 := 32#32
  let v1084 : BitVec 32 := Scalar.remsi v1083 c32_i32_659
  let c1_i32_660 : BitVec 32 := 1#32
  let v1085 : BitVec 32 := Scalar.muli v1084 c1_i32_660
  let v1086 : BitVec 32 := Scalar.addi c0_i32_661 v1085
  v1086.toNat
def k0_dev88 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_663 : BitVec 32 := 1#32
  let v1092 : BitVec 32 := Scalar.addi v2 c1_i32_663
  let c24_i32_664 : BitVec 32 := 24#32
  let v1093 : BitVec 32 := Scalar.addi v1092 c24_i32_664
  let c32_i32_665 : BitVec 32 := 32#32
  let v1094 : BitVec 32 := Scalar.remsi v1093 c32_i32_665
  let c1_i32_666 : BitVec 32 := 1#32
  let v1095 : BitVec 32 := Scalar.muli v1094 c1_i32_666
  let v1096 : BitVec 32 := Scalar.addi c0_i32_667 v1095
  v1096.toNat
def k0_dev89 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_669 : BitVec 32 := 1#32
  let v1102 : BitVec 32 := Scalar.addi v2 c1_i32_669
  let c25_i32_670 : BitVec 32 := 25#32
  let v1103 : BitVec 32 := Scalar.addi v1102 c25_i32_670
  let c32_i32_671 : BitVec 32 := 32#32
  let v1104 : BitVec 32 := Scalar.remsi v1103 c32_i32_671
  let c1_i32_672 : BitVec 32 := 1#32
  let v1105 : BitVec 32 := Scalar.muli v1104 c1_i32_672
  let v1106 : BitVec 32 := Scalar.addi c0_i32_673 v1105
  v1106.toNat
def k0_dev90 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_675 : BitVec 32 := 1#32
  let v1112 : BitVec 32 := Scalar.addi v2 c1_i32_675
  let c26_i32_676 : BitVec 32 := 26#32
  let v1113 : BitVec 32 := Scalar.addi v1112 c26_i32_676
  let c32_i32_677 : BitVec 32 := 32#32
  let v1114 : BitVec 32 := Scalar.remsi v1113 c32_i32_677
  let c1_i32_678 : BitVec 32 := 1#32
  let v1115 : BitVec 32 := Scalar.muli v1114 c1_i32_678
  let v1116 : BitVec 32 := Scalar.addi c0_i32_679 v1115
  v1116.toNat
def k0_dev91 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_681 : BitVec 32 := 1#32
  let v1122 : BitVec 32 := Scalar.addi v2 c1_i32_681
  let c27_i32_682 : BitVec 32 := 27#32
  let v1123 : BitVec 32 := Scalar.addi v1122 c27_i32_682
  let c32_i32_683 : BitVec 32 := 32#32
  let v1124 : BitVec 32 := Scalar.remsi v1123 c32_i32_683
  let c1_i32_684 : BitVec 32 := 1#32
  let v1125 : BitVec 32 := Scalar.muli v1124 c1_i32_684
  let v1126 : BitVec 32 := Scalar.addi c0_i32_685 v1125
  v1126.toNat
def k0_dev92 (d0 : Dev nD) : Nat :=
  let c0_i32_691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_687 : BitVec 32 := 1#32
  let v1132 : BitVec 32 := Scalar.addi v2 c1_i32_687
  let c28_i32_688 : BitVec 32 := 28#32
  let v1133 : BitVec 32 := Scalar.addi v1132 c28_i32_688
  let c32_i32_689 : BitVec 32 := 32#32
  let v1134 : BitVec 32 := Scalar.remsi v1133 c32_i32_689
  let c1_i32_690 : BitVec 32 := 1#32
  let v1135 : BitVec 32 := Scalar.muli v1134 c1_i32_690
  let v1136 : BitVec 32 := Scalar.addi c0_i32_691 v1135
  v1136.toNat
def k0_dev93 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_693 : BitVec 32 := 1#32
  let v1142 : BitVec 32 := Scalar.addi v2 c1_i32_693
  let c29_i32_694 : BitVec 32 := 29#32
  let v1143 : BitVec 32 := Scalar.addi v1142 c29_i32_694
  let c32_i32_695 : BitVec 32 := 32#32
  let v1144 : BitVec 32 := Scalar.remsi v1143 c32_i32_695
  let c1_i32_696 : BitVec 32 := 1#32
  let v1145 : BitVec 32 := Scalar.muli v1144 c1_i32_696
  let v1146 : BitVec 32 := Scalar.addi c0_i32_697 v1145
  v1146.toNat
def k0_dev94 (d0 : Dev nD) : Nat :=
  let c0_i32_703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_699 : BitVec 32 := 1#32
  let v1152 : BitVec 32 := Scalar.addi v2 c1_i32_699
  let c30_i32_700 : BitVec 32 := 30#32
  let v1153 : BitVec 32 := Scalar.addi v1152 c30_i32_700
  let c32_i32_701 : BitVec 32 := 32#32
  let v1154 : BitVec 32 := Scalar.remsi v1153 c32_i32_701
  let c1_i32_702 : BitVec 32 := 1#32
  let v1155 : BitVec 32 := Scalar.muli v1154 c1_i32_702
  let v1156 : BitVec 32 := Scalar.addi c0_i32_703 v1155
  v1156.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_844 : BitVec 32 := 0#32
  let v1373 : BitVec 1 := Scalar.cmpi .ne v2 c0_i32_844
  let v1374 : BitVec 32 := Scalar.extui v1373
  let c0_i32_845 : BitVec 32 := 0#32
  let v1375 : BitVec 1 := Scalar.cmpi .ne v1374 c0_i32_845
  v1375

def k0_off199 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_846 : BitVec 32 := 0#32
  let v1376 : BitVec 1 := Scalar.cmpi .ne v2 c0_i32_846
  let v1377 : BitVec 32 := Scalar.extui v1376
  let c0_i32_847 : BitVec 32 := 0#32
  let v1378 : BitVec 1 := Scalar.cmpi .ne v1377 c0_i32_847
  v1378

def k0_off200 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_848 : BitVec 32 := 1#32
  let v1379 : BitVec 1 := Scalar.cmpi .ne v2 c1_i32_848
  let v1380 : BitVec 32 := Scalar.extui v1379
  let c0_i32_849 : BitVec 32 := 0#32
  let v1381 : BitVec 1 := Scalar.cmpi .ne v1380 c0_i32_849
  v1381

def k0_off201 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_850 : BitVec 32 := 1#32
  let v1382 : BitVec 1 := Scalar.cmpi .ne v2 c1_i32_850
  let v1383 : BitVec 32 := Scalar.extui v1382
  let c0_i32_851 : BitVec 32 := 0#32
  let v1384 : BitVec 1 := Scalar.cmpi .ne v1383 c0_i32_851
  v1384

def k0_off202 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_852 : BitVec 32 := 2#32
  let v1385 : BitVec 1 := Scalar.cmpi .ne v2 c2_i32_852
  let v1386 : BitVec 32 := Scalar.extui v1385
  let c0_i32_853 : BitVec 32 := 0#32
  let v1387 : BitVec 1 := Scalar.cmpi .ne v1386 c0_i32_853
  v1387

def k0_off203 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_854 : BitVec 32 := 2#32
  let v1388 : BitVec 1 := Scalar.cmpi .ne v2 c2_i32_854
  let v1389 : BitVec 32 := Scalar.extui v1388
  let c0_i32_855 : BitVec 32 := 0#32
  let v1390 : BitVec 1 := Scalar.cmpi .ne v1389 c0_i32_855
  v1390

def k0_off204 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_856 : BitVec 32 := 3#32
  let v1391 : BitVec 1 := Scalar.cmpi .ne v2 c3_i32_856
  let v1392 : BitVec 32 := Scalar.extui v1391
  let c0_i32_857 : BitVec 32 := 0#32
  let v1393 : BitVec 1 := Scalar.cmpi .ne v1392 c0_i32_857
  v1393

def k0_off205 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_858 : BitVec 32 := 3#32
  let v1394 : BitVec 1 := Scalar.cmpi .ne v2 c3_i32_858
  let v1395 : BitVec 32 := Scalar.extui v1394
  let c0_i32_859 : BitVec 32 := 0#32
  let v1396 : BitVec 1 := Scalar.cmpi .ne v1395 c0_i32_859
  v1396

def k0_off206 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_860 : BitVec 32 := 4#32
  let v1397 : BitVec 1 := Scalar.cmpi .ne v2 c4_i32_860
  let v1398 : BitVec 32 := Scalar.extui v1397
  let c0_i32_861 : BitVec 32 := 0#32
  let v1399 : BitVec 1 := Scalar.cmpi .ne v1398 c0_i32_861
  v1399

def k0_off207 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_862 : BitVec 32 := 4#32
  let v1400 : BitVec 1 := Scalar.cmpi .ne v2 c4_i32_862
  let v1401 : BitVec 32 := Scalar.extui v1400
  let c0_i32_863 : BitVec 32 := 0#32
  let v1402 : BitVec 1 := Scalar.cmpi .ne v1401 c0_i32_863
  v1402

def k0_off208 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_864 : BitVec 32 := 5#32
  let v1403 : BitVec 1 := Scalar.cmpi .ne v2 c5_i32_864
  let v1404 : BitVec 32 := Scalar.extui v1403
  let c0_i32_865 : BitVec 32 := 0#32
  let v1405 : BitVec 1 := Scalar.cmpi .ne v1404 c0_i32_865
  v1405

def k0_off209 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_866 : BitVec 32 := 5#32
  let v1406 : BitVec 1 := Scalar.cmpi .ne v2 c5_i32_866
  let v1407 : BitVec 32 := Scalar.extui v1406
  let c0_i32_867 : BitVec 32 := 0#32
  let v1408 : BitVec 1 := Scalar.cmpi .ne v1407 c0_i32_867
  v1408

def k0_off210 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_868 : BitVec 32 := 6#32
  let v1409 : BitVec 1 := Scalar.cmpi .ne v2 c6_i32_868
  let v1410 : BitVec 32 := Scalar.extui v1409
  let c0_i32_869 : BitVec 32 := 0#32
  let v1411 : BitVec 1 := Scalar.cmpi .ne v1410 c0_i32_869
  v1411

def k0_off211 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_870 : BitVec 32 := 6#32
  let v1412 : BitVec 1 := Scalar.cmpi .ne v2 c6_i32_870
  let v1413 : BitVec 32 := Scalar.extui v1412
  let c0_i32_871 : BitVec 32 := 0#32
  let v1414 : BitVec 1 := Scalar.cmpi .ne v1413 c0_i32_871
  v1414

def k0_off212 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_872 : BitVec 32 := 7#32
  let v1415 : BitVec 1 := Scalar.cmpi .ne v2 c7_i32_872
  let v1416 : BitVec 32 := Scalar.extui v1415
  let c0_i32_873 : BitVec 32 := 0#32
  let v1417 : BitVec 1 := Scalar.cmpi .ne v1416 c0_i32_873
  v1417

def k0_off213 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_874 : BitVec 32 := 7#32
  let v1418 : BitVec 1 := Scalar.cmpi .ne v2 c7_i32_874
  let v1419 : BitVec 32 := Scalar.extui v1418
  let c0_i32_875 : BitVec 32 := 0#32
  let v1420 : BitVec 1 := Scalar.cmpi .ne v1419 c0_i32_875
  v1420

def k0_off214 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_876 : BitVec 32 := 8#32
  let v1421 : BitVec 1 := Scalar.cmpi .ne v2 c8_i32_876
  let v1422 : BitVec 32 := Scalar.extui v1421
  let c0_i32_877 : BitVec 32 := 0#32
  let v1423 : BitVec 1 := Scalar.cmpi .ne v1422 c0_i32_877
  v1423

def k0_off215 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_878 : BitVec 32 := 8#32
  let v1424 : BitVec 1 := Scalar.cmpi .ne v2 c8_i32_878
  let v1425 : BitVec 32 := Scalar.extui v1424
  let c0_i32_879 : BitVec 32 := 0#32
  let v1426 : BitVec 1 := Scalar.cmpi .ne v1425 c0_i32_879
  v1426

def k0_off216 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_880 : BitVec 32 := 9#32
  let v1427 : BitVec 1 := Scalar.cmpi .ne v2 c9_i32_880
  let v1428 : BitVec 32 := Scalar.extui v1427
  let c0_i32_881 : BitVec 32 := 0#32
  let v1429 : BitVec 1 := Scalar.cmpi .ne v1428 c0_i32_881
  v1429

def k0_off217 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_882 : BitVec 32 := 9#32
  let v1430 : BitVec 1 := Scalar.cmpi .ne v2 c9_i32_882
  let v1431 : BitVec 32 := Scalar.extui v1430
  let c0_i32_883 : BitVec 32 := 0#32
  let v1432 : BitVec 1 := Scalar.cmpi .ne v1431 c0_i32_883
  v1432

def k0_off218 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_884 : BitVec 32 := 10#32
  let v1433 : BitVec 1 := Scalar.cmpi .ne v2 c10_i32_884
  let v1434 : BitVec 32 := Scalar.extui v1433
  let c0_i32_885 : BitVec 32 := 0#32
  let v1435 : BitVec 1 := Scalar.cmpi .ne v1434 c0_i32_885
  v1435

def k0_off219 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_886 : BitVec 32 := 10#32
  let v1436 : BitVec 1 := Scalar.cmpi .ne v2 c10_i32_886
  let v1437 : BitVec 32 := Scalar.extui v1436
  let c0_i32_887 : BitVec 32 := 0#32
  let v1438 : BitVec 1 := Scalar.cmpi .ne v1437 c0_i32_887
  v1438

def k0_off220 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_888 : BitVec 32 := 11#32
  let v1439 : BitVec 1 := Scalar.cmpi .ne v2 c11_i32_888
  let v1440 : BitVec 32 := Scalar.extui v1439
  let c0_i32_889 : BitVec 32 := 0#32
  let v1441 : BitVec 1 := Scalar.cmpi .ne v1440 c0_i32_889
  v1441

def k0_off221 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_890 : BitVec 32 := 11#32
  let v1442 : BitVec 1 := Scalar.cmpi .ne v2 c11_i32_890
  let v1443 : BitVec 32 := Scalar.extui v1442
  let c0_i32_891 : BitVec 32 := 0#32
  let v1444 : BitVec 1 := Scalar.cmpi .ne v1443 c0_i32_891
  v1444

def k0_off222 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_892 : BitVec 32 := 12#32
  let v1445 : BitVec 1 := Scalar.cmpi .ne v2 c12_i32_892
  let v1446 : BitVec 32 := Scalar.extui v1445
  let c0_i32_893 : BitVec 32 := 0#32
  let v1447 : BitVec 1 := Scalar.cmpi .ne v1446 c0_i32_893
  v1447

def k0_off223 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_894 : BitVec 32 := 12#32
  let v1448 : BitVec 1 := Scalar.cmpi .ne v2 c12_i32_894
  let v1449 : BitVec 32 := Scalar.extui v1448
  let c0_i32_895 : BitVec 32 := 0#32
  let v1450 : BitVec 1 := Scalar.cmpi .ne v1449 c0_i32_895
  v1450

def k0_off224 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_896 : BitVec 32 := 13#32
  let v1451 : BitVec 1 := Scalar.cmpi .ne v2 c13_i32_896
  let v1452 : BitVec 32 := Scalar.extui v1451
  let c0_i32_897 : BitVec 32 := 0#32
  let v1453 : BitVec 1 := Scalar.cmpi .ne v1452 c0_i32_897
  v1453

def k0_off225 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_898 : BitVec 32 := 13#32
  let v1454 : BitVec 1 := Scalar.cmpi .ne v2 c13_i32_898
  let v1455 : BitVec 32 := Scalar.extui v1454
  let c0_i32_899 : BitVec 32 := 0#32
  let v1456 : BitVec 1 := Scalar.cmpi .ne v1455 c0_i32_899
  v1456

def k0_off226 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_900 : BitVec 32 := 14#32
  let v1457 : BitVec 1 := Scalar.cmpi .ne v2 c14_i32_900
  let v1458 : BitVec 32 := Scalar.extui v1457
  let c0_i32_901 : BitVec 32 := 0#32
  let v1459 : BitVec 1 := Scalar.cmpi .ne v1458 c0_i32_901
  v1459

def k0_off227 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_902 : BitVec 32 := 14#32
  let v1460 : BitVec 1 := Scalar.cmpi .ne v2 c14_i32_902
  let v1461 : BitVec 32 := Scalar.extui v1460
  let c0_i32_903 : BitVec 32 := 0#32
  let v1462 : BitVec 1 := Scalar.cmpi .ne v1461 c0_i32_903
  v1462

def k0_off228 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_904 : BitVec 32 := 15#32
  let v1463 : BitVec 1 := Scalar.cmpi .ne v2 c15_i32_904
  let v1464 : BitVec 32 := Scalar.extui v1463
  let c0_i32_905 : BitVec 32 := 0#32
  let v1465 : BitVec 1 := Scalar.cmpi .ne v1464 c0_i32_905
  v1465

def k0_off229 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_906 : BitVec 32 := 15#32
  let v1466 : BitVec 1 := Scalar.cmpi .ne v2 c15_i32_906
  let v1467 : BitVec 32 := Scalar.extui v1466
  let c0_i32_907 : BitVec 32 := 0#32
  let v1468 : BitVec 1 := Scalar.cmpi .ne v1467 c0_i32_907
  v1468

def k0_off230 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_908 : BitVec 32 := 16#32
  let v1469 : BitVec 1 := Scalar.cmpi .ne v2 c16_i32_908
  let v1470 : BitVec 32 := Scalar.extui v1469
  let c0_i32_909 : BitVec 32 := 0#32
  let v1471 : BitVec 1 := Scalar.cmpi .ne v1470 c0_i32_909
  v1471

def k0_off231 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_910 : BitVec 32 := 16#32
  let v1472 : BitVec 1 := Scalar.cmpi .ne v2 c16_i32_910
  let v1473 : BitVec 32 := Scalar.extui v1472
  let c0_i32_911 : BitVec 32 := 0#32
  let v1474 : BitVec 1 := Scalar.cmpi .ne v1473 c0_i32_911
  v1474

def k0_off232 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_912 : BitVec 32 := 17#32
  let v1475 : BitVec 1 := Scalar.cmpi .ne v2 c17_i32_912
  let v1476 : BitVec 32 := Scalar.extui v1475
  let c0_i32_913 : BitVec 32 := 0#32
  let v1477 : BitVec 1 := Scalar.cmpi .ne v1476 c0_i32_913
  v1477

def k0_off233 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_914 : BitVec 32 := 17#32
  let v1478 : BitVec 1 := Scalar.cmpi .ne v2 c17_i32_914
  let v1479 : BitVec 32 := Scalar.extui v1478
  let c0_i32_915 : BitVec 32 := 0#32
  let v1480 : BitVec 1 := Scalar.cmpi .ne v1479 c0_i32_915
  v1480

def k0_off234 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_916 : BitVec 32 := 18#32
  let v1481 : BitVec 1 := Scalar.cmpi .ne v2 c18_i32_916
  let v1482 : BitVec 32 := Scalar.extui v1481
  let c0_i32_917 : BitVec 32 := 0#32
  let v1483 : BitVec 1 := Scalar.cmpi .ne v1482 c0_i32_917
  v1483

def k0_off235 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_918 : BitVec 32 := 18#32
  let v1484 : BitVec 1 := Scalar.cmpi .ne v2 c18_i32_918
  let v1485 : BitVec 32 := Scalar.extui v1484
  let c0_i32_919 : BitVec 32 := 0#32
  let v1486 : BitVec 1 := Scalar.cmpi .ne v1485 c0_i32_919
  v1486

def k0_off236 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_920 : BitVec 32 := 19#32
  let v1487 : BitVec 1 := Scalar.cmpi .ne v2 c19_i32_920
  let v1488 : BitVec 32 := Scalar.extui v1487
  let c0_i32_921 : BitVec 32 := 0#32
  let v1489 : BitVec 1 := Scalar.cmpi .ne v1488 c0_i32_921
  v1489

def k0_off237 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_922 : BitVec 32 := 19#32
  let v1490 : BitVec 1 := Scalar.cmpi .ne v2 c19_i32_922
  let v1491 : BitVec 32 := Scalar.extui v1490
  let c0_i32_923 : BitVec 32 := 0#32
  let v1492 : BitVec 1 := Scalar.cmpi .ne v1491 c0_i32_923
  v1492

def k0_off238 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_924 : BitVec 32 := 20#32
  let v1493 : BitVec 1 := Scalar.cmpi .ne v2 c20_i32_924
  let v1494 : BitVec 32 := Scalar.extui v1493
  let c0_i32_925 : BitVec 32 := 0#32
  let v1495 : BitVec 1 := Scalar.cmpi .ne v1494 c0_i32_925
  v1495

def k0_off239 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_926 : BitVec 32 := 20#32
  let v1496 : BitVec 1 := Scalar.cmpi .ne v2 c20_i32_926
  let v1497 : BitVec 32 := Scalar.extui v1496
  let c0_i32_927 : BitVec 32 := 0#32
  let v1498 : BitVec 1 := Scalar.cmpi .ne v1497 c0_i32_927
  v1498

def k0_off240 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_928 : BitVec 32 := 21#32
  let v1499 : BitVec 1 := Scalar.cmpi .ne v2 c21_i32_928
  let v1500 : BitVec 32 := Scalar.extui v1499
  let c0_i32_929 : BitVec 32 := 0#32
  let v1501 : BitVec 1 := Scalar.cmpi .ne v1500 c0_i32_929
  v1501

def k0_off241 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_930 : BitVec 32 := 21#32
  let v1502 : BitVec 1 := Scalar.cmpi .ne v2 c21_i32_930
  let v1503 : BitVec 32 := Scalar.extui v1502
  let c0_i32_931 : BitVec 32 := 0#32
  let v1504 : BitVec 1 := Scalar.cmpi .ne v1503 c0_i32_931
  v1504

def k0_off242 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_932 : BitVec 32 := 22#32
  let v1505 : BitVec 1 := Scalar.cmpi .ne v2 c22_i32_932
  let v1506 : BitVec 32 := Scalar.extui v1505
  let c0_i32_933 : BitVec 32 := 0#32
  let v1507 : BitVec 1 := Scalar.cmpi .ne v1506 c0_i32_933
  v1507

def k0_off243 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_934 : BitVec 32 := 22#32
  let v1508 : BitVec 1 := Scalar.cmpi .ne v2 c22_i32_934
  let v1509 : BitVec 32 := Scalar.extui v1508
  let c0_i32_935 : BitVec 32 := 0#32
  let v1510 : BitVec 1 := Scalar.cmpi .ne v1509 c0_i32_935
  v1510

def k0_off244 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_936 : BitVec 32 := 23#32
  let v1511 : BitVec 1 := Scalar.cmpi .ne v2 c23_i32_936
  let v1512 : BitVec 32 := Scalar.extui v1511
  let c0_i32_937 : BitVec 32 := 0#32
  let v1513 : BitVec 1 := Scalar.cmpi .ne v1512 c0_i32_937
  v1513

def k0_off245 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_938 : BitVec 32 := 23#32
  let v1514 : BitVec 1 := Scalar.cmpi .ne v2 c23_i32_938
  let v1515 : BitVec 32 := Scalar.extui v1514
  let c0_i32_939 : BitVec 32 := 0#32
  let v1516 : BitVec 1 := Scalar.cmpi .ne v1515 c0_i32_939
  v1516

def k0_off246 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_940 : BitVec 32 := 24#32
  let v1517 : BitVec 1 := Scalar.cmpi .ne v2 c24_i32_940
  let v1518 : BitVec 32 := Scalar.extui v1517
  let c0_i32_941 : BitVec 32 := 0#32
  let v1519 : BitVec 1 := Scalar.cmpi .ne v1518 c0_i32_941
  v1519

def k0_off247 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_942 : BitVec 32 := 24#32
  let v1520 : BitVec 1 := Scalar.cmpi .ne v2 c24_i32_942
  let v1521 : BitVec 32 := Scalar.extui v1520
  let c0_i32_943 : BitVec 32 := 0#32
  let v1522 : BitVec 1 := Scalar.cmpi .ne v1521 c0_i32_943
  v1522

def k0_off248 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_944 : BitVec 32 := 25#32
  let v1523 : BitVec 1 := Scalar.cmpi .ne v2 c25_i32_944
  let v1524 : BitVec 32 := Scalar.extui v1523
  let c0_i32_945 : BitVec 32 := 0#32
  let v1525 : BitVec 1 := Scalar.cmpi .ne v1524 c0_i32_945
  v1525

def k0_off249 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_946 : BitVec 32 := 25#32
  let v1526 : BitVec 1 := Scalar.cmpi .ne v2 c25_i32_946
  let v1527 : BitVec 32 := Scalar.extui v1526
  let c0_i32_947 : BitVec 32 := 0#32
  let v1528 : BitVec 1 := Scalar.cmpi .ne v1527 c0_i32_947
  v1528

def k0_off250 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_948 : BitVec 32 := 26#32
  let v1529 : BitVec 1 := Scalar.cmpi .ne v2 c26_i32_948
  let v1530 : BitVec 32 := Scalar.extui v1529
  let c0_i32_949 : BitVec 32 := 0#32
  let v1531 : BitVec 1 := Scalar.cmpi .ne v1530 c0_i32_949
  v1531

def k0_off251 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_950 : BitVec 32 := 26#32
  let v1532 : BitVec 1 := Scalar.cmpi .ne v2 c26_i32_950
  let v1533 : BitVec 32 := Scalar.extui v1532
  let c0_i32_951 : BitVec 32 := 0#32
  let v1534 : BitVec 1 := Scalar.cmpi .ne v1533 c0_i32_951
  v1534

def k0_off252 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_952 : BitVec 32 := 27#32
  let v1535 : BitVec 1 := Scalar.cmpi .ne v2 c27_i32_952
  let v1536 : BitVec 32 := Scalar.extui v1535
  let c0_i32_953 : BitVec 32 := 0#32
  let v1537 : BitVec 1 := Scalar.cmpi .ne v1536 c0_i32_953
  v1537

def k0_off253 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_954 : BitVec 32 := 27#32
  let v1538 : BitVec 1 := Scalar.cmpi .ne v2 c27_i32_954
  let v1539 : BitVec 32 := Scalar.extui v1538
  let c0_i32_955 : BitVec 32 := 0#32
  let v1540 : BitVec 1 := Scalar.cmpi .ne v1539 c0_i32_955
  v1540

def k0_off254 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_956 : BitVec 32 := 28#32
  let v1541 : BitVec 1 := Scalar.cmpi .ne v2 c28_i32_956
  let v1542 : BitVec 32 := Scalar.extui v1541
  let c0_i32_957 : BitVec 32 := 0#32
  let v1543 : BitVec 1 := Scalar.cmpi .ne v1542 c0_i32_957
  v1543

def k0_off255 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_958 : BitVec 32 := 28#32
  let v1544 : BitVec 1 := Scalar.cmpi .ne v2 c28_i32_958
  let v1545 : BitVec 32 := Scalar.extui v1544
  let c0_i32_959 : BitVec 32 := 0#32
  let v1546 : BitVec 1 := Scalar.cmpi .ne v1545 c0_i32_959
  v1546

def k0_off256 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_960 : BitVec 32 := 29#32
  let v1547 : BitVec 1 := Scalar.cmpi .ne v2 c29_i32_960
  let v1548 : BitVec 32 := Scalar.extui v1547
  let c0_i32_961 : BitVec 32 := 0#32
  let v1549 : BitVec 1 := Scalar.cmpi .ne v1548 c0_i32_961
  v1549

def k0_off257 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_962 : BitVec 32 := 29#32
  let v1550 : BitVec 1 := Scalar.cmpi .ne v2 c29_i32_962
  let v1551 : BitVec 32 := Scalar.extui v1550
  let c0_i32_963 : BitVec 32 := 0#32
  let v1552 : BitVec 1 := Scalar.cmpi .ne v1551 c0_i32_963
  v1552

def k0_off258 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_964 : BitVec 32 := 30#32
  let v1553 : BitVec 1 := Scalar.cmpi .ne v2 c30_i32_964
  let v1554 : BitVec 32 := Scalar.extui v1553
  let c0_i32_965 : BitVec 32 := 0#32
  let v1555 : BitVec 1 := Scalar.cmpi .ne v1554 c0_i32_965
  v1555

def k0_off259 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_966 : BitVec 32 := 30#32
  let v1556 : BitVec 1 := Scalar.cmpi .ne v2 c30_i32_966
  let v1557 : BitVec 32 := Scalar.extui v1556
  let c0_i32_967 : BitVec 32 := 0#32
  let v1558 : BitVec 1 := Scalar.cmpi .ne v1557 c0_i32_967
  v1558

def k0_off260 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_968 : BitVec 32 := 31#32
  let v1559 : BitVec 1 := Scalar.cmpi .ne v2 c31_i32_968
  let v1560 : BitVec 32 := Scalar.extui v1559
  let c0_i32_969 : BitVec 32 := 0#32
  let v1561 : BitVec 1 := Scalar.cmpi .ne v1560 c0_i32_969
  v1561

def k0_off261 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v1565 : BitVec 32 := Scalar.muli v2 c128_i32
  let c0_i32_978 : BitVec 32 := 0#32
  ![v1565.toNat, 0]
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_970 : BitVec 32 := 31#32
  let v1562 : BitVec 1 := Scalar.cmpi .ne v2 c31_i32_970
  let v1563 : BitVec 32 := Scalar.extui v1562
  let c0_i32_971 : BitVec 32 := 0#32
  let v1564 : BitVec 1 := Scalar.cmpi .ne v1563 c0_i32_971
  v1564

def k0_off262 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_975 : BitVec 32 := 0#32
  ![v2.toNat, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Words.lean ====
/-
The numbers the kernel computes from its device number, in closed form: the chunk of weight columns it
takes at each turn, the peer a column slice is for, the rows and slots it names.
-/
module

public import proofs.«01_k».proof.Proof.Gen.KernelIdeal.Skeleton

@[expose] public section

noncomputable section

namespace Cert.KProof

open Cert.KernelIdeal Cert.KernelIdeal.Gen
open Idealize.ShloMosaic
open Idealize.SL.Sem

/-- The device's own number, as the kernel computes it. -/
abbrev myW (d : Dev nD) : BitVec 32 := Scalar.remsi (Scalar.divsi (Dev.word d) 1#32) 32#32

/-- The quotient of the device's number by four, rounded down, as the kernel computes it. -/
abbrev qW (d : Dev nD) : BitVec 32 :=
  Scalar.select
    (Scalar.andi
      (Scalar.cmpi .ne
        (Scalar.subi (Scalar.extui (Scalar.cmpi .sgt (myW d) 0#32)) (Scalar.extui (Scalar.cmpi .slt (myW d) 0#32)))
        (Scalar.subi (Scalar.extui (Scalar.cmpi .sgt 4#32 0#32)) (Scalar.extui (Scalar.cmpi .slt 4#32 0#32))))
      (Scalar.cmpi .ne (Scalar.remsi (myW d) 4#32) 0#32))
    (Scalar.subi (Scalar.divsi (myW d) 4#32) 1#32) (Scalar.divsi (myW d) 4#32)

/-- The chunk of columns taken at turn `u`, and the peer of its slice `t`. -/
abbrev chW (d : Dev nD) (u : BitVec 32) : BitVec 32 := Scalar.remsi (Scalar.addi u (qW d)) 8#32
abbrev jW (d : Dev nD) (u t : BitVec 32) : BitVec 32 := Scalar.addi (Scalar.muli (chW d u) 4#32) t

/-- A test for inequality the way the kernel's branches spell it. -/
abbrev neW (a b : BitVec 32) : BitVec 1 := Scalar.cmpi .ne (Scalar.extui (Scalar.cmpi .ne a b)) 0#32
abbrev eqW (a b : BitVec 32) : BitVec 1 := Scalar.cmpi .ne (Scalar.extui (Scalar.cmpi .eq a b)) 0#32

abbrev cw (i : Fin 8) : BitVec 32 := BitVec.ofNat 32 i.val
abbrev tw (i : Fin 4) : BitVec 32 := BitVec.ofNat 32 i.val
abbrev sw (i : Fin 32) : BitVec 32 := BitVec.ofNat 32 i.val
abbrev aw (i : Fin 31) : BitVec 32 := BitVec.ofNat 32 i.val

/-- Turn `u` of device `d` takes chunk `(u + d / 4) % 8`; its slice `t` is for peer `4 * chunk + t`. -/
def chOf (d : Dev nD) (u : Fin 8) : Fin 8 := ⟨(u.val + d.val / 4) % 8, Nat.mod_lt _ (by decide)⟩
def jOf (d : Dev nD) (u : Fin 8) (t : Fin 4) : Dev nD :=
  ⟨(u.val + d.val / 4) % 8 * 4 + t.val, by have := Nat.mod_lt (u.val + d.val / 4) (show 0 < 8 by decide); have := t.isLt; show _ < 32; omega⟩
/-- The `i`-th peer after `d`, counting from the next one. -/
def pOf (d : Dev nD) (i : Fin 31) : Dev nD := ⟨(d.val + 1 + i.val) % 32, Nat.mod_lt _ (by decide)⟩

abbrev peerW (d : Dev nD) (i : BitVec 32) : BitVec 32 := Scalar.remsi (Scalar.addi (Scalar.addi (myW d) 1#32) i) 32#32
abbrev devW (w : BitVec 32) : ℕ := (Scalar.addi 0#32 (Scalar.muli w 1#32)).toNat

theorem my_toNat : ∀ d : Dev nD, (myW d).toNat = d.val := by decide +kernel
theorem my128_toNat : ∀ d : Dev nD, (Scalar.muli (myW d) 128#32).toNat = 128 * d.val := by decide +kernel
theorem ch256_toNat : ∀ (d : Dev nD) (u : Fin 8), (Scalar.muli (chW d (cw u)) 256#32).toNat = 256 * (chOf d u).val := by decide +kernel
theorem j_toNat : ∀ (d : Dev nD) (u : Fin 8) (t : Fin 4), (jW d (cw u) (tw t)).toNat = (jOf d u t).val := by decide +kernel
theorem jdev_toNat : ∀ (d : Dev nD) (u : Fin 8) (t : Fin 4), devW (jW d (cw u) (tw t)) = (jOf d u t).val := by decide +kernel
theorem own_iff : ∀ (d : Dev nD) (u : Fin 8) (t : Fin 4), eqW (jW d (cw u) (tw t)) (myW d) = 1#1 ↔ jOf d u t = d := by decide +kernel
theorem other_iff : ∀ (d : Dev nD) (u : Fin 8) (t : Fin 4), neW (jW d (cw u) (tw t)) (myW d) = 1#1 ↔ jOf d u t ≠ d := by decide +kernel
theorem peer_toNat : ∀ (d : Dev nD) (i : Fin 31), (peerW d (aw i)).toNat = (pOf d i).val := by decide +kernel
theorem pdev_toNat : ∀ (d : Dev nD) (i : Fin 31), devW (peerW d (aw i)) = (pOf d i).val := by decide +kernel
theorem ne_iff : ∀ (d : Dev nD) (s : Fin 32), neW (myW d) (sw s) = 1#1 ↔ s ≠ d := by decide +kernel

end Cert.KProof

end
end
-- ==== Proof.Steps.lean ====
/-
The operations of the kernel's body, one definition per kind: in the words the kernel computes (`w…`) and at
the device, slot and row they name (`c…`), with the equality of the two.
-/
module

public import proofs.«01_k».proof.Proof.Words

@[expose] public section

noncomputable section

namespace Cert.KProof

open Cert.KernelIdeal Cert.KernelIdeal.Gen
open Idealize.ShloMosaic
open Idealize.ShloMosaic.TcCoe
open Idealize.SL.Sem

variable {F : FTy → Type} [FloatOps F]

variable (F) in
/-- A program of the kernel's tensor core. -/
abbrev P (α : Type) : Type 1 := Prog (TpuEff nD τ sig (Elt F) Λ₀ .tc) α

/-! ## The buffers and the semaphores -/

abbrev xM : Memref sig .tc .vmem S128x4096 .f32 := Memref.whole cc0_stg0_0
abbrev hM : Memref sig .tc .hbm S4096x2048 .f32 := Memref.whole main_arg1
abbrev oM : Memref sig .tc .vmem S4096x64 .f32 := Memref.whole cc0_stg1_0
abbrev wM : Memref sig .tc .vmem S8x4096x256 .f32 := Memref.whole cc0_scratch0
abbrev yM : Memref sig .tc .vmem S32x128x64 .bf16 := Memref.whole cc0_scratch1
abbrev rM : Memref sig .tc .vmem S4096x64 .bf16 := Memref.whole cc0_scratch2
abbrev aM : Memref sig .tc .vmem S1x128 .f32 := Memref.whole cc0_scratch3
abbrev zM : Memref sig .tc .vmem S32x128 .f32 := Memref.whole cc0_scratch4

abbrev barS : Sem sig := (SemArray.scalar (sig.barrier 0 rfl) : Sems sig S_).sem

abbrev InH (o : Fin 2 → ℕ) : Prop := ∀ a, o a + S4096x256.size a ≤ S4096x2048.size a
abbrev InW (o : Fin 3 → ℕ) : Prop := ∀ a, o a + S1x4096x256.size a ≤ S8x4096x256.size a
abbrev InY (o : Fin 3 → ℕ) : Prop := ∀ a, o a + S1x128x64.size a ≤ S32x128x64.size a
abbrev InR (o : Fin 2 → ℕ) : Prop := ∀ a, o a + S128x64.size a ≤ S4096x64.size a
abbrev InZ (o : Fin 2 → ℕ) : Prop := ∀ a, o a + S1x128.size a ≤ S32x128.size a
abbrev In8 (o : Fin 1 → ℕ) : Prop := ∀ a, o a + S1.size a ≤ S8.size a
abbrev In32 (o : Fin 1 → ℕ) : Prop := ∀ a, o a + S1.size a ≤ S32.size a

/-- Rectangles of the buffers at given offsets: a block of 256 columns of the weights, a slot of the weights'
    landing buffer, a slot of the outgoing and a row block of the incoming slices, a row of the incoming maxima. -/
abbrev hR (o : Fin 2 → ℕ) (h : InH o) : Rect S4096x2048 := Rect.unit (s := S4096x2048) o S4096x256.size h
abbrev wR (o : Fin 3 → ℕ) (h : InW o) : Rect S8x4096x256 := Rect.unit (s := S8x4096x256) o S1x4096x256.size h
abbrev yR (o : Fin 3 → ℕ) (h : InY o) : Rect S32x128x64 := Rect.unit (s := S32x128x64) o S1x128x64.size h
abbrev rR (o : Fin 2 → ℕ) (h : InR o) : Rect S4096x64 := Rect.unit (s := S4096x64) o S128x64.size h
abbrev zR (o : Fin 2 → ℕ) (h : InZ o) : Rect S32x128 := Rect.unit (s := S32x128) o S1x128.size h

abbrev hV (o) (h : InH o) : Memref sig .tc .hbm S4096x256 .f32 := hM.slice (hR o h) (fun _ => rfl)
abbrev wV (o) (h : InW o) : Memref sig .tc .vmem S4096x256 .f32 :=
  (wM.slice (wR o h) (fun _ => rfl)).squeeze S4096x256 squeezes_S1x4096x256_S4096x256
abbrev yV (o) (h : InY o) : Memref sig .tc .vmem S128x64 .bf16 :=
  (yM.slice (yR o h) (fun _ => rfl)).squeeze S128x64 squeezes_S1x128x64_S128x64
abbrev rV (o) (h : InR o) : Memref sig .tc .vmem S128x64 .bf16 := rM.slice (rR o h) (fun _ => rfl)
abbrev zV (o) (h : InZ o) : Memref sig .tc .vmem S1x128 .f32 := zM.slice (zR o h) (fun _ => rfl)

abbrev s8 (o : Fin 1 → ℕ) (h : In8 o) : DmaSem sig := ((cc0_scratch5.slice (Rect.unit (s := S8) o S1.size h)).squeeze S_ squeezes_S1_S_).sem
abbrev s32 (A : DmaSems sig S32) (o : Fin 1 → ℕ) (h : In32 o) : DmaSem sig := ((A.slice (Rect.unit (s := S32) o S1.size h)).squeeze S_ squeezes_S1_S_).sem

/-! ## The operations at given offsets -/

def opCopy (oh : Fin 2 → ℕ) (hh : InH oh) (ow : Fin 3 → ℕ) (hw : InW ow) (os : Fin 1 → ℕ) (hs : In8 os) : P F PUnit :=
  Prog.lift (.enqueueDma (hV oh hh) (.here (wV ow hw)) (.dma (s8 os hs)) (View.wordExact_bits rfl) ((View.wordExact_bits rfl).reshape _ _) ⟨Or.inl rfl, trivial⟩)
def opWaitW (oh : Fin 2 → ℕ) (hh : InH oh) (ow : Fin 3 → ℕ) (hw : InW ow) (os : Fin 1 → ℕ) (hs : In8 os) : P F PUnit :=
  Prog.lift (.waitDma2 (s8 os hs) (hV oh hh) (wV ow hw) (View.wordExact_bits rfl) ((View.wordExact_bits rfl).reshape _ _))
def opLoadW (ow : Fin 3 → ℕ) (hw : InW ow) : P F (Vec F S1x4096x256 .f32) :=
  Prog.lift (.load wM (wR ow hw).toLoadRect (View.loadsAt_vmem h_S1x4096x256))
def opLoadY (oy : Fin 3 → ℕ) (hy : InY oy) : P F (Vec F S1x128x64 .bf16) :=
  Prog.lift (.load yM (yR oy hy).toLoadRect (View.loadsAt_vmem h_S1x128x64))
def opStoreY (oy : Fin 3 → ℕ) (hy : InY oy) (hp : (yR oy hy).PackedRows (EltTy.packing .bf16)) (v : FVec F S1x128x64 .bf16) : P F PUnit :=
  Prog.lift (.store yM (yR oy hy) v Finset.univ (View.stores_vmem h_S1x128x64 ((Memref.isWhole_whole cc0_scratch1).storeExact_slice rfl _ hp) (fun _ => rfl)) (.inl rfl))
def opLoadR (o : Fin 2 → ℕ) (h : InR o) : P F (Vec F S128x64 .bf16) :=
  Prog.lift (.load rM (rR o h).toLoadRect (View.loadsAt_vmem h_S128x64))
def opStoreR (o : Fin 2 → ℕ) (h : InR o) (hp : (rR o h).PackedRows (EltTy.packing .bf16)) (v : FVec F S128x64 .bf16) : P F PUnit :=
  Prog.lift (.store rM (rR o h) v Finset.univ (View.stores_vmem h_S128x64 ((Memref.isWhole_whole cc0_scratch2).storeExact_slice rfl _ hp) (fun _ => rfl)) (.inl rfl))
def opSend (p : Dev nD) (oy : Fin 3 → ℕ) (hy : InY oy) (ky : (yR oy hy).WholeWords (EltTy.packing .bf16)) (o : Fin 2 → ℕ) (h : InR o)
    (k : (rR o h).WholeWords (EltTy.packing .bf16)) (o₁ : Fin 1 → ℕ) (h₁ : In32 o₁) (o₂ : Fin 1 → ℕ) (h₂ : In32 o₂) : P F PUnit :=
  Prog.lift (.enqueueDma (yV oy hy) (.remote (Dev.tc p) (rV o h) (.dma (s32 cc0_scratch6 o₁ h₁))) (.dma (s32 cc0_scratch7 o₂ h₂))
    (((Memref.isWhole_whole cc0_scratch1).wordExact_slice rfl _ ky).reshape _ _) ((Memref.isWhole_whole cc0_scratch2).wordExact_slice rfl _ k) ⟨⟨rfl, Or.inl rfl⟩, trivial⟩)
def opSendA (p : Dev nD) (o : Fin 2 → ℕ) (h : InZ o) (o₁ : Fin 1 → ℕ) (h₁ : In32 o₁) (o₂ : Fin 1 → ℕ) (h₂ : In32 o₂) : P F PUnit :=
  Prog.lift (.enqueueDma aM (.remote (Dev.tc p) (zV o h) (.dma (s32 cc0_scratch8 o₁ h₁))) (.dma (s32 cc0_scratch9 o₂ h₂))
    (Memref.isWhole_whole cc0_scratch3).wordExact (View.wordExact_bits rfl) ⟨⟨rfl, Or.inl rfl⟩, trivial⟩)
def opWaitA (o : Fin 2 → ℕ) (h : InZ o) (os : Fin 1 → ℕ) (hs : In32 os) : P F PUnit :=
  Prog.lift (.waitDma2 (s32 cc0_scratch9 os hs) aM (zV o h) (Memref.isWhole_whole cc0_scratch3).wordExact (View.wordExact_bits rfl))
def opWaitR (oy : Fin 3 → ℕ) (hy : InY oy) (ky : (yR oy hy).WholeWords (EltTy.packing .bf16)) (o : Fin 2 → ℕ) (h : InR o)
    (k : (rR o h).WholeWords (EltTy.packing .bf16)) (os : Fin 1 → ℕ) (hs : In32 os) : P F PUnit :=
  Prog.lift (.waitDma2 (s32 cc0_scratch7 os hs) (yV oy hy) (rV o h)
    (((Memref.isWhole_whole cc0_scratch1).wordExact_slice rfl _ ky).reshape _ _) ((Memref.isWhole_whole cc0_scratch2).wordExact_slice rfl _ k))
def opWaitS (oy : Fin 3 → ℕ) (hy : InY oy) (ky : (yR oy hy).WholeWords (EltTy.packing .bf16)) (o : Fin 2 → ℕ) (h : InR o)
    (k : (rR o h).WholeWords (EltTy.packing .bf16)) (os : Fin 1 → ℕ) (hs : In32 os) : P F PUnit :=
  Prog.lift (.waitDma2 (s32 cc0_scratch6 os hs) (rV o h) (yV oy hy)
    ((Memref.isWhole_whole cc0_scratch2).wordExact_slice rfl _ k) (((Memref.isWhole_whole cc0_scratch1).wordExact_slice rfl _ ky).reshape _ _))
def opWaitT (o : Fin 2 → ℕ) (h : InZ o) (os : Fin 1 → ℕ) (hs : In32 os) : P F PUnit :=
  Prog.lift (.waitDma2 (s32 cc0_scratch8 os hs) (zV o h) aM (View.wordExact_bits rfl) (Memref.isWhole_whole cc0_scratch3).wordExact)
def opLoadZ (o : Fin 2 → ℕ) (h : InZ o) : P F (Vec F S1x128 .f32) :=
  Prog.lift (.load zM (zR o h).toLoadRect (View.loadsAt_vmem h_S1x128))
def opStoreZ (o : Fin 2 → ℕ) (h : InZ o) (v : FVec F S1x128 .f32) : P F PUnit :=
  Prog.lift (.store zM (zR o h) v Finset.univ (View.stores_vmem_bits_univ h_S1x128 rfl) (.inl rfl))

/-- The operations on whole buffers. -/
def cLoadX : P F (Vec F S128x4096 .f32) :=
  Prog.lift (.load xM (Rect.unit (s := S128x4096) ![0, 0] S128x4096.size inb_S128x4096_S128x4096_0_0).toLoadRect (View.loadsAt_vmem h_S128x4096))
def cLoadA : P F (Vec F S1x128 .f32) :=
  Prog.lift (.load aM (Rect.unit (s := S1x128) ![0, 0] S1x128.size inb_S1x128_S1x128_0_0).toLoadRect (View.loadsAt_vmem h_S1x128))
def cStoreA (v : FVec F S1x128 .f32) : P F PUnit :=
  Prog.lift (.store aM (Rect.unit (s := S1x128) ![0, 0] S1x128.size inb_S1x128_S1x128_0_0) v Finset.univ (View.stores_vmem_bits_univ h_S1x128 rfl) (.inl rfl))
def cLoadZs : P F (Vec F S32x128 .f32) :=
  Prog.lift (.load zM (Rect.unit (s := S32x128) ![0, 0] S32x128.size inb_S32x128_S32x128_0_0).toLoadRect (View.loadsAt_vmem h_S32x128))
def cLoadRs : P F (Vec F S4096x64 .bf16) :=
  Prog.lift (.load rM (Rect.unit (s := S4096x64) ![0, 0] S4096x64.size inb_S4096x64_S4096x64_0_0).toLoadRect (View.loadsAt_vmem h_S4096x64))
def cLoadO : P F (Vec F S4096x64 .f32) :=
  Prog.lift (.load oM (Rect.unit (s := S4096x64) ![0, 0] S4096x64.size inb_S4096x64_S4096x64_0_0).toLoadRect (View.loadsAt_vmem h_S4096x64))
def cStoreO (v : FVec F S4096x64 .f32) : P F PUnit :=
  Prog.lift (.store oM (Rect.unit (s := S4096x64) ![0, 0] S4096x64.size inb_S4096x64_S4096x64_0_0) v Finset.univ (View.stores_vmem_bits_univ h_S4096x64 rfl) (.inl rfl))
def cWaitB : P F PUnit := semWaitWord barS 31#32

/-! ## The offsets in closed form, and what holds of them -/

theorem hC_inb : ∀ (k : Fin 8), ∀ a, (![0, 256 * k.val] : Fin 2 → ℕ) a + S4096x256.size a ≤ S4096x2048.size a := by decide +kernel
theorem wC_inb : ∀ (u : Fin 8), ∀ a, (![u.val, 0, 0] : Fin 3 → ℕ) a + S1x4096x256.size a ≤ S8x4096x256.size a := by decide +kernel
theorem yC_inb : ∀ (j : Dev nD), ∀ a, (![j.val, 0, 0] : Fin 3 → ℕ) a + S1x128x64.size a ≤ S32x128x64.size a := by decide +kernel
theorem rC_inb : ∀ (j : Dev nD), ∀ a, (![128 * j.val, 0] : Fin 2 → ℕ) a + S128x64.size a ≤ S4096x64.size a := by decide +kernel
theorem zC_inb : ∀ (j : Dev nD), ∀ a, (![j.val, 0] : Fin 2 → ℕ) a + S1x128.size a ≤ S32x128.size a := by decide +kernel
theorem s8_inb : ∀ (u : Fin 8), ∀ a, (![u.val] : Fin 1 → ℕ) a + S1.size a ≤ S8.size a := by decide +kernel
theorem s32_inb : ∀ (j : Dev nD), ∀ a, (![j.val] : Fin 1 → ℕ) a + S1.size a ≤ S32.size a := by decide +kernel
theorem yC_packed : ∀ (j : Dev nD), (yR ![j.val, 0, 0] (yC_inb j)).PackedRows (EltTy.packing .bf16) := by decide +kernel
theorem rC_packed : ∀ (j : Dev nD), (rR ![128 * j.val, 0] (rC_inb j)).PackedRows (EltTy.packing .bf16) := by decide +kernel
theorem yC_words (j : Dev nD) : (yR ![j.val, 0, 0] (yC_inb j)).WholeWords (EltTy.packing .bf16) := (yC_packed j).wholeWords
theorem rC_words (j : Dev nD) : (rR ![128 * j.val, 0] (rC_inb j)).WholeWords (EltTy.packing .bf16) := (rC_packed j).wholeWords

/-! ## The operations at the device, slot and row -/

def cSig (p : Dev nD) : P F PUnit := semSignalWord p barS 1#32
def cCopy (k u : Fin 8) : P F PUnit := opCopy ![0, 256 * k.val] (hC_inb k) ![u.val, 0, 0] (wC_inb u) ![u.val] (s8_inb u)
def cWaitW (k u : Fin 8) : P F PUnit := opWaitW ![0, 256 * k.val] (hC_inb k) ![u.val, 0, 0] (wC_inb u) ![u.val] (s8_inb u)
def cLoadW (u : Fin 8) : P F (Vec F S1x4096x256 .f32) := opLoadW ![u.val, 0, 0] (wC_inb u)
def cLoadY (j : Dev nD) : P F (Vec F S1x128x64 .bf16) := opLoadY ![j.val, 0, 0] (yC_inb j)
def cStoreY (j : Dev nD) (v : FVec F S1x128x64 .bf16) : P F PUnit := opStoreY ![j.val, 0, 0] (yC_inb j) (yC_packed j) v
def cLoadR (d : Dev nD) : P F (Vec F S128x64 .bf16) := opLoadR ![128 * d.val, 0] (rC_inb d)
def cStoreR (d : Dev nD) (v : FVec F S128x64 .bf16) : P F PUnit := opStoreR ![128 * d.val, 0] (rC_inb d) (rC_packed d) v
def cSend (d j : Dev nD) : P F PUnit :=
  opSend j ![j.val, 0, 0] (yC_inb j) (yC_words j) ![128 * d.val, 0] (rC_inb d) (rC_words d) ![j.val] (s32_inb j) ![d.val] (s32_inb d)
def cSendA (d j : Dev nD) : P F PUnit := opSendA j ![d.val, 0] (zC_inb d) ![j.val] (s32_inb j) ![d.val] (s32_inb d)
def cWaitA (s : Dev nD) : P F PUnit := opWaitA ![s.val, 0] (zC_inb s) ![s.val] (s32_inb s)
def cWaitR (s : Dev nD) : P F PUnit :=
  opWaitR ![s.val, 0, 0] (yC_inb s) (yC_words s) ![128 * s.val, 0] (rC_inb s) (rC_words s) ![s.val] (s32_inb s)
def cWaitS (d s : Dev nD) : P F PUnit :=
  opWaitS ![s.val, 0, 0] (yC_inb s) (yC_words s) ![128 * d.val, 0] (rC_inb d) (rC_words d) ![s.val] (s32_inb s)
def cWaitT (d s : Dev nD) : P F PUnit := opWaitT ![d.val, 0] (zC_inb d) ![s.val] (s32_inb s)
def cLoadZ (d : Dev nD) : P F (Vec F S1x128 .f32) := opLoadZ ![d.val, 0] (zC_inb d)
def cStoreZ (d : Dev nD) (v : FVec F S1x128 .f32) : P F PUnit := opStoreZ ![d.val, 0] (zC_inb d) v

/-! ## The operations in the kernel's words -/

section Offsets
variable (d : Dev nD) (u : Fin 8) (t : Fin 4) (i : Fin 31)

abbrev hO : Fin 2 → ℕ := ![0, (Scalar.muli (chW d (cw u)) 256#32).toNat]
abbrev yO : Fin 3 → ℕ := ![(jW d (cw u) (tw t)).toNat, 0, 0]
abbrev rO : Fin 2 → ℕ := ![(Scalar.muli (myW d) 128#32).toNat, 0]
abbrev zO : Fin 2 → ℕ := ![(myW d).toNat, 0]
abbrev jO : Fin 1 → ℕ := ![(jW d (cw u) (tw t)).toNat]
abbrev mO : Fin 1 → ℕ := ![(myW d).toNat]
abbrev pO : Fin 1 → ℕ := ![(peerW d (aw i)).toNat]

theorem hO_eq : hO d u = ![0, 256 * (chOf d u).val] := by unfold hO; rw [ch256_toNat]
theorem yO_eq : yO d u t = ![(jOf d u t).val, 0, 0] := by unfold yO; rw [j_toNat]
theorem rO_eq : rO d = ![128 * d.val, 0] := by unfold rO; rw [my128_toNat]
theorem zO_eq : zO d = ![d.val, 0] := by unfold zO; rw [my_toNat]
theorem jO_eq : jO d u t = ![(jOf d u t).val] := by unfold jO; rw [j_toNat]
theorem mO_eq : mO d = ![d.val] := by unfold mO; rw [my_toNat]
theorem pO_eq : pO d i = ![(pOf d i).val] := by unfold pO; rw [peer_toNat]
theorem hO_inb : ∀ a, hO d u a + S4096x256.size a ≤ S4096x2048.size a := by rw [hO_eq]; exact hC_inb _
theorem yO_inb : ∀ a, yO d u t a + S1x128x64.size a ≤ S32x128x64.size a := by rw [yO_eq]; exact yC_inb _
theorem rO_inb : ∀ a, rO d a + S128x64.size a ≤ S4096x64.size a := by rw [rO_eq]; exact rC_inb _
theorem zO_inb : ∀ a, zO d a + S1x128.size a ≤ S32x128.size a := by rw [zO_eq]; exact zC_inb _
theorem jO_inb : ∀ a, jO d u t a + S1.size a ≤ S32.size a := by rw [jO_eq]; exact s32_inb _
theorem mO_inb : ∀ a, mO d a + S1.size a ≤ S32.size a := by rw [mO_eq]; exact s32_inb _
theorem pO_inb : ∀ a, pO d i a + S1.size a ≤ S32.size a := by rw [pO_eq]; exact s32_inb _

theorem yR_packed_of {o o' : Fin 3 → ℕ} (h : ∀ a, o a + S1x128x64.size a ≤ S32x128x64.size a) (h') (e : o = o')
    (k : (yR o' h').PackedRows (EltTy.packing .bf16)) : (yR o h).PackedRows (EltTy.packing .bf16) := by subst e; exact k
theorem rR_packed_of {o o' : Fin 2 → ℕ} (h : ∀ a, o a + S128x64.size a ≤ S4096x64.size a) (h') (e : o = o')
    (k : (rR o' h').PackedRows (EltTy.packing .bf16)) : (rR o h).PackedRows (EltTy.packing .bf16) := by subst e; exact k
theorem yO_packed : (yR (yO d u t) (yO_inb d u t)).PackedRows (EltTy.packing .bf16) := yR_packed_of _ _ (yO_eq d u t) (yC_packed _)
theorem rO_packed : (rR (rO d) (rO_inb d)).PackedRows (EltTy.packing .bf16) := rR_packed_of _ _ (rO_eq d) (rC_packed _)

theorem jdev_lt : devW (jW d (cw u) (tw t)) < nD := by rw [jdev_toNat]; exact (jOf d u t).isLt
theorem pdev_lt : devW (peerW d (aw i)) < nD := by rw [pdev_toNat]; exact (pOf d i).isLt
end Offsets

def wSig (d : Dev nD) (i : Fin 31) : P F PUnit := semSignalWord (⟨devW (peerW d (aw i)), pdev_lt d i⟩ : Dev nD) barS 1#32
def wCopy (d : Dev nD) (u : Fin 8) : P F PUnit := opCopy (hO d u) (hO_inb d u) ![u.val, 0, 0] (wC_inb u) ![u.val] (s8_inb u)
def wWaitW (d : Dev nD) (u : Fin 8) : P F PUnit := opWaitW (hO d u) (hO_inb d u) ![u.val, 0, 0] (wC_inb u) ![u.val] (s8_inb u)
def wLoadY (d : Dev nD) (u : Fin 8) (t : Fin 4) : P F (Vec F S1x128x64 .bf16) := opLoadY (yO d u t) (yO_inb d u t)
def wStoreY (d : Dev nD) (u : Fin 8) (t : Fin 4) (v : FVec F S1x128x64 .bf16) : P F PUnit := opStoreY (yO d u t) (yO_inb d u t) (yO_packed d u t) v
def wOwn (d : Dev nD) (u : Fin 8) (t : Fin 4) : P F PUnit :=
  opLoadY (yO d u t) (yO_inb d u t) >>= fun v => opLoadR (rO d) (rO_inb d) >>= fun _ => opStoreR (rO d) (rO_inb d) (rO_packed d) (k0_pay6 v)
def wSend (d : Dev nD) (u : Fin 8) (t : Fin 4) : P F PUnit :=
  opSend ⟨devW (jW d (cw u) (tw t)), jdev_lt d u t⟩ (yO d u t) (yO_inb d u t) (yO_packed d u t).wholeWords (rO d) (rO_inb d) (rO_packed d).wholeWords
    (jO d u t) (jO_inb d u t) (mO d) (mO_inb d)
def wLoadZ (d : Dev nD) : P F (Vec F S1x128 .f32) := opLoadZ (zO d) (zO_inb d)
def wStoreZ (d : Dev nD) (v : FVec F S1x128 .f32) : P F PUnit := opStoreZ (zO d) (zO_inb d) v
def wSendA (d : Dev nD) (i : Fin 31) : P F PUnit :=
  opSendA ⟨devW (peerW d (aw i)), pdev_lt d i⟩ (zO d) (zO_inb d) (pO d i) (pO_inb d i) (mO d) (mO_inb d)
def wWaitS (d : Dev nD) (s : Dev nD) : P F PUnit :=
  opWaitS ![s.val, 0, 0] (yC_inb s) (yC_words s) (rO d) (rO_inb d) (rO_packed d).wholeWords ![s.val] (s32_inb s)
def wWaitT (d : Dev nD) (s : Dev nD) : P F PUnit := opWaitT (zO d) (zO_inb d) ![s.val] (s32_inb s)

/-- A branch that runs `A` where `c` holds and goes on with `K` either way. -/
def condK {α : Type} (c : Prop) [Decidable c] (A : P F PUnit) (K : P F α) : P F α := if _h : c then A >>= fun _ => K else K

theorem condK_bind {α β : Type} (c : Prop) [Decidable c] (A : P F PUnit) (K : P F α) (G : α → P F β) :
    condK c A K >>= G = condK c A (K >>= G) := by
  unfold condK; split
  · rw [Prog.bind_assoc]
  · rfl

/-! ## The kernel's words name the devices, slots and rows -/

section Equal
variable (d : Dev nD) (u : Fin 8) (t : Fin 4) (i : Fin 31)

theorem wSig_eq : wSig (F := F) d i = cSig (pOf d i) := by
  unfold wSig cSig; rw [show (⟨devW (peerW d (aw i)), pdev_lt d i⟩ : Dev nD) = pOf d i from Fin.ext (pdev_toNat d i)]
theorem opCopy_congr {oh oh' : Fin 2 → ℕ} (e : oh = oh') (hh hh' ow hw os hs) :
    opCopy (F := F) oh hh ow hw os hs = opCopy oh' hh' ow hw os hs := by subst e; rfl
theorem opWaitW_congr {oh oh' : Fin 2 → ℕ} (e : oh = oh') (hh hh' ow hw os hs) :
    opWaitW (F := F) oh hh ow hw os hs = opWaitW oh' hh' ow hw os hs := by subst e; rfl
theorem wCopy_eq : wCopy (F := F) d u = cCopy (chOf d u) u := opCopy_congr (hO_eq d u) ..
theorem wWaitW_eq : wWaitW (F := F) d u = cWaitW (chOf d u) u := opWaitW_congr (hO_eq d u) ..
theorem opLoadY_congr {o o' : Fin 3 → ℕ} (e : o = o') (h h') : opLoadY (F := F) o h = opLoadY o' h' := by subst e; rfl
theorem opLoadR_congr {o o' : Fin 2 → ℕ} (e : o = o') (h h') : opLoadR (F := F) o h = opLoadR o' h' := by subst e; rfl
theorem opLoadZ_congr {o o' : Fin 2 → ℕ} (e : o = o') (h h') : opLoadZ (F := F) o h = opLoadZ o' h' := by subst e; rfl
theorem opStoreY_congr {o o' : Fin 3 → ℕ} (e : o = o') (h h' k k' v) : opStoreY (F := F) o h k v = opStoreY o' h' k' v := by subst e; rfl
theorem opStoreR_congr {o o' : Fin 2 → ℕ} (e : o = o') (h h' k k' v) : opStoreR (F := F) o h k v = opStoreR o' h' k' v := by subst e; rfl
theorem opStoreZ_congr {o o' : Fin 2 → ℕ} (e : o = o') (h h' v) : opStoreZ (F := F) o h v = opStoreZ o' h' v := by subst e; rfl
theorem opSend_congr {p p' : Dev nD} {oy oy' : Fin 3 → ℕ} {o o' : Fin 2 → ℕ} {o₁ o₁' o₂ o₂' : Fin 1 → ℕ} (ep : p = p') (ey : oy = oy') (e : o = o')
    (e₁ : o₁ = o₁') (e₂ : o₂ = o₂') (hy hy' ky ky' h h' k k' h₁ h₁' h₂ h₂') :
    opSend (F := F) p oy hy ky o h k o₁ h₁ o₂ h₂ = opSend p' oy' hy' ky' o' h' k' o₁' h₁' o₂' h₂' := by subst ep ey e e₁ e₂; rfl
theorem opSendA_congr {p p' : Dev nD} {o o' : Fin 2 → ℕ} {o₁ o₁' o₂ o₂' : Fin 1 → ℕ} (ep : p = p') (e : o = o')
    (e₁ : o₁ = o₁') (e₂ : o₂ = o₂') (h h' h₁ h₁' h₂ h₂') :
    opSendA (F := F) p o h o₁ h₁ o₂ h₂ = opSendA p' o' h' o₁' h₁' o₂' h₂' := by subst ep e e₁ e₂; rfl
theorem opWaitS_congr {o o' : Fin 2 → ℕ} (e : o = o') (oy hy ky h h' k k' os hs) :
    opWaitS (F := F) oy hy ky o h k os hs = opWaitS oy hy ky o' h' k' os hs := by subst e; rfl
theorem opWaitT_congr {o o' : Fin 2 → ℕ} (e : o = o') (h h' os hs) : opWaitT (F := F) o h os hs = opWaitT o' h' os hs := by subst e; rfl

theorem wLoadY_eq : wLoadY (F := F) d u t = cLoadY (jOf d u t) := opLoadY_congr (yO_eq d u t) ..
theorem wStoreY_eq (v) : wStoreY (F := F) d u t v = cStoreY (jOf d u t) v := opStoreY_congr (yO_eq d u t) ..
theorem wLoadZ_eq : wLoadZ (F := F) d = cLoadZ d := opLoadZ_congr (zO_eq d) ..
theorem wStoreZ_eq (v) : wStoreZ (F := F) d v = cStoreZ d v := opStoreZ_congr (zO_eq d) ..
theorem wSend_eq : wSend (F := F) d u t = cSend d (jOf d u t) :=
  opSend_congr (Fin.ext (jdev_toNat d u t)) (yO_eq d u t) (rO_eq d) (jO_eq d u t) (mO_eq d) ..
theorem wSendA_eq : wSendA (F := F) d i = cSendA d (pOf d i) :=
  opSendA_congr (Fin.ext (pdev_toNat d i)) (zO_eq d) (pO_eq d i) (mO_eq d) ..
theorem wWaitS_eq (s) : wWaitS (F := F) d s = cWaitS d s := opWaitS_congr (rO_eq d) ..
theorem wWaitT_eq (s) : wWaitT (F := F) d s = cWaitT d s := opWaitT_congr (zO_eq d) ..

/-- The own slice, copied from the outgoing slots to the incoming rows. -/
def cOwn (d : Dev nD) : P F PUnit := cLoadY d >>= fun v => cLoadR d >>= fun _ => cStoreR d (k0_pay6 v)
theorem wOwn_eq : wOwn (F := F) d u t =
    (cLoadY (jOf d u t) >>= fun v => cLoadR d >>= fun _ => cStoreR d (k0_pay6 v)) := by
  unfold wOwn
  rw [opLoadY_congr (yO_eq d u t) _ (yC_inb _), opLoadR_congr (rO_eq d) _ (rC_inb _)]
  show Prog.bind _ _ = Prog.bind _ _
  congr 1; funext v
  show Prog.bind _ _ = Prog.bind _ _
  congr 1; funext _
  exact opStoreR_congr (rO_eq d) _ (rC_inb _) _ (rC_packed _) _
end Equal

/-- The three kinds of branch. -/
def wOwnK {α : Type} (d : Dev nD) (u : Fin 8) (t : Fin 4) (K : P F α) : P F α := condK (eqW (jW d (cw u) (tw t)) (myW d) = 1#1) (wOwn d u t) K
def wSendK {α : Type} (d : Dev nD) (u : Fin 8) (t : Fin 4) (K : P F α) : P F α := condK (neW (jW d (cw u) (tw t)) (myW d) = 1#1) (wSend d u t) K
def wIfK {α : Type} (d : Dev nD) (s : Dev nD) (A : P F PUnit) (K : P F α) : P F α := condK (neW (myW d) (sw s) = 1#1) A K

end Cert.KProof

end
end
-- ==== Proof.Flat.lean ====
/-
The printed text of the kernel's body, part by part, as sequences of the named operations.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL.Sem

variable {F : FTy → Type} [FloatOps F]

set_option maxRecDepth 65536 in
theorem part1_flat  :
    k0_part1 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9  =
      (Prog.lift (.deviceId) >>= fun d =>
      let v0 : BitVec 32 := Dev.word d;
      let v1 : BitVec 32 := Scalar.divsi v0 1#32;
      let v2 : BitVec 32 := Scalar.remsi v1 32#32;
      let v3 : Sems sig S_ := SemArray.scalar (sig.barrier 0 rfl);
      wSig d 0 >>= fun _ =>
      wSig d 1 >>= fun _ =>
      wSig d 2 >>= fun _ =>
      wSig d 3 >>= fun _ =>
      let v24 : BitVec 32 := Scalar.addi v2 1#32;
      let v25 : BitVec 32 := Scalar.addi v24 4#32;
      Prog.ret ⟨d, v2, v3, v25, 32#32⟩) := by
  rw [k0_part1_eq_skeleton]; rfl

set_option maxRecDepth 65536 in
theorem part2_flat (d : Dev nD) (v25 : BitVec 32) (c32_i32_22 : BitVec 32) :
    k0_part2 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (SemArray.scalar (sig.barrier 0 rfl)) v25 c32_i32_22 =
      (wSig d 4 >>= fun _ =>
      wSig d 5 >>= fun _ =>
      wSig d 6 >>= fun _ =>
      wSig d 7 >>= fun _ =>
      wSig d 8 >>= fun _ =>
      let v49 : BitVec 32 := Scalar.addi (myW d) 1#32;
      let v50 : BitVec 32 := Scalar.addi v49 9#32;
      Prog.ret ⟨v50, 32#32⟩) := by
  rw [k0_part2_eq_skeleton]; rfl

set_option maxRecDepth 65536 in
theorem part3_flat (d : Dev nD) (v50 : BitVec 32) (c32_i32_47 : BitVec 32) :
    k0_part3 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (SemArray.scalar (sig.barrier 0 rfl)) v50 c32_i32_47 =
      (wSig d 9 >>= fun _ =>
      wSig d 10 >>= fun _ =>
      wSig d 11 >>= fun _ =>
      wSig d 12 >>= fun _ =>
      wSig d 13 >>= fun _ =>
      let v74 : BitVec 32 := Scalar.addi (myW d) 1#32;
      let v75 : BitVec 32 := Scalar.addi v74 14#32;
      Prog.ret ⟨v75, 32#32⟩) := by
  rw [k0_part3_eq_skeleton]; rfl

set_option maxRecDepth 65536 in
theorem part4_flat (d : Dev nD) (v75 : BitVec 32) (c32_i32_72 : BitVec 32) :
    k0_part4 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (SemArray.scalar (sig.barrier 0 rfl)) v75 c32_i32_72 =
      (wSig d 14 >>= fun _ =>
      wSig d 15 >>= fun _ =>
      wSig d 16 >>= fun _ =>
      wSig d 17 >>= fun _ =>
      wSig d 18 >>= fun _ =>
      let v99 : BitVec 32 := Scalar.addi (myW d) 1#32;
      let v100 : BitVec 32 := Scalar.addi v99 19#32;
      Prog.ret ⟨v100, 32#32⟩) := by
  rw [k0_part4_eq_skeleton]; rfl

set_option maxRecDepth 65536 in
theorem part5_flat (d : Dev nD) (v100 : BitVec 32) (c32_i32_97 : BitVec 32) :
    k0_part5 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (SemArray.scalar (sig.barrier 0 rfl)) v100 c32_i32_97 =
      (wSig d 19 >>= fun _ =>
      wSig d 20 >>= fun _ =>
      wSig d 21 >>= fun _ =>
      wSig d 22 >>= fun _ =>
      wSig d 23 >>= fun _ =>
      let v124 : BitVec 32 := Scalar.addi (myW d) 1#32;
      let v125 : BitVec 32 := Scalar.addi v124 24#32;
      Prog.ret ⟨v125, 32#32⟩) := by
  rw [k0_part5_eq_skeleton]; rfl

set_option maxRecDepth 65536 in
theorem part6_flat (d : Dev nD) (v125 : BitVec 32) (c32_i32_122 : BitVec 32) :
    k0_part6 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (SemArray.scalar (sig.barrier 0 rfl)) v125 c32_i32_122 =
      (wSig d 24 >>= fun _ =>
      wSig d 25 >>= fun _ =>
      wSig d 26 >>= fun _ =>
      wSig d 27 >>= fun _ =>
      wSig d 28 >>= fun _ =>
      let v149 : BitVec 32 := Scalar.addi (myW d) 1#32;
      let v150 : BitVec 32 := Scalar.addi v149 29#32;
      Prog.ret ⟨v150, 32#32⟩) := by
  rw [k0_part6_eq_skeleton]; rfl

set_option maxRecDepth 65536 in
theorem part7_flat (d : Dev nD) (v150 : BitVec 32) (c32_i32_147 : BitVec 32) :
    k0_part7 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (SemArray.scalar (sig.barrier 0 rfl)) v150 c32_i32_147 =
      (wSig d 29 >>= fun _ =>
      wSig d 30 >>= fun _ =>
      cWaitB >>= fun _ =>
      let v159 : BitVec 32 := Scalar.divsi (myW d) 4#32;
      let v160 : BitVec 1 := Scalar.cmpi .sgt (myW d) 0#32;
      let v161 : BitVec 32 := Scalar.extui v160;
      let v162 : BitVec 1 := Scalar.cmpi .slt (myW d) 0#32;
      let v163 : BitVec 32 := Scalar.extui v162;
      let v164 : BitVec 32 := Scalar.subi v161 v163;
      let v165 : BitVec 1 := Scalar.cmpi .sgt 4#32 0#32;
      let v166 : BitVec 32 := Scalar.extui v165;
      let v167 : BitVec 1 := Scalar.cmpi .slt 4#32 0#32;
      let v168 : BitVec 32 := Scalar.extui v167;
      let v169 : BitVec 32 := Scalar.subi v166 v168;
      let v170 : BitVec 1 := Scalar.cmpi .ne v164 v169;
      let v171 : BitVec 32 := Scalar.remsi (myW d) 4#32;
      let v172 : BitVec 1 := Scalar.cmpi .ne v171 0#32;
      let v173 : BitVec 1 := Scalar.andi v170 v172;
      let v174 : BitVec 32 := Scalar.subi v159 1#32;
      let v175 : BitVec 32 := Scalar.select v173 v174 v159;
      Prog.ret v175) := by
  rw [k0_part7_eq_skeleton]; rfl

set_option maxRecDepth 65536 in
theorem part8_flat (d : Dev nD) :
    k0_part8 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (qW d) =
      (wCopy d 0 >>= fun _ =>
      wCopy d 1 >>= fun _ =>
      wCopy d 2 >>= fun _ =>
      wCopy d 3 >>= fun _ =>
      Prog.ret ⟨⟩) := by
  rw [k0_part8_eq_skeleton]; rfl

set_option maxRecDepth 65536 in
theorem part9_flat (d : Dev nD) :
    k0_part9 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (qW d) =
      (wCopy d 4 >>= fun _ =>
      wCopy d 5 >>= fun _ =>
      wCopy d 6 >>= fun _ =>
      Prog.ret ⟨⟩) := by
  rw [k0_part9_eq_skeleton]; rfl

set_option maxRecDepth 65536 in
theorem part10_flat (d : Dev nD) :
    k0_part10 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (qW d) =
      (wCopy d 7 >>= fun _ =>
      cLoadX >>= fun v240 =>
      let v243 : BitVec 32 := Scalar.addi 0#32 (qW d);
      let v244 : BitVec 32 := Scalar.remsi v243 8#32;
      wWaitW d 0 >>= fun _ =>
      cLoadW 0 >>= fun v251 =>
      let v262 : BitVec 32 := Scalar.muli v244 4#32;
      let v263 : BitVec 32 := Scalar.addi v262 0#32;
      wLoadY d 0 0 >>= fun v267 =>
      wStoreY d 0 0 (k0_pay5 v240 v251) >>= fun _ =>
      wOwnK d 0 0 <|
      let v273 : BitVec 1 := Scalar.cmpi .ne v263 (myW d);
      Prog.ret ⟨k0_pay1 v240, v244, k0_pay3 v240 v251, k0_pay4 v240 v251, v263, v273⟩) := by
  rw [k0_part10_eq_skeleton]; rfl

set_option maxRecDepth 65536 in
theorem part11_flat (d : Dev nD) (v244 : BitVec 32) (v261 : FVec F S128x256 .bf16) (v263 : BitVec 32) (v273 : BitVec 1) :
    k0_part11 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v244 v261 v263 v273 =
      (wSendK d 0 0 <|
      wLoadY d 0 1 >>= fun v281 =>
      wStoreY d 0 1 (k0_pay7 v261) >>= fun _ =>
      wOwnK d 0 1 <|
      wSendK d 0 1 <|
      wLoadY d 0 2 >>= fun v295 =>
      wStoreY d 0 2 (k0_pay9 v261) >>= fun _ =>
      wOwnK d 0 2 <|
      wSendK d 0 2 <|
      let v304 : BitVec 32 := Scalar.muli v244 4#32;
      let v305 : BitVec 32 := Scalar.addi v304 3#32;
      wLoadY d 0 3 >>= fun v309 =>
      Prog.ret ⟨v305, k0_pay11 v261, v309⟩) := by
  rw [k0_part11_eq_skeleton]; rfl

set_option maxRecDepth 65536 in
theorem part12_flat (d : Dev nD) (v242 : FVec F S128x4096 .bf16) (v260 : F .f32) (v305 : BitVec 32) (v307 : FVec F S1x128x64 .bf16) (v309 : Vec F S1x128x64 .bf16) :
    k0_part12 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (qW d) v242 v260 v305 v307 v309 =
      (wStoreY d 0 3 (k0_pay12 v307) >>= fun _ =>
      wOwnK d 0 3 <|
      wSendK d 0 3 <|
      let v318 : BitVec 32 := Scalar.addi 1#32 (qW d);
      let v319 : BitVec 32 := Scalar.remsi v318 8#32;
      wWaitW d 1 >>= fun _ =>
      cLoadW 1 >>= fun v326 =>
      let v337 : BitVec 32 := Scalar.muli v319 4#32;
      let v338 : BitVec 32 := Scalar.addi v337 0#32;
      wLoadY d 1 0 >>= fun v342 =>
      wStoreY d 1 0 (k0_pay17 v242 v326) >>= fun _ =>
      let v345 : BitVec 1 := Scalar.cmpi .eq v338 (myW d);
      Prog.ret ⟨v319, k0_pay15 v242 v260 v326, k0_pay16 v242 v326, v338, v345⟩) := by
  rw [k0_part12_eq_skeleton]; rfl

set_option maxRecDepth 65536 in
theorem part13_flat (d : Dev nD) (v319 : BitVec 32) (v336 : FVec F S128x256 .bf16) (v338 : BitVec 32) (v345 : BitVec 1) :
    k0_part13 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v319 v336 v338 v345 =
      (wOwnK d 1 0 <|
      wSendK d 1 0 <|
      wLoadY d 1 1 >>= fun v356 =>
      wStoreY d 1 1 (k0_pay19 v336) >>= fun _ =>
      wOwnK d 1 1 <|
      wSendK d 1 1 <|
      wLoadY d 1 2 >>= fun v370 =>
      wStoreY d 1 2 (k0_pay21 v336) >>= fun _ =>
      wOwnK d 1 2 <|
      wSendK d 1 2 <|
      let v379 : BitVec 32 := Scalar.muli v319 4#32;
      let v380 : BitVec 32 := Scalar.addi v379 3#32;
      Prog.ret ⟨v380, k0_pay23 v336⟩) := by
  rw [k0_part13_eq_skeleton]; rfl

set_option maxRecDepth 65536 in
theorem part14_flat (d : Dev nD) (v242 : FVec F S128x4096 .bf16) (v335 : F .f32) (v380 : BitVec 32) (v381 : FVec F S128x64 .bf16) :
    k0_part14 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (qW d) v242 v335 v380 v381 =
      (wLoadY d 1 3 >>= fun v384 =>
      wStoreY d 1 3 (k0_pay24 v381) >>= fun _ =>
      wOwnK d 1 3 <|
      wSendK d 1 3 <|
      let v393 : BitVec 32 := Scalar.addi 2#32 (qW d);
      let v394 : BitVec 32 := Scalar.remsi v393 8#32;
      wWaitW d 2 >>= fun _ =>
      cLoadW 2 >>= fun v401 =>
      let v412 : BitVec 32 := Scalar.muli v394 4#32;
      let v413 : BitVec 32 := Scalar.addi v412 0#32;
      Prog.ret ⟨v394, k0_pay27 v242 v335 v401, k0_pay28 v242 v401, v413, k0_pay29 v242 v401⟩) := by
  rw [k0_part14_eq_skeleton]; rfl

set_option maxRecDepth 65536 in
theorem part15_flat (d : Dev nD) (v394 : BitVec 32) (v411 : FVec F S128x256 .bf16) (v413 : BitVec 32) (v415 : FVec F S1x128x64 .bf16) :
    k0_part15 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v394 v411 v413 v415 =
      (wLoadY d 2 0 >>= fun v417 =>
      wStoreY d 2 0 (k0_pay30 v415) >>= fun _ =>
      wOwnK d 2 0 <|
      wSendK d 2 0 <|
      wLoadY d 2 1 >>= fun v431 =>
      wStoreY d 2 1 (k0_pay32 v411) >>= fun _ =>
      wOwnK d 2 1 <|
      wSendK d 2 1 <|
      wLoadY d 2 2 >>= fun v445 =>
      wStoreY d 2 2 (k0_pay34 v411) >>= fun _ =>
      wOwnK d 2 2 <|
      wSendK d 2 2 <|
      Prog.ret ⟨⟩) := by
  rw [k0_part15_eq_skeleton]; rfl

set_option maxRecDepth 65536 in
theorem part16_flat (d : Dev nD) (v242 : FVec F S128x4096 .bf16) (v394 : BitVec 32) (v410 : F .f32) (v411 : FVec F S128x256 .bf16) :
    k0_part16 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (qW d) v242 v394 v410 v411 =
      (wLoadY d 2 3 >>= fun v459 =>
      wStoreY d 2 3 (k0_pay36 v411) >>= fun _ =>
      wOwnK d 2 3 <|
      wSendK d 2 3 <|
      let v468 : BitVec 32 := Scalar.addi 3#32 (qW d);
      let v469 : BitVec 32 := Scalar.remsi v468 8#32;
      wWaitW d 3 >>= fun _ =>
      cLoadW 3 >>= fun v476 =>
      let v487 : BitVec 32 := Scalar.muli v469 4#32;
      let v488 : BitVec 32 := Scalar.addi v487 0#32;
      Prog.ret ⟨v469, k0_pay39 v242 v410 v476, k0_pay40 v242 v476, v488⟩) := by
  rw [k0_part16_eq_skeleton]; rfl

set_option maxRecDepth 65536 in
theorem part17_flat (d : Dev nD) (v469 : BitVec 32) (v486 : FVec F S128x256 .bf16) (v488 : BitVec 32) :
    k0_part17 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v469 v486 v488 =
      (wLoadY d 3 0 >>= fun v492 =>
      wStoreY d 3 0 (k0_pay41 v486) >>= fun _ =>
      wOwnK d 3 0 <|
      wSendK d 3 0 <|
      wLoadY d 3 1 >>= fun v506 =>
      wStoreY d 3 1 (k0_pay43 v486) >>= fun _ =>
      wOwnK d 3 1 <|
      wSendK d 3 1 <|
      let v515 : BitVec 32 := Scalar.muli v469 4#32;
      let v516 : BitVec 32 := Scalar.addi v515 2#32;
      wLoadY d 3 2 >>= fun v520 =>
      wStoreY d 3 2 (k0_pay45 v486) >>= fun _ =>
      wOwnK d 3 2 <|
      Prog.ret v516) := by
  rw [k0_part17_eq_skeleton]; rfl

set_option maxRecDepth 65536 in
theorem part18_flat (d : Dev nD) (v242 : FVec F S128x4096 .bf16) (v469 : BitVec 32) (v485 : F .f32) (v486 : FVec F S128x256 .bf16) (v516 : BitVec 32) :
    k0_part18 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (qW d) v242 v469 v485 v486 v516 =
      (wSendK d 3 2 <|
      wLoadY d 3 3 >>= fun v534 =>
      wStoreY d 3 3 (k0_pay47 v486) >>= fun _ =>
      wOwnK d 3 3 <|
      wSendK d 3 3 <|
      let v543 : BitVec 32 := Scalar.addi 4#32 (qW d);
      let v544 : BitVec 32 := Scalar.remsi v543 8#32;
      wWaitW d 4 >>= fun _ =>
      cLoadW 4 >>= fun v551 =>
      Prog.ret ⟨v544, k0_pay49 v242 v551, k0_pay50 v242 v485 v551⟩) := by
  rw [k0_part18_eq_skeleton]; rfl

set_option maxRecDepth 65536 in
theorem part19_flat (d : Dev nD) (v544 : BitVec 32) (v554 : FVec F S128x256 .f32) :
    k0_part19 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v544 v554 =
      (wLoadY d 4 0 >>= fun v567 =>
      wStoreY d 4 0 (k0_pay52 v554) >>= fun _ =>
      wOwnK d 4 0 <|
      wSendK d 4 0 <|
      wLoadY d 4 1 >>= fun v581 =>
      wStoreY d 4 1 (k0_pay54 v554) >>= fun _ =>
      wOwnK d 4 1 <|
      wSendK d 4 1 <|
      let v590 : BitVec 32 := Scalar.muli v544 4#32;
      let v591 : BitVec 32 := Scalar.addi v590 2#32;
      wLoadY d 4 2 >>= fun v595 =>
      wStoreY d 4 2 (k0_pay56 v554) >>= fun _ =>
      Prog.ret ⟨k0_pay51 v554, v591⟩) := by
  rw [k0_part19_eq_skeleton]; rfl

set_option maxRecDepth 65536 in
theorem part20_flat (d : Dev nD) (v242 : FVec F S128x4096 .bf16) (v544 : BitVec 32) (v561 : FVec F S128x256 .bf16) (v591 : BitVec 32) :
    k0_part20 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (qW d) v242 v544 v561 v591 =
      (wOwnK d 4 2 <|
      wSendK d 4 2 <|
      wLoadY d 4 3 >>= fun v609 =>
      wStoreY d 4 3 (k0_pay58 v561) >>= fun _ =>
      wOwnK d 4 3 <|
      wSendK d 4 3 <|
      let v618 : BitVec 32 := Scalar.addi 5#32 (qW d);
      let v619 : BitVec 32 := Scalar.remsi v618 8#32;
      wWaitW d 5 >>= fun _ =>
      cLoadW 5 >>= fun v626 =>
      Prog.ret ⟨v619, k0_pay60 v242 v626, k0_pay61 v242 v626⟩) := by
  rw [k0_part20_eq_skeleton]; rfl

set_option maxRecDepth 65536 in
theorem part21_flat (d : Dev nD) (v560 : F .f32) (v619 : BitVec 32) (v629 : FVec F S128x256 .f32) (v631 : FVec F S1x128x256 .f32) :
    k0_part21 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v560 v619 v629 v631 =
      (wLoadY d 5 0 >>= fun v642 =>
      wStoreY d 5 0 (k0_pay64 v629) >>= fun _ =>
      wOwnK d 5 0 <|
      wSendK d 5 0 <|
      wLoadY d 5 1 >>= fun v656 =>
      wStoreY d 5 1 (k0_pay66 v629) >>= fun _ =>
      wOwnK d 5 1 <|
      wSendK d 5 1 <|
      let v665 : BitVec 32 := Scalar.muli v619 4#32;
      let v666 : BitVec 32 := Scalar.addi v665 2#32;
      Prog.ret ⟨k0_pay62 v560 v631, k0_pay63 v629, v666, k0_pay68 v629⟩) := by
  rw [k0_part21_eq_skeleton]; rfl

set_option maxRecDepth 65536 in
theorem part22_flat (d : Dev nD) (v619 : BitVec 32) (v636 : FVec F S128x256 .bf16) (v666 : BitVec 32) (v668 : FVec F S1x128x64 .bf16) :
    k0_part22 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (qW d) v619 v636 v666 v668 =
      (wLoadY d 5 2 >>= fun v670 =>
      wStoreY d 5 2 (k0_pay69 v668) >>= fun _ =>
      wOwnK d 5 2 <|
      wSendK d 5 2 <|
      wLoadY d 5 3 >>= fun v684 =>
      wStoreY d 5 3 (k0_pay71 v636) >>= fun _ =>
      wOwnK d 5 3 <|
      wSendK d 5 3 <|
      let v693 : BitVec 32 := Scalar.addi 6#32 (qW d);
      let v694 : BitVec 32 := Scalar.remsi v693 8#32;
      wWaitW d 6 >>= fun _ =>
      cLoadW 6 >>= fun v701 =>
      Prog.ret ⟨v694, k0_pay73 v701⟩) := by
  rw [k0_part22_eq_skeleton]; rfl

set_option maxRecDepth 65536 in
theorem part23_flat (d : Dev nD) (v242 : FVec F S128x4096 .bf16) (v635 : F .f32) (v694 : BitVec 32) (v702 : FVec F S4096x256 .f32) :
    k0_part23 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v242 v635 v694 v702 =
      (wLoadY d 6 0 >>= fun v717 =>
      wStoreY d 6 0 (k0_pay77 v242 v702) >>= fun _ =>
      wOwnK d 6 0 <|
      wSendK d 6 0 <|
      wLoadY d 6 1 >>= fun v731 =>
      wStoreY d 6 1 (k0_pay79 v242 v702) >>= fun _ =>
      wOwnK d 6 1 <|
      wSendK d 6 1 <|
      let v740 : BitVec 32 := Scalar.muli v694 4#32;
      Prog.ret ⟨k0_pay75 v242 v635 v702, k0_pay76 v242 v702, v740, 2#32⟩) := by
  rw [k0_part23_eq_skeleton]; rfl

set_option maxRecDepth 65536 in
theorem part24_flat (d : Dev nD) (v694 : BitVec 32) (v711 : FVec F S128x256 .bf16) (v740 : BitVec 32) (c2_i32_469 : BitVec 32) :
    k0_part24 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) (qW d) v694 v711 v740 c2_i32_469 =
      (wLoadY d 6 2 >>= fun v745 =>
      wStoreY d 6 2 (k0_pay81 v711) >>= fun _ =>
      wOwnK d 6 2 <|
      wSendK d 6 2 <|
      wLoadY d 6 3 >>= fun v759 =>
      wStoreY d 6 3 (k0_pay83 v711) >>= fun _ =>
      wOwnK d 6 3 <|
      wSendK d 6 3 <|
      let v768 : BitVec 32 := Scalar.addi 7#32 (qW d);
      let v769 : BitVec 32 := Scalar.remsi v768 8#32;
      wWaitW d 7 >>= fun _ =>
      Prog.ret v769) := by
  rw [k0_part24_eq_skeleton]; rfl

set_option maxRecDepth 65536 in
theorem part25_flat (d : Dev nD) (v242 : FVec F S128x4096 .bf16) (v710 : F .f32) (v769 : BitVec 32) :
    k0_part25 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v242 v710 v769 =
      (cLoadW 7 >>= fun v776 =>
      wLoadY d 7 0 >>= fun v792 =>
      wStoreY d 7 0 (k0_pay88 v242 v776) >>= fun _ =>
      wOwnK d 7 0 <|
      wSendK d 7 0 <|
      let v801 : BitVec 32 := Scalar.muli v769 4#32;
      let v802 : BitVec 32 := Scalar.addi v801 1#32;
      wLoadY d 7 1 >>= fun v806 =>
      wStoreY d 7 1 (k0_pay90 v242 v776) >>= fun _ =>
      wOwnK d 7 1 <|
      let v812 : BitVec 1 := Scalar.cmpi .ne v802 (myW d);
      let v813 : BitVec 32 := Scalar.extui v812;
      Prog.ret ⟨k0_pay86 v242 v710 v776, k0_pay87 v242 v776, v802, v813, 0#32⟩) := by
  rw [k0_part25_eq_skeleton]; rfl

set_option maxRecDepth 65536 in
theorem part26_flat (d : Dev nD) (v769 : BitVec 32) (v785 : F .f32) (v786 : FVec F S128x256 .bf16) (v802 : BitVec 32) (v813 : BitVec 32) (c0_i32_503 : BitVec 32) :
    k0_part26 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v769 v785 v786 v802 v813 c0_i32_503 =
      (wSendK d 7 1 <|
      wLoadY d 7 2 >>= fun v820 =>
      wStoreY d 7 2 (k0_pay92 v786) >>= fun _ =>
      wOwnK d 7 2 <|
      wSendK d 7 2 <|
      wLoadY d 7 3 >>= fun v834 =>
      wStoreY d 7 3 (k0_pay94 v786) >>= fun _ =>
      wOwnK d 7 3 <|
      wSendK d 7 3 <|
      cLoadA >>= fun v844 =>
      cStoreA (k0_pay96 v785) >>= fun _ =>
      wLoadZ d >>= fun v849 =>
      Prog.ret (k0_pay97 v785)) := by
  rw [k0_part26_eq_skeleton]; rfl

set_option maxRecDepth 65536 in
theorem part27_flat (d : Dev nD) (v847 : FVec F S128 .f32) :
    k0_part27 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v847 =
      (wStoreZ d (k0_pay98 v847) >>= fun _ =>
      wSendA d 0 >>= fun _ =>
      wSendA d 1 >>= fun _ =>
      wSendA d 2 >>= fun _ =>
      let v882 : BitVec 32 := Scalar.addi (myW d) 1#32;
      let v883 : BitVec 32 := Scalar.addi v882 3#32;
      let v884 : BitVec 32 := Scalar.remsi v883 32#32;
      Prog.ret ⟨v884, 1#32⟩) := by
  rw [k0_part27_eq_skeleton]; rfl

set_option maxRecDepth 65536 in
theorem part28_flat (d : Dev nD) (v884 : BitVec 32) (c1_i32_540 : BitVec 32) :
    k0_part28 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v884 c1_i32_540 =
      (wSendA d 3 >>= fun _ =>
      wSendA d 4 >>= fun _ =>
      wSendA d 5 >>= fun _ =>
      Prog.ret ⟨⟩) := by
  rw [k0_part28_eq_skeleton]; rfl

set_option maxRecDepth 65536 in
theorem part29_flat (d : Dev nD) :
    k0_part29 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) =
      (wSendA d 6 >>= fun _ =>
      wSendA d 7 >>= fun _ =>
      wSendA d 8 >>= fun _ =>
      wSendA d 9 >>= fun _ =>
      let v952 : BitVec 32 := Scalar.addi (myW d) 1#32;
      let v953 : BitVec 32 := Scalar.addi v952 10#32;
      let v954 : BitVec 32 := Scalar.remsi v953 32#32;
      let v955 : BitVec 32 := Scalar.muli v954 1#32;
      Prog.ret v955) := by
  rw [k0_part29_eq_skeleton]; rfl

set_option maxRecDepth 65536 in
theorem part30_flat (d : Dev nD) (v955 : BitVec 32) :
    k0_part30 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v955 =
      (wSendA d 10 >>= fun _ =>
      wSendA d 11 >>= fun _ =>
      wSendA d 12 >>= fun _ =>
      wSendA d 13 >>= fun _ =>
      Prog.ret ⟨⟩) := by
  rw [k0_part30_eq_skeleton]; rfl

set_option maxRecDepth 65536 in
theorem part31_flat (d : Dev nD) :
    k0_part31 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) =
      (wSendA d 14 >>= fun _ =>
      wSendA d 15 >>= fun _ =>
      wSendA d 16 >>= fun _ =>
      let v1022 : BitVec 32 := Scalar.addi (myW d) 1#32;
      let v1023 : BitVec 32 := Scalar.addi v1022 17#32;
      let v1024 : BitVec 32 := Scalar.remsi v1023 32#32;
      let v1025 : BitVec 32 := Scalar.muli v1024 1#32;
      Prog.ret ⟨v1025, 0#32⟩) := by
  rw [k0_part31_eq_skeleton]; rfl

set_option maxRecDepth 65536 in
theorem part32_flat (d : Dev nD) (v1025 : BitVec 32) (c0_i32_625 : BitVec 32) :
    k0_part32 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1025 c0_i32_625 =
      (wSendA d 17 >>= fun _ =>
      wSendA d 18 >>= fun _ =>
      wSendA d 19 >>= fun _ =>
      wSendA d 20 >>= fun _ =>
      Prog.ret 1#32) := by
  rw [k0_part32_eq_skeleton]; rfl

set_option maxRecDepth 65536 in
theorem part33_flat (d : Dev nD) (c1_i32_645 : BitVec 32) :
    k0_part33 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) c1_i32_645 =
      (wSendA d 21 >>= fun _ =>
      wSendA d 22 >>= fun _ =>
      wSendA d 23 >>= fun _ =>
      Prog.ret ⟨⟩) := by
  rw [k0_part33_eq_skeleton]; rfl

set_option maxRecDepth 65536 in
theorem part34_flat (d : Dev nD) :
    k0_part34 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) =
      (wSendA d 24 >>= fun _ =>
      wSendA d 25 >>= fun _ =>
      wSendA d 26 >>= fun _ =>
      wSendA d 27 >>= fun _ =>
      let v1132 : BitVec 32 := Scalar.addi (myW d) 1#32;
      Prog.ret v1132) := by
  rw [k0_part34_eq_skeleton]; rfl

set_option maxRecDepth 65536 in
theorem part35_flat (d : Dev nD) (v1132 : BitVec 32) :
    k0_part35 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1132 =
      (wSendA d 28 >>= fun _ =>
      wSendA d 29 >>= fun _ =>
      wSendA d 30 >>= fun _ =>
      let v1162 : BitVec 1 := Scalar.cmpi .ne (myW d) 0#32;
      let v1163 : BitVec 32 := Scalar.extui v1162;
      let v1164 : BitVec 1 := Scalar.cmpi .ne v1163 0#32;
      wIfK d 0 (cWaitA 0) <|
      let v1165 : BitVec 1 := Scalar.cmpi .ne (myW d) 1#32;
      let v1166 : BitVec 32 := Scalar.extui v1165;
      let v1167 : BitVec 1 := Scalar.cmpi .ne v1166 0#32;
      Prog.ret v1167) := by
  rw [k0_part35_eq_skeleton]; rfl

set_option maxRecDepth 65536 in
theorem part36_flat (d : Dev nD) :
    k0_part36 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 (myW d) (neW (myW d) 1#32) =
      (wIfK d 1 (cWaitA 1) <|
      let v1168 : BitVec 1 := Scalar.cmpi .ne (myW d) 2#32;
      let v1169 : BitVec 32 := Scalar.extui v1168;
      let v1170 : BitVec 1 := Scalar.cmpi .ne v1169 0#32;
      wIfK d 2 (cWaitA 2) <|
      let v1171 : BitVec 1 := Scalar.cmpi .ne (myW d) 3#32;
      let v1172 : BitVec 32 := Scalar.extui v1171;
      let v1173 : BitVec 1 := Scalar.cmpi .ne v1172 0#32;
      wIfK d 3 (cWaitA 3) <|
      let v1174 : BitVec 1 := Scalar.cmpi .ne (myW d) 4#32;
      let v1175 : BitVec 32 := Scalar.extui v1174;
      let v1176 : BitVec 1 := Scalar.cmpi .ne v1175 0#32;
      wIfK d 4 (cWaitA 4) <|
      let v1177 : BitVec 1 := Scalar.cmpi .ne (myW d) 5#32;
      let v1178 : BitVec 32 := Scalar.extui v1177;
      let v1179 : BitVec 1 := Scalar.cmpi .ne v1178 0#32;
      wIfK d 5 (cWaitA 5) <|
      let v1180 : BitVec 1 := Scalar.cmpi .ne (myW d) 6#32;
      let v1181 : BitVec 32 := Scalar.extui v1180;
      let v1182 : BitVec 1 := Scalar.cmpi .ne v1181 0#32;
      wIfK d 6 (cWaitA 6) <|
      let v1183 : BitVec 1 := Scalar.cmpi .ne (myW d) 7#32;
      let v1184 : BitVec 32 := Scalar.extui v1183;
      let v1185 : BitVec 1 := Scalar.cmpi .ne v1184 0#32;
      wIfK d 7 (cWaitA 7) <|
      let v1186 : BitVec 1 := Scalar.cmpi .ne (myW d) 8#32;
      let v1187 : BitVec 32 := Scalar.extui v1186;
      let v1188 : BitVec 1 := Scalar.cmpi .ne v1187 0#32;
      wIfK d 8 (cWaitA 8) <|
      let v1189 : BitVec 1 := Scalar.cmpi .ne (myW d) 9#32;
      let v1190 : BitVec 32 := Scalar.extui v1189;
      let v1191 : BitVec 1 := Scalar.cmpi .ne v1190 0#32;
      wIfK d 9 (cWaitA 9) <|
      let v1192 : BitVec 1 := Scalar.cmpi .ne (myW d) 10#32;
      let v1193 : BitVec 32 := Scalar.extui v1192;
      let v1194 : BitVec 1 := Scalar.cmpi .ne v1193 0#32;
      wIfK d 10 (cWaitA 10) <|
      let v1195 : BitVec 1 := Scalar.cmpi .ne (myW d) 11#32;
      let v1196 : BitVec 32 := Scalar.extui v1195;
      let v1197 : BitVec 1 := Scalar.cmpi .ne v1196 0#32;
      Prog.ret v1197) := by
  rw [k0_part36_eq_skeleton]; rfl

set_option maxRecDepth 65536 in
theorem part37_flat (d : Dev nD) :
    k0_part37 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 (myW d) (neW (myW d) 11#32) =
      (wIfK d 11 (cWaitA 11) <|
      let v1198 : BitVec 1 := Scalar.cmpi .ne (myW d) 12#32;
      let v1199 : BitVec 32 := Scalar.extui v1198;
      let v1200 : BitVec 1 := Scalar.cmpi .ne v1199 0#32;
      wIfK d 12 (cWaitA 12) <|
      let v1201 : BitVec 1 := Scalar.cmpi .ne (myW d) 13#32;
      let v1202 : BitVec 32 := Scalar.extui v1201;
      let v1203 : BitVec 1 := Scalar.cmpi .ne v1202 0#32;
      wIfK d 13 (cWaitA 13) <|
      let v1204 : BitVec 1 := Scalar.cmpi .ne (myW d) 14#32;
      let v1205 : BitVec 32 := Scalar.extui v1204;
      let v1206 : BitVec 1 := Scalar.cmpi .ne v1205 0#32;
      wIfK d 14 (cWaitA 14) <|
      let v1207 : BitVec 1 := Scalar.cmpi .ne (myW d) 15#32;
      let v1208 : BitVec 32 := Scalar.extui v1207;
      let v1209 : BitVec 1 := Scalar.cmpi .ne v1208 0#32;
      wIfK d 15 (cWaitA 15) <|
      let v1210 : BitVec 1 := Scalar.cmpi .ne (myW d) 16#32;
      let v1211 : BitVec 32 := Scalar.extui v1210;
      let v1212 : BitVec 1 := Scalar.cmpi .ne v1211 0#32;
      wIfK d 16 (cWaitA 16) <|
      let v1213 : BitVec 1 := Scalar.cmpi .ne (myW d) 17#32;
      let v1214 : BitVec 32 := Scalar.extui v1213;
      let v1215 : BitVec 1 := Scalar.cmpi .ne v1214 0#32;
      wIfK d 17 (cWaitA 17) <|
      let v1216 : BitVec 1 := Scalar.cmpi .ne (myW d) 18#32;
      let v1217 : BitVec 32 := Scalar.extui v1216;
      let v1218 : BitVec 1 := Scalar.cmpi .ne v1217 0#32;
      wIfK d 18 (cWaitA 18) <|
      let v1219 : BitVec 1 := Scalar.cmpi .ne (myW d) 19#32;
      let v1220 : BitVec 32 := Scalar.extui v1219;
      let v1221 : BitVec 1 := Scalar.cmpi .ne v1220 0#32;
      wIfK d 19 (cWaitA 19) <|
      let v1222 : BitVec 1 := Scalar.cmpi .ne (myW d) 20#32;
      let v1223 : BitVec 32 := Scalar.extui v1222;
      let v1224 : BitVec 1 := Scalar.cmpi .ne v1223 0#32;
      wIfK d 20 (cWaitA 20) <|
      let v1225 : BitVec 1 := Scalar.cmpi .ne (myW d) 21#32;
      let v1226 : BitVec 32 := Scalar.extui v1225;
      let v1227 : BitVec 1 := Scalar.cmpi .ne v1226 0#32;
      Prog.ret v1227) := by
  rw [k0_part37_eq_skeleton]; rfl

set_option maxRecDepth 65536 in
theorem part38_flat (d : Dev nD) :
    k0_part38 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 (myW d) (neW (myW d) 21#32) =
      (wIfK d 21 (cWaitA 21) <|
      let v1228 : BitVec 1 := Scalar.cmpi .ne (myW d) 22#32;
      let v1229 : BitVec 32 := Scalar.extui v1228;
      let v1230 : BitVec 1 := Scalar.cmpi .ne v1229 0#32;
      wIfK d 22 (cWaitA 22) <|
      let v1231 : BitVec 1 := Scalar.cmpi .ne (myW d) 23#32;
      let v1232 : BitVec 32 := Scalar.extui v1231;
      let v1233 : BitVec 1 := Scalar.cmpi .ne v1232 0#32;
      wIfK d 23 (cWaitA 23) <|
      let v1234 : BitVec 1 := Scalar.cmpi .ne (myW d) 24#32;
      let v1235 : BitVec 32 := Scalar.extui v1234;
      let v1236 : BitVec 1 := Scalar.cmpi .ne v1235 0#32;
      wIfK d 24 (cWaitA 24) <|
      let v1237 : BitVec 1 := Scalar.cmpi .ne (myW d) 25#32;
      let v1238 : BitVec 32 := Scalar.extui v1237;
      let v1239 : BitVec 1 := Scalar.cmpi .ne v1238 0#32;
      wIfK d 25 (cWaitA 25) <|
      let v1240 : BitVec 1 := Scalar.cmpi .ne (myW d) 26#32;
      let v1241 : BitVec 32 := Scalar.extui v1240;
      let v1242 : BitVec 1 := Scalar.cmpi .ne v1241 0#32;
      wIfK d 26 (cWaitA 26) <|
      let v1243 : BitVec 1 := Scalar.cmpi .ne (myW d) 27#32;
      let v1244 : BitVec 32 := Scalar.extui v1243;
      let v1245 : BitVec 1 := Scalar.cmpi .ne v1244 0#32;
      wIfK d 27 (cWaitA 27) <|
      let v1246 : BitVec 1 := Scalar.cmpi .ne (myW d) 28#32;
      let v1247 : BitVec 32 := Scalar.extui v1246;
      let v1248 : BitVec 1 := Scalar.cmpi .ne v1247 0#32;
      wIfK d 28 (cWaitA 28) <|
      let v1249 : BitVec 1 := Scalar.cmpi .ne (myW d) 29#32;
      let v1250 : BitVec 32 := Scalar.extui v1249;
      let v1251 : BitVec 1 := Scalar.cmpi .ne v1250 0#32;
      wIfK d 29 (cWaitA 29) <|
      let v1252 : BitVec 1 := Scalar.cmpi .ne (myW d) 30#32;
      let v1253 : BitVec 32 := Scalar.extui v1252;
      let v1254 : BitVec 1 := Scalar.cmpi .ne v1253 0#32;
      wIfK d 30 (cWaitA 30) <|
      let v1255 : BitVec 1 := Scalar.cmpi .ne (myW d) 31#32;
      let v1256 : BitVec 32 := Scalar.extui v1255;
      let v1257 : BitVec 1 := Scalar.cmpi .ne v1256 0#32;
      Prog.ret v1257) := by
  rw [k0_part38_eq_skeleton]; rfl

set_option maxRecDepth 65536 in
theorem part39_flat (d : Dev nD) :
    k0_part39 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 (myW d) (neW (myW d) 31#32) =
      (wIfK d 31 (cWaitA 31) <|
      cLoadZs >>= fun v1258 =>
      let v1265 : BitVec 1 := Scalar.cmpi .ne (myW d) 0#32;
      let v1266 : BitVec 32 := Scalar.extui v1265;
      let v1267 : BitVec 1 := Scalar.cmpi .ne v1266 0#32;
      wIfK d 0 (cWaitR 0) <|
      let v1268 : BitVec 1 := Scalar.cmpi .ne (myW d) 1#32;
      let v1269 : BitVec 32 := Scalar.extui v1268;
      let v1270 : BitVec 1 := Scalar.cmpi .ne v1269 0#32;
      wIfK d 1 (cWaitR 1) <|
      let v1271 : BitVec 1 := Scalar.cmpi .ne (myW d) 2#32;
      let v1272 : BitVec 32 := Scalar.extui v1271;
      let v1273 : BitVec 1 := Scalar.cmpi .ne v1272 0#32;
      wIfK d 2 (cWaitR 2) <|
      let v1274 : BitVec 1 := Scalar.cmpi .ne (myW d) 3#32;
      let v1275 : BitVec 32 := Scalar.extui v1274;
      let v1276 : BitVec 1 := Scalar.cmpi .ne v1275 0#32;
      wIfK d 3 (cWaitR 3) <|
      let v1277 : BitVec 1 := Scalar.cmpi .ne (myW d) 4#32;
      let v1278 : BitVec 32 := Scalar.extui v1277;
      let v1279 : BitVec 1 := Scalar.cmpi .ne v1278 0#32;
      wIfK d 4 (cWaitR 4) <|
      let v1280 : BitVec 1 := Scalar.cmpi .ne (myW d) 5#32;
      let v1281 : BitVec 32 := Scalar.extui v1280;
      let v1282 : BitVec 1 := Scalar.cmpi .ne v1281 0#32;
      wIfK d 5 (cWaitR 5) <|
      let v1283 : BitVec 1 := Scalar.cmpi .ne (myW d) 6#32;
      let v1284 : BitVec 32 := Scalar.extui v1283;
      let v1285 : BitVec 1 := Scalar.cmpi .ne v1284 0#32;
      wIfK d 6 (cWaitR 6) <|
      let v1286 : BitVec 1 := Scalar.cmpi .ne (myW d) 7#32;
      let v1287 : BitVec 32 := Scalar.extui v1286;
      let v1288 : BitVec 1 := Scalar.cmpi .ne v1287 0#32;
      Prog.ret ⟨k0_pay100 v1258, k0_pay101 v1258, v1288⟩) := by
  rw [k0_part39_eq_skeleton]; rfl

set_option maxRecDepth 65536 in
theorem part40_flat (d : Dev nD) :
    k0_part40 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 (myW d) (neW (myW d) 7#32) =
      (wIfK d 7 (cWaitR 7) <|
      let v1289 : BitVec 1 := Scalar.cmpi .ne (myW d) 8#32;
      let v1290 : BitVec 32 := Scalar.extui v1289;
      let v1291 : BitVec 1 := Scalar.cmpi .ne v1290 0#32;
      wIfK d 8 (cWaitR 8) <|
      let v1292 : BitVec 1 := Scalar.cmpi .ne (myW d) 9#32;
      let v1293 : BitVec 32 := Scalar.extui v1292;
      let v1294 : BitVec 1 := Scalar.cmpi .ne v1293 0#32;
      wIfK d 9 (cWaitR 9) <|
      let v1295 : BitVec 1 := Scalar.cmpi .ne (myW d) 10#32;
      let v1296 : BitVec 32 := Scalar.extui v1295;
      let v1297 : BitVec 1 := Scalar.cmpi .ne v1296 0#32;
      wIfK d 10 (cWaitR 10) <|
      let v1298 : BitVec 1 := Scalar.cmpi .ne (myW d) 11#32;
      let v1299 : BitVec 32 := Scalar.extui v1298;
      let v1300 : BitVec 1 := Scalar.cmpi .ne v1299 0#32;
      wIfK d 11 (cWaitR 11) <|
      let v1301 : BitVec 1 := Scalar.cmpi .ne (myW d) 12#32;
      let v1302 : BitVec 32 := Scalar.extui v1301;
      let v1303 : BitVec 1 := Scalar.cmpi .ne v1302 0#32;
      wIfK d 12 (cWaitR 12) <|
      let v1304 : BitVec 1 := Scalar.cmpi .ne (myW d) 13#32;
      let v1305 : BitVec 32 := Scalar.extui v1304;
      let v1306 : BitVec 1 := Scalar.cmpi .ne v1305 0#32;
      wIfK d 13 (cWaitR 13) <|
      let v1307 : BitVec 1 := Scalar.cmpi .ne (myW d) 14#32;
      let v1308 : BitVec 32 := Scalar.extui v1307;
      let v1309 : BitVec 1 := Scalar.cmpi .ne v1308 0#32;
      wIfK d 14 (cWaitR 14) <|
      let v1310 : BitVec 1 := Scalar.cmpi .ne (myW d) 15#32;
      let v1311 : BitVec 32 := Scalar.extui v1310;
      let v1312 : BitVec 1 := Scalar.cmpi .ne v1311 0#32;
      wIfK d 15 (cWaitR 15) <|
      let v1313 : BitVec 1 := Scalar.cmpi .ne (myW d) 16#32;
      let v1314 : BitVec 32 := Scalar.extui v1313;
      let v1315 : BitVec 1 := Scalar.cmpi .ne v1314 0#32;
      wIfK d 16 (cWaitR 16) <|
      let v1316 : BitVec 1 := Scalar.cmpi .ne (myW d) 17#32;
      let v1317 : BitVec 32 := Scalar.extui v1316;
      let v1318 : BitVec 1 := Scalar.cmpi .ne v1317 0#32;
      Prog.ret v1318) := by
  rw [k0_part40_eq_skeleton]; rfl

set_option maxRecDepth 65536 in
theorem part41_flat (d : Dev nD) :
    k0_part41 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 (myW d) (neW (myW d) 17#32) =
      (wIfK d 17 (cWaitR 17) <|
      let v1319 : BitVec 1 := Scalar.cmpi .ne (myW d) 18#32;
      let v1320 : BitVec 32 := Scalar.extui v1319;
      let v1321 : BitVec 1 := Scalar.cmpi .ne v1320 0#32;
      wIfK d 18 (cWaitR 18) <|
      let v1322 : BitVec 1 := Scalar.cmpi .ne (myW d) 19#32;
      let v1323 : BitVec 32 := Scalar.extui v1322;
      let v1324 : BitVec 1 := Scalar.cmpi .ne v1323 0#32;
      wIfK d 19 (cWaitR 19) <|
      let v1325 : BitVec 1 := Scalar.cmpi .ne (myW d) 20#32;
      let v1326 : BitVec 32 := Scalar.extui v1325;
      let v1327 : BitVec 1 := Scalar.cmpi .ne v1326 0#32;
      wIfK d 20 (cWaitR 20) <|
      let v1328 : BitVec 1 := Scalar.cmpi .ne (myW d) 21#32;
      let v1329 : BitVec 32 := Scalar.extui v1328;
      let v1330 : BitVec 1 := Scalar.cmpi .ne v1329 0#32;
      wIfK d 21 (cWaitR 21) <|
      let v1331 : BitVec 1 := Scalar.cmpi .ne (myW d) 22#32;
      let v1332 : BitVec 32 := Scalar.extui v1331;
      let v1333 : BitVec 1 := Scalar.cmpi .ne v1332 0#32;
      wIfK d 22 (cWaitR 22) <|
      let v1334 : BitVec 1 := Scalar.cmpi .ne (myW d) 23#32;
      let v1335 : BitVec 32 := Scalar.extui v1334;
      let v1336 : BitVec 1 := Scalar.cmpi .ne v1335 0#32;
      wIfK d 23 (cWaitR 23) <|
      let v1337 : BitVec 1 := Scalar.cmpi .ne (myW d) 24#32;
      let v1338 : BitVec 32 := Scalar.extui v1337;
      let v1339 : BitVec 1 := Scalar.cmpi .ne v1338 0#32;
      wIfK d 24 (cWaitR 24) <|
      let v1340 : BitVec 1 := Scalar.cmpi .ne (myW d) 25#32;
      let v1341 : BitVec 32 := Scalar.extui v1340;
      let v1342 : BitVec 1 := Scalar.cmpi .ne v1341 0#32;
      wIfK d 25 (cWaitR 25) <|
      let v1343 : BitVec 1 := Scalar.cmpi .ne (myW d) 26#32;
      let v1344 : BitVec 32 := Scalar.extui v1343;
      let v1345 : BitVec 1 := Scalar.cmpi .ne v1344 0#32;
      wIfK d 26 (cWaitR 26) <|
      let v1346 : BitVec 1 := Scalar.cmpi .ne (myW d) 27#32;
      let v1347 : BitVec 32 := Scalar.extui v1346;
      let v1348 : BitVec 1 := Scalar.cmpi .ne v1347 0#32;
      Prog.ret v1348) := by
  rw [k0_part41_eq_skeleton]; rfl

set_option maxRecDepth 65536 in
theorem part42_flat (d : Dev nD) (v1263 : F .f32) (v1264 : F .f32) :
    k0_part42 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1263 v1264 (neW (myW d) 27#32) =
      (wIfK d 27 (cWaitR 27) <|
      let v1349 : BitVec 1 := Scalar.cmpi .ne (myW d) 28#32;
      let v1350 : BitVec 32 := Scalar.extui v1349;
      let v1351 : BitVec 1 := Scalar.cmpi .ne v1350 0#32;
      wIfK d 28 (cWaitR 28) <|
      let v1352 : BitVec 1 := Scalar.cmpi .ne (myW d) 29#32;
      let v1353 : BitVec 32 := Scalar.extui v1352;
      let v1354 : BitVec 1 := Scalar.cmpi .ne v1353 0#32;
      wIfK d 29 (cWaitR 29) <|
      let v1355 : BitVec 1 := Scalar.cmpi .ne (myW d) 30#32;
      let v1356 : BitVec 32 := Scalar.extui v1355;
      let v1357 : BitVec 1 := Scalar.cmpi .ne v1356 0#32;
      wIfK d 30 (cWaitR 30) <|
      let v1358 : BitVec 1 := Scalar.cmpi .ne (myW d) 31#32;
      let v1359 : BitVec 32 := Scalar.extui v1358;
      let v1360 : BitVec 1 := Scalar.cmpi .ne v1359 0#32;
      wIfK d 31 (cWaitR 31) <|
      cLoadRs >>= fun v1361 =>
      cLoadO >>= fun v1372 =>
      cStoreO (k0_pay102 v1263 v1264 v1361) >>= fun _ =>
      wIfK d 0 (wWaitS d 0) <|
      wIfK d 0 (wWaitT d 0) <|
      let v1379 : BitVec 1 := Scalar.cmpi .ne (myW d) 1#32;
      let v1380 : BitVec 32 := Scalar.extui v1379;
      Prog.ret ⟨v1380, 0#32⟩) := by
  rw [k0_part42_eq_skeleton]; rfl

set_option maxRecDepth 65536 in
theorem part43_flat (d : Dev nD) (v1380 : BitVec 32) (c0_i32_849 : BitVec 32) :
    k0_part43 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1380 c0_i32_849 =
      (wIfK d 1 (wWaitS d 1) <|
      wIfK d 1 (wWaitT d 1) <|
      wIfK d 2 (wWaitS d 2) <|
      wIfK d 2 (wWaitT d 2) <|
      wIfK d 3 (wWaitS d 3) <|
      wIfK d 3 (wWaitT d 3) <|
      wIfK d 4 (wWaitS d 4) <|
      wIfK d 4 (wWaitT d 4) <|
      wIfK d 5 (wWaitS d 5) <|
      wIfK d 5 (wWaitT d 5) <|
      let v1409 : BitVec 1 := Scalar.cmpi .ne (myW d) 6#32;
      let v1410 : BitVec 32 := Scalar.extui v1409;
      Prog.ret ⟨v1410, 0#32⟩) := by
  rw [k0_part43_eq_skeleton]; rfl

set_option maxRecDepth 65536 in
theorem part44_flat (d : Dev nD) (v1410 : BitVec 32) (c0_i32_869 : BitVec 32) :
    k0_part44 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1410 c0_i32_869 =
      (wIfK d 6 (wWaitS d 6) <|
      wIfK d 6 (wWaitT d 6) <|
      wIfK d 7 (wWaitS d 7) <|
      wIfK d 7 (wWaitT d 7) <|
      wIfK d 8 (wWaitS d 8) <|
      wIfK d 8 (wWaitT d 8) <|
      wIfK d 9 (wWaitS d 9) <|
      wIfK d 9 (wWaitT d 9) <|
      wIfK d 10 (wWaitS d 10) <|
      wIfK d 10 (wWaitT d 10) <|
      let v1439 : BitVec 1 := Scalar.cmpi .ne (myW d) 11#32;
      let v1440 : BitVec 32 := Scalar.extui v1439;
      Prog.ret ⟨v1440, 0#32⟩) := by
  rw [k0_part44_eq_skeleton]; rfl

set_option maxRecDepth 65536 in
theorem part45_flat (d : Dev nD) (v1440 : BitVec 32) (c0_i32_889 : BitVec 32) :
    k0_part45 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1440 c0_i32_889 =
      (wIfK d 11 (wWaitS d 11) <|
      wIfK d 11 (wWaitT d 11) <|
      wIfK d 12 (wWaitS d 12) <|
      wIfK d 12 (wWaitT d 12) <|
      wIfK d 13 (wWaitS d 13) <|
      wIfK d 13 (wWaitT d 13) <|
      wIfK d 14 (wWaitS d 14) <|
      wIfK d 14 (wWaitT d 14) <|
      wIfK d 15 (wWaitS d 15) <|
      wIfK d 15 (wWaitT d 15) <|
      let v1469 : BitVec 1 := Scalar.cmpi .ne (myW d) 16#32;
      let v1470 : BitVec 32 := Scalar.extui v1469;
      Prog.ret ⟨v1470, 0#32⟩) := by
  rw [k0_part45_eq_skeleton]; rfl

set_option maxRecDepth 65536 in
theorem part46_flat (d : Dev nD) (v1470 : BitVec 32) (c0_i32_909 : BitVec 32) :
    k0_part46 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1470 c0_i32_909 =
      (wIfK d 16 (wWaitS d 16) <|
      wIfK d 16 (wWaitT d 16) <|
      wIfK d 17 (wWaitS d 17) <|
      wIfK d 17 (wWaitT d 17) <|
      wIfK d 18 (wWaitS d 18) <|
      wIfK d 18 (wWaitT d 18) <|
      wIfK d 19 (wWaitS d 19) <|
      wIfK d 19 (wWaitT d 19) <|
      wIfK d 20 (wWaitS d 20) <|
      wIfK d 20 (wWaitT d 20) <|
      let v1499 : BitVec 1 := Scalar.cmpi .ne (myW d) 21#32;
      let v1500 : BitVec 32 := Scalar.extui v1499;
      Prog.ret ⟨v1500, 0#32⟩) := by
  rw [k0_part46_eq_skeleton]; rfl

set_option maxRecDepth 65536 in
theorem part47_flat (d : Dev nD) (v1500 : BitVec 32) (c0_i32_929 : BitVec 32) :
    k0_part47 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1500 c0_i32_929 =
      (wIfK d 21 (wWaitS d 21) <|
      wIfK d 21 (wWaitT d 21) <|
      wIfK d 22 (wWaitS d 22) <|
      wIfK d 22 (wWaitT d 22) <|
      wIfK d 23 (wWaitS d 23) <|
      wIfK d 23 (wWaitT d 23) <|
      wIfK d 24 (wWaitS d 24) <|
      wIfK d 24 (wWaitT d 24) <|
      wIfK d 25 (wWaitS d 25) <|
      wIfK d 25 (wWaitT d 25) <|
      let v1529 : BitVec 1 := Scalar.cmpi .ne (myW d) 26#32;
      let v1530 : BitVec 32 := Scalar.extui v1529;
      Prog.ret ⟨v1530, 0#32⟩) := by
  rw [k0_part47_eq_skeleton]; rfl

set_option maxRecDepth 65536 in
theorem part48_flat (d : Dev nD) (v1530 : BitVec 32) (c0_i32_949 : BitVec 32) :
    k0_part48 (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 d (myW d) v1530 c0_i32_949 =
      (wIfK d 26 (wWaitS d 26) <|
      wIfK d 26 (wWaitT d 26) <|
      wIfK d 27 (wWaitS d 27) <|
      wIfK d 27 (wWaitT d 27) <|
      wIfK d 28 (wWaitS d 28) <|
      wIfK d 28 (wWaitT d 28) <|
      wIfK d 29 (wWaitS d 29) <|
      wIfK d 29 (wWaitT d 29) <|
      wIfK d 30 (wWaitS d 30) <|
      wIfK d 30 (wWaitT d 30) <|
      let v1559 : BitVec 1 := Scalar.cmpi .ne (myW d) 31#32;
      let v1560 : BitVec 32 := Scalar.extui v1559;
      Prog.ret ⟨v1560, 0#32⟩) := by
  rw [k0_part48_eq_skeleton]; rfl

end Cert.KProof

end
end
-- ==== Proof.Body.lean ====
/-
The kernel's body as one program over devices, slots and rows: the loops the printed text unrolls, written as
loops, and the printed body equal to it.
-/
module

public import proofs.«01_k».proof.Proof.Flat

@[expose] public section

noncomputable section

namespace Cert.KProof

open Cert.KernelIdeal Cert.KernelIdeal.Gen
open Idealize.ShloMosaic
open Idealize.ShloMosaic.TcCoe
open Idealize.SL.Sem

variable {F : FTy → Type} [FloatOps F]

/-! ## Loops -/

/-- `f i` for each `i` of the list in turn, then `K`. -/
def runK {ι α : Type} (f : ι → P F PUnit) : List ι → P F α → P F α
  | [], K => K
  | i :: l, K => f i >>= fun _ => runK f l K

/-- `A` where `c` holds. -/
def cIf (c : Prop) [Decidable c] (A : P F PUnit) : P F PUnit := if c then A else .ret ⟨⟩

theorem condK_eq {α : Type} {c c' : Prop} [Decidable c] [Decidable c'] (e : c ↔ c') {A A' : P F PUnit} (eA : c' → A = A') (K : P F α) :
    condK c A K = cIf c' A' >>= fun _ => K := by
  unfold condK cIf
  by_cases h : c
  · rw [dif_pos h, if_pos (e.1 h), eA (e.1 h)]
  · rw [dif_neg h, if_neg (fun h' => h (e.2 h'))]; rfl

theorem wOwnK_eq {α : Type} (d : Dev nD) (u : Fin 8) (t : Fin 4) (K : P F α) :
    wOwnK d u t K = cIf (jOf d u t = d) (cOwn d) >>= fun _ => K := by
  refine condK_eq (own_iff d u t) (fun h => ?_) K
  rw [wOwn_eq, h]; rfl
theorem wSendK_eq {α : Type} (d : Dev nD) (u : Fin 8) (t : Fin 4) (K : P F α) :
    wSendK d u t K = cIf (jOf d u t ≠ d) (cSend d (jOf d u t)) >>= fun _ => K :=
  condK_eq (other_iff d u t) (fun _ => wSend_eq d u t) K
theorem wIfK_eq {α : Type} (d : Dev nD) (s : Dev nD) (A : P F PUnit) (K : P F α) :
    wIfK d s A K = cIf (s ≠ d) A >>= fun _ => K :=
  condK_eq (ne_iff d s) (fun _ => rfl) K

abbrev L8 : List (Fin 8) := [0, 1, 2, 3, 4, 5, 6, 7]
abbrev L4 : List (Fin 4) := [0, 1, 2, 3]
abbrev L31 : List (Fin 31) :=
  [0, 1, 2, 3, 4, 5, 6, 7, 8, 9, 10, 11, 12, 13, 14, 15, 16, 17, 18, 19, 20, 21, 22, 23, 24, 25, 26, 27, 28, 29, 30]
abbrev L32 : List (Dev nD) :=
  [0, 1, 2, 3, 4, 5, 6, 7, 8, 9, 10, 11, 12, 13, 14, 15, 16, 17, 18, 19, 20, 21, 22, 23, 24, 25, 26, 27, 28, 29, 30, 31]

/-! ## What is computed -/

/-- A product block rounded to the exchange's format, and the running maximum after it. -/
abbrev ybP (xb : FVec F S128x4096 .bf16) (w : Vec F S1x4096x256 .f32) : FVec F S128x256 .bf16 := k0_pay16 xb w
abbrev mxP (xb : FVec F S128x4096 .bf16) (m : F .f32) (w : Vec F S1x4096x256 .f32) : F .f32 := k0_pay15 xb m w
theorem slices_t : ∀ t : Fin 4, S128x256.Slices ![0, 64 * t.val] S128x64 := by decide +kernel
/-- Slice `t` of a product block, in the shape of a slot. -/
def slP (yb : FVec F S128x256 .bf16) (t : Fin 4) : FVec F S1x128x64 .bf16 :=
  shapeCast S1x128x64 (shapeCast S1x128x64 (extractStridedSlice S128x64 ![0, 64 * t.val] yb (slices_t t)) shapeCasts_S128x64_S1x128x64)
    shapeCasts_S1x128x64_S1x128x64
/-- The running maximum before the first block. -/
abbrev m₀ : F .f32 := Scalar.ofBits .f32 0x00000000#32

/-! ## The program -/

/-- Slice `t` of turn `u`: stored to its slot, kept if it is the device's own, sent otherwise. -/
def cSlice (d : Dev nD) (u : Fin 8) (yb : FVec F S128x256 .bf16) (t : Fin 4) : P F PUnit :=
  cLoadY (jOf d u t) >>= fun _ => cStoreY (jOf d u t) (slP yb t) >>= fun _ =>
  cIf (jOf d u t = d) (cOwn d) >>= fun _ => cIf (jOf d u t ≠ d) (cSend d (jOf d u t))

/-- The turns of a list: wait for the weights, multiply, deal out the four slices. -/
def chunks {α : Type} (d : Dev nD) (xb : FVec F S128x4096 .bf16) : List (Fin 8) → F .f32 → (F .f32 → P F α) → P F α
  | [], m, K => K m
  | u :: l, m, K => cWaitW (chOf d u) u >>= fun _ => cLoadW u >>= fun w =>
      runK (cSlice d u (ybP xb w)) L4 (chunks d xb l (mxP xb m w) K)

def tailP (d : Dev nD) : P F PUnit :=
  runK (fun s => cIf (s ≠ d) (cWaitS d s) >>= fun _ => cIf (s ≠ d) (cWaitT d s)) L32 (.ret ⟨⟩)
def quantP (d : Dev nD) (g : Vec F S32x128 .f32) : P F PUnit :=
  runK (fun s => cIf (s ≠ d) (cWaitR s)) L32 <|
  cLoadRs >>= fun r => cLoadO >>= fun _ => cStoreO (k0_pay102 (k0_pay100 g) (k0_pay101 g) r) >>= fun _ => tailP d
def amaxP (d : Dev nD) (m : F .f32) : P F PUnit :=
  cLoadA >>= fun _ => cStoreA (k0_pay96 m) >>= fun _ => cLoadZ d >>= fun _ => cStoreZ d (k0_pay98 (k0_pay97 m)) >>= fun _ =>
  runK (fun i => cSendA d (pOf d i)) L31 <|
  runK (fun s => cIf (s ≠ d) (cWaitA s)) L32 <|
  cLoadZs >>= fun g => quantP d g
/-- The body of device `d`. -/
def bodyP (d : Dev nD) : P F PUnit :=
  runK (fun i => cSig (pOf d i)) L31 <|
  cWaitB >>= fun _ =>
  runK (fun u => cCopy (chOf d u) u) L8 <|
  cLoadX >>= fun x =>
  chunks d (k0_pay1 x) L8 m₀ fun m => amaxP d m

/-- The last two branches of the printed body. -/
theorem last_send {α : Type} (d : Dev nD) (K : P F α) :
    (if h : k0_cond191 d = 1#1 then
      Prog.lift (.waitDma2 ((cc0_scratch6.slice (Rect.unit (s := S32) ![31] S1.size inb_S32_S1_31)).squeeze S_ squeezes_S1_S_).sem
        (rM.slice (Rect.unit (s := S4096x64) (k0_off261 d) S128x64.size (k0_off261_inb d h)) (fun _ => rfl))
        ((yM.slice (Rect.unit (s := S32x128x64) ![31, 0, 0] S1x128x64.size inb_S32x128x64_S1x128x64_31_0_0) (fun _ => rfl)).squeeze S128x64 squeezes_S1x128x64_S128x64)
        ((Memref.isWhole_whole cc0_scratch2).wordExact_slice rfl _ (k0_off261_wordsbf16 d h))
        (((Memref.isWhole_whole cc0_scratch1).wordExact_slice rfl _ wordsbf16_S32x128x64_S1x128x64_31_0_0).reshape _ _)) >>= fun _ => K
     else K) = wIfK d 31 (wWaitS d 31) K := rfl
theorem last_sendA {α : Type} (d : Dev nD) (K : P F α) :
    (if h : k0_cond192 d = 1#1 then
      Prog.lift (.waitDma2 ((cc0_scratch8.slice (Rect.unit (s := S32) ![31] S1.size inb_S32_S1_31)).squeeze S_ squeezes_S1_S_).sem
        (zM.slice (Rect.unit (s := S32x128) (k0_off262 d) S1x128.size (k0_off262_inb d h)) (fun _ => rfl)) aM
        (View.wordExact_bits rfl) (Memref.isWhole_whole cc0_scratch3).wordExact) >>= fun _ => K
     else K) = wIfK d 31 (wWaitT d 31) K := rfl

set_option maxRecDepth 65536 in
set_option maxHeartbeats 4000000 in
theorem body_eq :
    cc0_body (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9 =
    (Prog.lift (.deviceId) >>= fun d => bodyP d) := by
  rw [cc0_body_eq_skeleton]; unfold cc0_body_skel
  simp only [↓part1_flat, ↓part2_flat, ↓part3_flat, ↓part4_flat, ↓part5_flat, ↓part6_flat, ↓part7_flat, ↓part8_flat, ↓part9_flat, ↓part10_flat, ↓part11_flat, ↓part12_flat, ↓part13_flat, ↓part14_flat, ↓part15_flat, ↓part16_flat, ↓part17_flat, ↓part18_flat, ↓part19_flat, ↓part20_flat, ↓part21_flat, ↓part22_flat, ↓part23_flat, ↓part24_flat, ↓part25_flat, ↓part26_flat, ↓part27_flat, ↓part28_flat, ↓part29_flat, ↓part30_flat, ↓part31_flat, ↓part32_flat, ↓part33_flat, ↓part34_flat, ↓part35_flat, ↓part36_flat, ↓part37_flat, ↓part38_flat, ↓part39_flat, ↓part40_flat, ↓part41_flat, ↓part42_flat, ↓part43_flat, ↓part44_flat, ↓part45_flat, ↓part46_flat, ↓part47_flat, ↓part48_flat, ↓Prog.bind_assoc, ↓Prog.bind_ret, ↓Prog.pure_eq_ret,
    ↓wOwnK_eq, ↓wSendK_eq, ↓last_send, ↓last_sendA, ↓wIfK_eq, ↓wSig_eq, ↓wCopy_eq, ↓wWaitW_eq, ↓wLoadY_eq, ↓wStoreY_eq, ↓wLoadZ_eq, ↓wStoreZ_eq, ↓wSendA_eq,
    ↓wWaitS_eq, ↓wWaitT_eq]
  simp only [bodyP, amaxP, quantP, tailP, runK, chunks, cSlice, ↓Prog.bind_assoc, ↓Prog.bind_ret]
  rfl

end Cert.KProof

end
end
-- ==== Proof.Proto.lean ====
/-
What the devices hand each other: the semaphores' cells, the contents of every buffer as a function of the
arguments, and for each cell the duties of its one round with what each pays.
-/
module

public import proofs.«01_k».proof.Proof.Body
public import proofs.«01_k».proof.Proof.Gen.KernelIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.Ring
public import Idealize.ShloMosaic.Lib.ValueLayout

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The kinds of a device's own scoped semaphores: a slot of the weights' buffer, and per peer the slice sent to it,
    the slice received from it, the maximum sent to it, the maximum received from it; with the barrier, all kinds. -/
abbrev KO : Type := Fin 8 ⊕ Dev nD ⊕ Dev nD ⊕ Dev nD ⊕ Dev nD
abbrev CK : Type := Unit ⊕ KO
@[match_pattern] abbrev kBar : CK := .inl ()
@[match_pattern] abbrev kW (u : Fin 8) : CK := .inr (.inl u)
@[match_pattern] abbrev kSnd (j : Dev nD) : CK := .inr (.inr (.inl j))
@[match_pattern] abbrev kRcv (j : Dev nD) : CK := .inr (.inr (.inr (.inl j)))
@[match_pattern] abbrev kAs (j : Dev nD) : CK := .inr (.inr (.inr (.inr (.inl j))))
@[match_pattern] abbrev kAr (j : Dev nD) : CK := .inr (.inr (.inr (.inr (.inr j))))

abbrev semW (u : Fin 8) : DmaSem sig := s8 ![u.val] (s8_inb u)
abbrev semN (A : DmaSems sig S32) (j : Dev nD) : DmaSem sig := s32 A ![j.val] (s32_inb j)

def csem : CK → SemLoc sig
  | kBar => .reg barS
  | kW u => .dma (semW u)
  | kSnd j => .dma (semN cc0_scratch6 j)
  | kRcv j => .dma (semN cc0_scratch7 j)
  | kAs j => .dma (semN cc0_scratch8 j)
  | kAr j => .dma (semN cc0_scratch9 j)

/-- The kind of a semaphore by its number; none for the pipeline's own two. -/
def kind : SemLoc sig → Option CK
  | .reg _ => some kBar
  | .dma q =>
    if q.val < 2 then none
    else if q.val < 10 then some (kW ⟨(q.val - 2) % 8, Nat.mod_lt _ (by decide)⟩)
    else if q.val < 42 then some (kSnd ⟨(q.val - 10) % 32, Nat.mod_lt _ (by decide)⟩)
    else if q.val < 74 then some (kRcv ⟨(q.val - 42) % 32, Nat.mod_lt _ (by decide)⟩)
    else if q.val < 106 then some (kAs ⟨(q.val - 74) % 32, Nat.mod_lt _ (by decide)⟩)
    else some (kAr ⟨(q.val - 106) % 32, Nat.mod_lt _ (by decide)⟩)

instance : DecidableEq KO := fun a b => inferInstance
instance : DecidableEq CK := fun a b => inferInstance
theorem kind_w : ∀ u : Fin 8, kind (csem (kW u)) = some (kW u) := by decide +kernel
theorem kind_snd : ∀ j : Dev nD, kind (csem (kSnd j)) = some (kSnd j) := by decide +kernel
theorem kind_rcv : ∀ j : Dev nD, kind (csem (kRcv j)) = some (kRcv j) := by decide +kernel
theorem kind_as : ∀ j : Dev nD, kind (csem (kAs j)) = some (kAs j) := by decide +kernel
theorem kind_ar : ∀ j : Dev nD, kind (csem (kAr j)) = some (kAr j) := by decide +kernel
theorem kind_csem : ∀ k : CK, kind (csem k) = some k
  | kBar => rfl
  | kW u => kind_w u
  | kSnd j => kind_snd j
  | kRcv j => kind_rcv j
  | kAs j => kind_as j
  | kAr j => kind_ar j
theorem csem_inj {k k' : CK} (h : csem k = csem k') : k = k' := by
  have := congrArg kind h; rw [kind_csem, kind_csem] at this; exact Option.some.inj this

abbrev cell (c : Dev nD) (k : CK) : GSem nD τ sig := ((c : Thread nD τ), csem k)
abbrev kcell (ck : Dev nD × CK) : GSem nD τ sig := cell ck.1 ck.2
theorem cell_inj {c c' : Dev nD} {k k' : CK} (h : cell c k = cell c' k') : c = c' ∧ k = k' :=
  ⟨congrArg (fun g : GSem nD τ sig => g.1.1) h, csem_inj (congrArg Prod.snd h)⟩

/-! ## The buffers' parts -/

abbrev wRc (u : Fin 8) : Rect S8x4096x256 := wR ![u.val, 0, 0] (wC_inb u)
abbrev hRc (k : Fin 8) : Rect S4096x2048 := hR ![0, 256 * k.val] (hC_inb k)
abbrev yRc (j : Dev nD) : Rect S32x128x64 := yR ![j.val, 0, 0] (yC_inb j)
abbrev rRc (j : Dev nD) : Rect S4096x64 := rR ![128 * j.val, 0] (rC_inb j)
abbrev zRc (j : Dev nD) : Rect S32x128 := zR ![j.val, 0] (zC_inb j)

def hPts (c : Dev nD) (k : Fin 8) (f : Buf (Elt F) ((c : Thread nD τ).loc main_arg1)) : sProp 𝕄 :=
  ((c : Thread nD τ).loc main_arg1) ↦[(hRc k).set]{fullShare} f
def wPts (c : Dev nD) (u : Fin 8) (f : Buf (Elt F) ((c : Thread nD τ).loc cc0_scratch0)) : sProp 𝕄 :=
  ((c : Thread nD τ).loc cc0_scratch0) ↦[(wRc u).set]{fullShare} f
def yPts (c j : Dev nD) (f : Buf (Elt F) ((c : Thread nD τ).loc cc0_scratch1)) : sProp 𝕄 :=
  ((c : Thread nD τ).loc cc0_scratch1) ↦[(yRc j).set]{fullShare} f
def rPts (c j : Dev nD) (f : Buf (Elt F) ((c : Thread nD τ).loc cc0_scratch2)) : sProp 𝕄 :=
  ((c : Thread nD τ).loc cc0_scratch2) ↦[(rRc j).set]{fullShare} f
def zPts (c j : Dev nD) (f : Buf (Elt F) ((c : Thread nD τ).loc cc0_scratch4)) : sProp 𝕄 :=
  ((c : Thread nD τ).loc cc0_scratch4) ↦[(zRc j).set]{fullShare} f
/-- A thirty-second of the outgoing maximum's buffer: the share lent to the transfer to peer `j`. -/
def aPts (c j : Dev nD) (f : Buf (Elt F) ((c : Thread nD τ).loc cc0_scratch3)) : sProp 𝕄 :=
  ((c : Thread nD τ).loc cc0_scratch3) ↦[Finset.univ]{ShareLeaves.leaf 5 fullShare j} f

omit [FloatOps F] in
instance hPts_storable (c k f) : BI.Storable (upEmb : UEmb _ 𝕄) (hPts (F := F) c k f) := by unfold hPts; infer_instance
omit [FloatOps F] in
instance wPts_storable (c k f) : BI.Storable (upEmb : UEmb _ 𝕄) (wPts (F := F) c k f) := by unfold wPts; infer_instance
omit [FloatOps F] in
instance yPts_storable (c k f) : BI.Storable (upEmb : UEmb _ 𝕄) (yPts (F := F) c k f) := by unfold yPts; infer_instance
omit [FloatOps F] in
instance rPts_storable (c k f) : BI.Storable (upEmb : UEmb _ 𝕄) (rPts (F := F) c k f) := by unfold rPts; infer_instance
omit [FloatOps F] in
instance zPts_storable (c k f) : BI.Storable (upEmb : UEmb _ 𝕄) (zPts (F := F) c k f) := by unfold zPts; infer_instance
omit [FloatOps F] in
instance aPts_storable (c k f) : BI.Storable (upEmb : UEmb _ 𝕄) (aPts (F := F) c k f) := by unfold aPts; infer_instance

/-! ## Contents -/

/-- The rows of `x` on device `c`, as staged. -/
def xstg (c : Dev nD) : (cc0_stg0_0 : Ref sig .tc).ty.Contents (Elt F) :=
  (win0_0.blk (0 : Fin 1)).view.read (Elt F) ((s₀ m ρ).mem ((c : Thread nD τ).loc main_arg0))
def wArr (c : Dev nD) : S4096x2048.Idx → F .f32 := m ((c : Thread nD τ).loc main_arg1)

/-- The 256 columns of the weights that turn `u` of device `c` multiplies by. -/
def wBlk (c : Dev nD) (u : Fin 8) : Vec F S1x4096x256 .f32 := fun i =>
  wArr m c (ix2 (i 1) ⟨256 * (chOf c u).val + (i 2).val, by
    have h1 := (chOf c u).isLt; have h2 : (i 2).val < 256 := (i 2).isLt; show _ < 2048; omega⟩)
def wVmem (c : Dev nD) : S8x4096x256.Idx → F .f32 := fun i => wBlk m c (i 0) (ix3 0 (i 1) (i 2))

/-- The product block of a turn, and the running maximum after the turns of a list. -/
def ybC (c : Dev nD) (u : Fin 8) : FVec F S128x256 .bf16 := ybP (k0_pay1 (xstg m ρ c)) (wBlk m c u)
def mxR (c : Dev nD) : List (Fin 8) → F .f32 → F .f32
  | [], v => v
  | u :: l, v => mxR c l (mxP (k0_pay1 (xstg m ρ c)) v (wBlk m c u))
/-- The maximum of device `c`'s rows of the product. -/
def mAll (c : Dev nD) : F .f32 := mxR m ρ c L8 m₀

def uOf (c j : Dev nD) : Fin 8 := ⟨(j.val / 4 + 8 - c.val / 4) % 8, Nat.mod_lt _ (by decide)⟩
def tOf (j : Dev nD) : Fin 4 := ⟨j.val % 4, Nat.mod_lt _ (by decide)⟩
theorem jOf_uOf : ∀ c j : Dev nD, jOf c (uOf c j) (tOf j) = j := by decide +kernel
theorem uOf_jOf : ∀ (c : Dev nD) (u : Fin 8) (t : Fin 4), uOf c (jOf c u t) = u := by decide +kernel
theorem tOf_jOf : ∀ (c : Dev nD) (u : Fin 8) (t : Fin 4), tOf (jOf c u t) = t := by decide +kernel

/-- Device `c`'s slices, slot `j` for peer `j`; -/
def ySrc (c : Dev nD) : S32x128x64.Idx → F .bf16 := fun i => slP (ybC m ρ c (uOf c (i 0))) (tOf (i 0)) (ix3 0 (i 1) (i 2))
/-- and the slices device `c` is sent: all the rows of its columns of the product. -/
def recvAll (c : Dev nD) : S4096x64.Idx → F .bf16 := fun i =>
  ySrc m ρ ⟨(i 0).val / 128, by have h : (i 0).val < 4096 := (i 0).isLt; show _ < 32; omega⟩
    (ix3 c ⟨(i 0).val % 128, Nat.mod_lt _ (by decide)⟩ (i 1))
def amaxA (c : Dev nD) : S1x128.Idx → F .f32 := fun _ => mAll m ρ c
def amaxAll : S32x128.Idx → F .f32 := fun i => mAll m ρ (i 0)
/-- The kernel's result on device `c`. -/
def outAt (c : Dev nD) : (cc0_stg1_0 : Ref sig .tc).ty.Contents (Elt F) :=
  k0_pay102 (k0_pay100 (amaxAll m ρ)) (k0_pay101 (amaxAll m ρ)) (recvAll m ρ c)

/-! ## The schedule -/

/-- The credits of the four kinds of transfer. -/
def NW : ℕ := (wV ![0, 0, 0] (wC_inb 0)).view.dmaCredit
def NY : ℕ := (rV ![0, 0] (rC_inb 0)).view.dmaCredit
def NZ : ℕ := (zV ![0, 0] (zC_inb 0)).view.dmaCredit
theorem NW_pos : 0 < NW := View.dmaCredit_pos _ (by decide)
theorem NY_pos : 0 < NY := View.dmaCredit_pos _ (by decide)
theorem NZ_pos : 0 < NZ := View.dmaCredit_pos _ (by decide)

def dutyOf (c : Dev nD) : CK → Finset (Dev nD)
  | kBar => Finset.univ.erase c
  | kW _ => {0}
  | kSnd j => if j = c then ∅ else {0}
  | kRcv j => if j = c then ∅ else {0}
  | kAs j => if j = c then ∅ else {0}
  | kAr j => if j = c then ∅ else {0}
def amtOf : CK → ℕ
  | kBar => 1
  | kW _ => NW
  | kSnd _ => NY
  | kRcv _ => NY
  | kAs _ => NZ
  | kAr _ => NZ
/-- What a paid duty hands device `c`: from peer `p`'s entry, `c`'s rows of `p`'s two receive buffers; from a
    transfer's end, its source back or its destination filled. -/
def payOf (c : Dev nD) (k : CK) (p : Dev nD) : sProp 𝕄 :=
  match k with
  | kBar => iprop((∃ f, rPts (F := F) p c f) ∗ (∃ f, zPts (F := F) p c f))
  | kW u => iprop(wPts c u (wVmem m c) ∗ hPts c (chOf c u) (m ((c : Thread nD τ).loc main_arg1)))
  | kSnd j => yPts c j (ySrc m ρ c)
  | kRcv j => rPts c j (recvAll m ρ c)
  | kAs j => aPts c j (amaxA m ρ c)
  | kAr j => zPts c j (amaxAll m ρ)

instance payOf_storable (c k p) : BI.Storable (upEmb : UEmb _ 𝕄) (payOf (F := F) m ρ c k p) := by
  unfold payOf; split <;> infer_instance

theorem amtOf_pos : ∀ k, 0 < amtOf k
  | kBar => Nat.one_pos
  | kW _ => NW_pos
  | kSnd _ => NY_pos
  | kRcv _ => NY_pos
  | kAs _ => NZ_pos
  | kAr _ => NZ_pos

def Rd : Rounds.Schedule (GSem nD τ sig) (Dev nD) 𝕄 where
  duties g r := if r = 0 ∧ g.1.2 = .tc then (match kind g.2 with | some k => dutyOf g.1.1 k | none => ∅) else ∅
  unitless _ := False
  amount g _ _ := match kind g.2 with | some k => amtOf k | none => 1
  payload g _ d := match kind g.2 with | some k => payOf m ρ g.1.1 k d | none => iprop(emp)
  amount_pos g _ _ _ := by
    cases kind g.2 with
    | none => exact Nat.one_pos
    | some k => exact amtOf_pos k

instance Rd_storable (g : GSem nD τ sig) (r : ℕ) (d : Dev nD) : BI.Storable (upEmb : UEmb _ 𝕄) ((Rd (F := F) m ρ).payload g r d) := by
  show BI.Storable upEmb (match kind g.2 with | some k => payOf m ρ g.1.1 k d | none => iprop(emp))
  split <;> infer_instance

section Sched
variable (c : Dev nD) (k : CK)

theorem duties_eq : (Rd (F := F) m ρ).duties (cell c k) 0 = dutyOf c k := by
  dsimp only [Rd]; rw [if_pos ⟨rfl, rfl⟩, kind_csem]
theorem duties_later (g : GSem nD τ sig) : ∀ r, 1 ≤ r → (Rd (F := F) m ρ).duties g r = ∅ :=
  fun r hr => by dsimp only [Rd]; rw [if_neg fun h => by omega]
theorem amount_eq (r d) : (Rd (F := F) m ρ).amount (cell c k) r d = amtOf k := by dsimp only [Rd]; rw [kind_csem]
theorem payload_eq (r d) : (Rd (F := F) m ρ).payload (cell c k) r d = payOf m ρ c k d := by dsimp only [Rd]; rw [kind_csem]
theorem expect_eq : (Rd (F := F) m ρ).expect (cell c k) 0 = (dutyOf c k).card * amtOf k := by
  unfold Schedule.expect Schedule.amountOf
  rw [duties_eq, Finset.sum_congr rfl fun d _ => amount_eq m ρ c k 0 d, Finset.sum_const, smul_eq_mul]
theorem rest_eq : bigSep ((Rd (F := F) m ρ).duties (cell c k) 0 \ ∅) (fun d => (Rd (F := F) m ρ).payload (cell c k) 0 d)
    = bigSep (dutyOf c k) (payOf m ρ c k) := by
  rw [Finset.sdiff_empty, duties_eq]; exact bigSep_congr fun d _ => payload_eq m ρ c k 0 d
end Sched

/-- A cell with one duty, a transfer's. -/
def One (c : Dev nD) (k : CK) : Prop := dutyOf c k = {0}
/-- A cell nothing pays, a device's for itself. -/
def Zero (c : Dev nD) (k : CK) : Prop := dutyOf c k = ∅
theorem one_w (c : Dev nD) (u) : One c (kW u) := rfl
theorem one_snd {c j : Dev nD} (h : j ≠ c) : One c (kSnd j) := if_neg h
theorem one_rcv {c j : Dev nD} (h : j ≠ c) : One c (kRcv j) := if_neg h
theorem one_as {c j : Dev nD} (h : j ≠ c) : One c (kAs j) := if_neg h
theorem one_ar {c j : Dev nD} (h : j ≠ c) : One c (kAr j) := if_neg h
theorem zero_snd (c : Dev nD) : Zero c (kSnd c) := if_pos rfl
theorem zero_rcv (c : Dev nD) : Zero c (kRcv c) := if_pos rfl
theorem zero_as (c : Dev nD) : Zero c (kAs c) := if_pos rfl
theorem zero_ar (c : Dev nD) : Zero c (kAr c) := if_pos rfl

/-! ## The levels, and what a device owes -/

def L (g : GSem nD τ sig) : Finset Unit := if g.1.2 = .tc then {()} else ∅
def lvOf : CK → ℕ
  | kBar => 1
  | kRcv _ => 2
  | kAr _ => 3
  | _ => 0
def lv (g : GSem nD τ sig) (_ : Unit) : ℕ := match kind g.2 with | some k => lvOf k | none => 0
theorem lv_cell (c k) (u : Unit) : lv (cell c k) u = lvOf k := by dsimp only [lv]; rw [kind_csem]
theorem L_of_ne (g : GSem nD τ sig) (h : g.1.2 ≠ .tc) : L g = ∅ := if_neg h
theorem L_tc (c : Dev nD) (sm : SemLoc sig) : L ((c : Thread nD τ), sm) = {()} := if_pos rfl

abbrev Tal : Type := CellTallies nD τ sig Unit

/-- The tallies `f i` of a list on top of `b`, the first of the list last added. -/
def ow {ι : Type} (f : ι → Tal) : List ι → Tal → Tal
  | [], b => b
  | i :: l, b => ow f l b + f i

/-- What paying cell `k` of device `p` discharges. -/
abbrev tal (p : Dev nD) (k : CK) : Tal := tallyAt (cell p k) () (amtOf k)
/-- A slice's debt: none for the device's own. -/
def talR (c j : Dev nD) : Tal := if j = c then 0 else tal j (kRcv c)
def owZ (c : Dev nD) (l : List (Fin 31)) : Tal := ow (fun i => tal (pOf c i) (kAr c)) l 0
def owR (c : Dev nD) : List (Fin 8) → Tal
  | [] => owZ c L31
  | u :: l => ow (fun t => talR c (jOf c u t)) L4 (owR c l)
def owB (c : Dev nD) (l : List (Fin 31)) : Tal := ow (fun i => tal (pOf c i) kBar) l (owR c L8)
/-- What device `c` owes at launch: every peer's barrier, its rows of every peer's receive buffers. -/
def O₀ (c : Dev nD) : Tal := owB c L31

/-- Everything owed sits on tensor cores' cells at level `n` or above. -/
def Above (n : ℕ) (O : Tal) : Prop := ∀ g u, 0 < O g u → g.1.2 = .tc ∧ n ≤ lv g u

theorem above_zero (n) : Above n 0 := fun g u h => absurd h (Nat.lt_irrefl 0)
theorem above_add {n} {O O' : Tal} (h : Above n O) (h' : Above n O') : Above n (O + O') := fun g u hp => by
  rw [Pi.add_apply, Finsupp.add_apply] at hp
  rcases Nat.eq_zero_or_pos (O g u) with h0 | h0
  · exact h' g u (by omega)
  · exact h g u h0
theorem above_tal {n} {p k} (h : n ≤ lvOf k) : Above n (tal p k) := fun g u hp => by
  rw [tallyAt_apply] at hp
  by_cases hg : g = cell p k ∧ u = ()
  · rw [hg.1]; exact ⟨rfl, by rw [lv_cell]; exact h⟩
  · rw [if_neg hg] at hp; exact absurd hp (Nat.lt_irrefl 0)
theorem above_ow {ι : Type} {n} {f : ι → Tal} (hf : ∀ i, Above n (f i)) : ∀ (l : List ι) {b : Tal}, Above n b → Above n (ow f l b)
  | [], _, hb => hb
  | i :: l, _, hb => above_add (above_ow hf l hb) (hf i)
theorem above_talR {n} (c j : Dev nD) (h : n ≤ 2) : Above n (talR c j) := by
  unfold talR; split
  · exact above_zero n
  · exact above_tal h
theorem above_owZ {n} (c l) (h : n ≤ 3) : Above n (owZ c l) := above_ow (fun i => above_tal h) l (above_zero n)
theorem above_owR {n} (c) (h : n ≤ 2) : ∀ l, Above n (owR c l)
  | [] => above_owZ c _ (by omega)
  | u :: l => above_ow (fun t => above_talR c _ h) _ (above_owR c h l)
theorem above_owB {n} (c l) (h : n ≤ 1) : Above n (owB c l) := above_ow (fun i => above_tal h) l (above_owR c (by omega) _)

omit [FloatOps F] in
/-- A cell below everything owed may be waited for. -/
theorem mayWait (c : Dev nD) (sm : SemLoc sig) (n : ℕ) (hn : lv ((c : Thread nD τ), sm) () < n) {O : Tal} (hO : Above n O) :
    (levAts L lv : sProp 𝕄) ⊢ MayWait (c : Thread nD τ) sm () O :=
  MayOwe.of_cut (L := L) (lev := lv) (n - 1) (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact Nat.le_sub_one_of_lt hn)
    (fun g u hg => by have := (hO g u hg).2; omega)

end Cert.KProof

end
end
-- ==== Proof.Slots.lean ====
/-
The buffers split into their slots and rows and joined again, and what each transfer, store and load leaves or
reads there.
-/
module

public import proofs.«01_k».proof.Proof.Proto

@[expose] public section

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The slots are disjoint and make up the buffers -/

theorem w_disj (b b' : Fin 8) (h : b ≠ b') : Disjoint (wRc b).set (wRc b').set :=
  Rect.unit_disjoint 0 (by have := fun e : b.val = b'.val => h (Fin.ext e); show b.val + 1 ≤ b'.val ∨ b'.val + 1 ≤ b.val; omega)
theorem h_disj (b b' : Fin 8) (h : b ≠ b') : Disjoint (hRc b).set (hRc b').set :=
  Rect.unit_disjoint 1 (by have := fun e : b.val = b'.val => h (Fin.ext e); show 256 * b.val + 256 ≤ 256 * b'.val ∨ 256 * b'.val + 256 ≤ 256 * b.val; omega)
theorem y_disj (b b' : Dev nD) (h : b ≠ b') : Disjoint (yRc b).set (yRc b').set :=
  Rect.unit_disjoint 0 ((Nat.lt_or_gt_of_ne fun e => h (Fin.ext e)).imp (fun e => e) (fun e => e))
theorem r_disj (b b' : Dev nD) (h : b ≠ b') : Disjoint (rRc b).set (rRc b').set :=
  Rect.unit_disjoint 0 ((Nat.lt_or_gt_of_ne fun e => h (Fin.ext e)).imp
    (fun e => by show 128 * b.val + 128 ≤ 128 * b'.val; have : b.val + 1 ≤ b'.val := e; omega)
    (fun e => by show 128 * b'.val + 128 ≤ 128 * b.val; have : b'.val + 1 ≤ b.val := e; omega))
theorem z_disj (b b' : Dev nD) (h : b ≠ b') : Disjoint (zRc b).set (zRc b').set :=
  Rect.unit_disjoint 0 ((Nat.lt_or_gt_of_ne fun e => h (Fin.ext e)).imp (fun e => e) (fun e => e))

theorem w_cover : (Finset.univ : Finset (Fin 8)).biUnion (fun b => (wRc b).set) = Finset.univ := by
  ext i; simp only [Finset.mem_biUnion, Finset.mem_univ, true_and, iff_true]
  refine ⟨i 0, Rect.mem_set_unit.mpr fun a => ?_⟩
  match a with
  | ⟨0, _⟩ => exact ⟨Nat.le_refl _, Nat.lt_succ_self _⟩
  | ⟨1, _⟩ => have h : (i 1).val < 4096 := (i 1).isLt; exact ⟨Nat.zero_le _, by show (i 1).val < 0 + 4096; omega⟩
  | ⟨2, _⟩ => have h : (i 2).val < 256 := (i 2).isLt; exact ⟨Nat.zero_le _, by show (i 2).val < 0 + 256; omega⟩
theorem y_cover : (Finset.univ : Finset (Dev nD)).biUnion (fun b => (yRc b).set) = Finset.univ := by
  ext i; simp only [Finset.mem_biUnion, Finset.mem_univ, true_and, iff_true]
  refine ⟨i 0, Rect.mem_set_unit.mpr fun a => ?_⟩
  match a with
  | ⟨0, _⟩ => exact ⟨Nat.le_refl _, Nat.lt_succ_self _⟩
  | ⟨1, _⟩ => have h : (i 1).val < 128 := (i 1).isLt; exact ⟨Nat.zero_le _, by show (i 1).val < 0 + 128; omega⟩
  | ⟨2, _⟩ => have h : (i 2).val < 64 := (i 2).isLt; exact ⟨Nat.zero_le _, by show (i 2).val < 0 + 64; omega⟩
theorem z_cover : (Finset.univ : Finset (Dev nD)).biUnion (fun b => (zRc b).set) = Finset.univ := by
  ext i; simp only [Finset.mem_biUnion, Finset.mem_univ, true_and, iff_true]
  refine ⟨i 0, Rect.mem_set_unit.mpr fun a => ?_⟩
  match a with
  | ⟨0, _⟩ => exact ⟨Nat.le_refl _, Nat.lt_succ_self _⟩
  | ⟨1, _⟩ => have h : (i 1).val < 128 := (i 1).isLt; exact ⟨Nat.zero_le _, by show (i 1).val < 0 + 128; omega⟩
theorem h_cover : (Finset.univ : Finset (Fin 8)).biUnion (fun b => (hRc b).set) = Finset.univ := by
  ext i; simp only [Finset.mem_biUnion, Finset.mem_univ, true_and, iff_true]
  have h1 : (i 1).val < 2048 := (i 1).isLt
  refine ⟨⟨(i 1).val / 256, by omega⟩, Rect.mem_set_unit.mpr fun a => ?_⟩
  match a with
  | ⟨0, _⟩ => have h : (i 0).val < 4096 := (i 0).isLt; exact ⟨Nat.zero_le _, by show (i 0).val < 0 + 4096; omega⟩
  | ⟨1, _⟩ => show 256 * ((i 1).val / 256) ≤ (i 1).val ∧ (i 1).val < 256 * ((i 1).val / 256) + 256; omega
theorem r_cover : (Finset.univ : Finset (Dev nD)).biUnion (fun b => (rRc b).set) = Finset.univ := by
  ext i; simp only [Finset.mem_biUnion, Finset.mem_univ, true_and, iff_true]
  have h0 : (i 0).val < 4096 := (i 0).isLt
  refine ⟨⟨(i 0).val / 128, by show _ < 32; omega⟩, Rect.mem_set_unit.mpr fun a => ?_⟩
  match a with
  | ⟨0, _⟩ => show 128 * ((i 0).val / 128) ≤ (i 0).val ∧ (i 0).val < 128 * ((i 0).val / 128) + 128; omega
  | ⟨1, _⟩ => have h : (i 1).val < 64 := (i 1).isLt; exact ⟨Nat.zero_le _, by show (i 1).val < 0 + 64; omega⟩

section Split
variable (c : Dev nD)
omit [FloatOps F] in
theorem hPts_all (f) : bigSep Finset.univ (fun k => hPts (F := F) c k f) = (((c : Thread nD τ).loc main_arg1) ↦{fullShare} f : sProp 𝕄) :=
  (Ring.pointsTo_blocks (ℓ := (c : Thread nD τ).loc main_arg1) (fun b => (hRc b).set) h_disj h_cover f).symm
omit [FloatOps F] in
theorem wPts_all (f) : bigSep Finset.univ (fun k => wPts (F := F) c k f) = (((c : Thread nD τ).loc cc0_scratch0) ↦{fullShare} f : sProp 𝕄) :=
  (Ring.pointsTo_blocks (ℓ := (c : Thread nD τ).loc cc0_scratch0) (fun b => (wRc b).set) w_disj w_cover f).symm
omit [FloatOps F] in
theorem yPts_all (f) : bigSep Finset.univ (fun k => yPts (F := F) c k f) = (((c : Thread nD τ).loc cc0_scratch1) ↦{fullShare} f : sProp 𝕄) :=
  (Ring.pointsTo_blocks (ℓ := (c : Thread nD τ).loc cc0_scratch1) (fun b => (yRc b).set) y_disj y_cover f).symm
omit [FloatOps F] in
theorem rPts_all (f) : bigSep Finset.univ (fun k => rPts (F := F) c k f) = (((c : Thread nD τ).loc cc0_scratch2) ↦{fullShare} f : sProp 𝕄) :=
  (Ring.pointsTo_blocks (ℓ := (c : Thread nD τ).loc cc0_scratch2) (fun b => (rRc b).set) r_disj r_cover f).symm
omit [FloatOps F] in
theorem zPts_all (f) : bigSep Finset.univ (fun k => zPts (F := F) c k f) = (((c : Thread nD τ).loc cc0_scratch4) ↦{fullShare} f : sProp 𝕄) :=
  (Ring.pointsTo_blocks (ℓ := (c : Thread nD τ).loc cc0_scratch4) (fun b => (zRc b).set) z_disj z_cover f).symm
omit [FloatOps F] in
theorem aPts_all (f) : bigSep Finset.univ (fun k => aPts (F := F) c k f) = (((c : Thread nD τ).loc cc0_scratch3) ↦{fullShare} f : sProp 𝕄) :=
  (ShareLeaves.pointsTo_leaves (ℓ := (c : Thread nD τ).loc cc0_scratch3) Finset.univ f 5 fullShare).symm
end Split

/-! ## The views' elements and credits -/

theorem wV_set (u : Fin 8) : (wV ![u.val, 0, 0] (wC_inb u)).view.set = (wRc u).set :=
  (View.set_reshape _ _).trans (View.set_slice_whole _ _)
theorem hV_set (k : Fin 8) : (hV ![0, 256 * k.val] (hC_inb k)).view.set = (hRc k).set := View.set_slice_whole _ _
theorem yV_set (j : Dev nD) : (yV ![j.val, 0, 0] (yC_inb j)).view.set = (yRc j).set :=
  (View.set_reshape _ _).trans (View.set_slice_whole _ _)
theorem rV_set (j : Dev nD) : (rV ![128 * j.val, 0] (rC_inb j)).view.set = (rRc j).set := View.set_slice_whole _ _
theorem zV_set (j : Dev nD) : (zV ![j.val, 0] (zC_inb j)).view.set = (zRc j).set := View.set_slice_whole _ _

/-- Where the views put their elements. -/
theorem wRc_emb (u : Fin 8) (z : Fin 1) (a : Fin 4096) (b : Fin 256) : (wRc u).emb (ix3 z a b) = ix3 u a b := by
  funext d; match d with
  | ⟨0, _⟩ => exact Fin.ext (by show u.val + 1 * z.val = u.val; omega)
  | ⟨1, _⟩ => exact Fin.ext (by show 0 + 1 * a.val = a.val; omega)
  | ⟨2, _⟩ => exact Fin.ext (by show 0 + 1 * b.val = b.val; omega)
theorem yRc_emb (j : Dev nD) (z : Fin 1) (a : Fin 128) (b : Fin 64) : (yRc j).emb (ix3 z a b) = ix3 j a b := by
  funext d; match d with
  | ⟨0, _⟩ => exact Fin.ext (by show j.val + 1 * z.val = j.val; omega)
  | ⟨1, _⟩ => exact Fin.ext (by show 0 + 1 * a.val = a.val; omega)
  | ⟨2, _⟩ => exact Fin.ext (by show 0 + 1 * b.val = b.val; omega)
theorem wV_emb (u : Fin 8) (a : Fin 4096) (b : Fin 256) : (wV ![u.val, 0, 0] (wC_inb u)).view.emb (ix2 a b) = ix3 u a b := by
  show (wRc u).emb (Shape.reshapeEquiv _ (ix2 a b)) = _
  rw [reshapeEquiv_ix2_1ab]; exact wRc_emb u _ a b
theorem yV_emb (j : Dev nD) (a : Fin 128) (b : Fin 64) : (yV ![j.val, 0, 0] (yC_inb j)).view.emb (ix2 a b) = ix3 j a b := by
  show (yRc j).emb (Shape.reshapeEquiv _ (ix2 a b)) = _
  rw [reshapeEquiv_ix2_1ab]; exact yRc_emb j _ a b

omit [FloatOps F] in
/-- A view written whole holds `g` where the written values are `g`'s. -/
theorem land {κ : Kind} {sp : Space} {s : Shape} {e : EltTy} (v : View sig κ sp s e) (f g : v.ty.Contents (Elt F)) (w : s.Idx → Elt F e)
    (h : ∀ x, _root_.cast (congrArg (Elt F) v.elt_eq.symm) (w x) = g (v.emb x)) :
    ∀ i ∈ v.set, v.write (Elt F) f w Finset.univ i = g i := fun i hi => by
  obtain ⟨x, -, rfl⟩ := Finset.mem_map.mp hi
  exact (View.write_emb_of_mem f w (Finset.mem_univ x)).trans (h x)

section Land
variable (c : Dev nD)

/-- A turn's weights land. -/
theorem land_w (u : Fin 8) (f : Buf (Elt F) ((c : Thread nD τ).loc cc0_scratch0)) :
    (((c : Thread nD τ).loc cc0_scratch0) ↦[(wRc u).set]{fullShare}
      (wV ![u.val, 0, 0] (wC_inb u)).view.write (Elt F) f
        ((hV ![0, 256 * (chOf c u).val] (hC_inb (chOf c u))).view.read (Elt F) (m ((c : Thread nD τ).loc main_arg1))) Finset.univ : sProp 𝕄)
      = wPts c u (wVmem m c) := by
  rw [← wV_set]; unfold wPts; rw [← wV_set]
  refine pointsTo_congr (land (wV ![u.val, 0, 0] (wC_inb u)).view f (wVmem m c) _ fun x => ?_)
  rw [eq_ix2 x]
  refine Eq.trans ?_ (congrArg (wVmem m c) (wV_emb u (x 0) (x 1)).symm)
  show wArr m c ((hRc (chOf c u)).emb (ix2 (x 0) (x 1))) = wBlk m c u (ix3 0 (x 0) (x 1))
  unfold wBlk
  refine congrArg (wArr m c) (funext fun d => ?_)
  match d with
  | ⟨0, _⟩ => exact Fin.ext (by show 0 + 1 * (x 0).val = (x 0).val; omega)
  | ⟨1, _⟩ => exact Fin.ext (by show 256 * (chOf c u).val + 1 * (x 1).val = 256 * (chOf c u).val + (x 1).val; omega)

/-- Device `c`'s slice for device `j` lands in `c`'s rows there. -/
theorem recvAll_at (j : Dev nD) (a : Fin 128) (b : Fin 64) (i : S4096x64.Idx) (h0 : (i 0).val = 128 * c.val + a.val) (h1 : (i 1).val = b.val) :
    recvAll m ρ j i = ySrc m ρ c (ix3 j a b) := by
  unfold recvAll
  have ha := a.isLt
  refine (congrFun (congrArg (ySrc m ρ) (Fin.ext (a := _) (b := c) (by show (i 0).val / 128 = c.val; rw [h0]; omega))) _).trans
    (congrArg (ySrc m ρ c) ?_)
  · funext d; match d with
    | ⟨0, _⟩ => rfl
    | ⟨1, _⟩ => exact Fin.ext (by show (i 0).val % 128 = a.val; rw [h0]; omega)
    | ⟨2, _⟩ => exact Fin.ext h1
theorem land_r (j : Dev nD) (f : Buf (Elt F) ((j : Thread nD τ).loc cc0_scratch2)) :
    (((j : Thread nD τ).loc cc0_scratch2) ↦[(rRc c).set]{fullShare}
      (rV ![128 * c.val, 0] (rC_inb c)).view.write (Elt F) f
        ((yV ![j.val, 0, 0] (yC_inb j)).view.read (Elt F) (ySrc m ρ c)) Finset.univ : sProp 𝕄)
      = rPts j c (recvAll m ρ j) := by
  rw [← rV_set]; unfold rPts; rw [← rV_set]
  refine pointsTo_congr (land (rV ![128 * c.val, 0] (rC_inb c)).view f (recvAll m ρ j) _ fun x => ?_)
  rw [eq_ix2 x]
  refine Eq.trans (congrArg (ySrc m ρ c) (yV_emb j (x 0) (x 1))) (recvAll_at m ρ c j (x 0) (x 1) _ ?_ ?_).symm
  · show 128 * c.val + 1 * (x 0).val = _; omega
  · show 0 + 1 * (x 1).val = _; omega
theorem land_z (j : Dev nD) (f : Buf (Elt F) ((j : Thread nD τ).loc cc0_scratch4)) :
    (((j : Thread nD τ).loc cc0_scratch4) ↦[(zRc c).set]{fullShare}
      (zV ![c.val, 0] (zC_inb c)).view.write (Elt F) f (aM.view.read (Elt F) (amaxA m ρ c)) Finset.univ : sProp 𝕄)
      = zPts j c (amaxAll m ρ) := by
  rw [← zV_set]; unfold zPts; rw [← zV_set]
  refine pointsTo_congr (land (zV ![c.val, 0] (zC_inb c)).view f (amaxAll m ρ) _ fun x => ?_)
  show mAll m ρ c = mAll m ρ _
  exact congrArg (mAll m ρ) (Fin.ext (by have h : (x 0).val < 1 := (x 0).isLt; show c.val = c.val + 1 * (x 0).val; omega))

/-- The stores: a slice in its slot, the own slice in the own rows, the maximum. -/
theorem store_y (u : Fin 8) (t : Fin 4) (f : Buf (Elt F) ((c : Thread nD τ).loc cc0_scratch1)) :
    (((c : Thread nD τ).loc cc0_scratch1) ↦[(yRc (jOf c u t)).set]{fullShare}
      (yM.access (yRc (jOf c u t))).write (Elt F) f (slP (ybC m ρ c u) t) Finset.univ : sProp 𝕄)
      = yPts c (jOf c u t) (ySrc m ρ c) := by
  unfold yPts
  rw [show (yRc (jOf c u t)).set = (yM.access (yRc (jOf c u t))).set from (View.set_slice_whole _ _).symm]
  refine pointsTo_congr (land (yM.access (yRc (jOf c u t))) f (ySrc m ρ c) _ fun x => ?_)
  rw [eq_ix3 x]
  refine Eq.trans ?_ (congrArg (ySrc m ρ c) (yRc_emb (jOf c u t) (x 0) (x 1) (x 2)).symm)
  show slP (ybC m ρ c u) t (ix3 (x 0) (x 1) (x 2)) = slP (ybC m ρ c (uOf c (jOf c u t))) (tOf (jOf c u t)) (ix3 0 (x 1) (x 2))
  rw [uOf_jOf, tOf_jOf]
  exact congrArg (fun z => slP (ybC m ρ c u) t (ix3 z (x 1) (x 2))) (Fin.ext (by have h : (x 0).val < 1 := (x 0).isLt; show (x 0).val = 0; omega))
theorem read_y (j : Dev nD) (a : Fin 1) (b : Fin 128) (d : Fin 64) :
    (yM.access (yRc j)).read (Elt F) (ySrc m ρ c) (ix3 a b d) = ySrc m ρ c (ix3 j b d) := congrArg (ySrc m ρ c) (yRc_emb j a b d)
theorem pay6_apply (v : Vec F S1x128x64 .bf16) (a : Fin 128) (b : Fin 64) : k0_pay6 v (ix2 a b) = v (ix3 0 a b) := by
  unfold k0_pay6
  rw [shapeCast_self]
  exact shapeCast_1ab_ab_apply v _ a b
theorem own_apply (v : Vec F S1x128x64 .bf16) (hv : ∀ a b, v (ix3 0 a b) = ySrc m ρ c (ix3 c a b)) (x : S128x64.Idx) :
    k0_pay6 v x = recvAll m ρ c ((rRc c).emb x) := by
  have e : k0_pay6 v x = k0_pay6 v (ix2 (x 0) (x 1)) := congrArg (k0_pay6 v) (eq_ix2 x)
  refine (e.trans ((pay6_apply v (x 0) (x 1)).trans (hv (x 0) (x 1)))).trans (recvAll_at m ρ c c (x 0) (x 1) _ ?_ ?_).symm
  · show 128 * c.val + 1 * (x 0).val = _; omega
  · show 0 + 1 * (x 1).val = _; omega
theorem store_r_of (f : Buf (Elt F) ((c : Thread nD τ).loc cc0_scratch2)) (v : FVec F S128x64 .bf16)
    (hv : ∀ x : S128x64.Idx, v x = recvAll m ρ c ((rRc c).emb x)) :
    (((c : Thread nD τ).loc cc0_scratch2) ↦[(rRc c).set]{fullShare} (rM.access (rRc c)).write (Elt F) f v Finset.univ : sProp 𝕄)
      = rPts c c (recvAll m ρ c) := by
  unfold rPts
  rw [show (rRc c).set = (rM.access (rRc c)).set from (View.set_slice_whole _ _).symm]
  exact pointsTo_congr (land (rM.access (rRc c)) f (recvAll m ρ c) v hv)
theorem store_r (f : Buf (Elt F) ((c : Thread nD τ).loc cc0_scratch2)) :
    (((c : Thread nD τ).loc cc0_scratch2) ↦[(rRc c).set]{fullShare}
      (rM.access (rRc c)).write (Elt F) f (k0_pay6 ((yM.access (yRc c)).read (Elt F) (ySrc m ρ c))) Finset.univ : sProp 𝕄)
      = rPts c c (recvAll m ρ c) :=
  store_r_of m ρ c f _ (own_apply m ρ c _ fun a b => read_y m ρ c c 0 a b)
theorem pay96_eq (v : F .f32) : k0_pay96 v = fun _ => v := rfl
theorem pay98_eq (v : F .f32) : k0_pay98 (k0_pay97 v) = fun _ => v := rfl
theorem store_z (f : Buf (Elt F) ((c : Thread nD τ).loc cc0_scratch4)) :
    (((c : Thread nD τ).loc cc0_scratch4) ↦[(zRc c).set]{fullShare}
      (zM.access (zRc c)).write (Elt F) f (k0_pay98 (k0_pay97 (mAll m ρ c))) Finset.univ : sProp 𝕄)
      = zPts c c (amaxAll m ρ) := by
  unfold zPts
  rw [show (zRc c).set = (zM.access (zRc c)).set from (View.set_slice_whole _ _).symm]
  refine pointsTo_congr (land (zM.access (zRc c)) f (amaxAll m ρ) _ fun x => ?_)
  show mAll m ρ c = mAll m ρ _
  exact congrArg (mAll m ρ) (Fin.ext (by have h : (x 0).val < 1 := (x 0).isLt; show c.val = c.val + 1 * (x 0).val; omega))

/-- The loads. -/
theorem read_w (u : Fin 8) : (wM.access (wRc u)).read (Elt F) (wVmem m c) = wBlk m c u := by
  funext x
  rw [eq_ix3 x]
  refine (congrArg (wVmem m c) (wRc_emb u (x 0) (x 1) (x 2))).trans ?_
  exact congrArg (fun z => wBlk m c u (ix3 z (x 1) (x 2))) (Fin.ext (by have h : (x 0).val < 1 := (x 0).isLt; show 0 = (x 0).val; omega))
end Land

end Cert.KProof

end
end
-- ==== Proof.Rules.lean ====
/-
One rule per kind of operation of the body: what device `c` gives and gets, over the cells' invariants.
-/
module

public import proofs.«01_k».proof.Proof.Slots

@[expose] public section

set_option maxRecDepth 20000

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev WP (c : Dev nD) {α : Type} (p : P F α) (Q : α → sProp 𝕄) : sProp 𝕄 :=
  wp frame (wpE (defs₀ (F := F)) 𝒱₀ (c : Thread nD τ) none) Set.univ p Q

/-- All cells' invariants under the names `K`, that each cell has reached its round, and the levels. -/
def recs (K : Dev nD × CK → ℕ) : sProp 𝕄 :=
  iprop((bigSep Finset.univ fun ck => cellInv ER (Rd m ρ) (K ck) (kcell ck))
    ∗ (bigSep Finset.univ fun ck => reached ER (kcell ck) 0) ∗ levAts L lv)

instance recs_persistent (K) : BI.Persistent (recs (F := F) m ρ K) := by unfold recs; infer_instance

omit [FloatOps F] in
theorem take_one {I : Type} [DecidableEq I] {s : Finset I} {i : I} (h : i ∈ s) {Φ : I → sProp 𝕄} : (bigSep s Φ : sProp 𝕄) ⊢ Φ i :=
  bigSep_elim h

section Recs
variable (K : Dev nD × CK → ℕ)
theorem recs_inv (c : Dev nD) (k : CK) : recs m ρ K ⊢ cellInv ER (Rd m ρ) (K (c, k)) (cell c k) := by
  unfold recs
  iintro ⟨H, -, -⟩
  iapply (take_one (Finset.mem_univ ((c, k) : Dev nD × CK)) (Φ := fun ck : Dev nD × CK => (cellInv ER (Rd m ρ) (K ck) (kcell ck) : sProp 𝕄))); iexact H
theorem recs_reached (c : Dev nD) (k : CK) : recs m ρ K ⊢ reached ER (cell c k) 0 := by
  unfold recs
  iintro ⟨-, H, -⟩
  iapply (take_one (Finset.mem_univ ((c, k) : Dev nD × CK)) (Φ := fun ck : Dev nD × CK => (reached ER (kcell ck) 0 : sProp 𝕄))); iexact H
theorem recs_lev : recs m ρ K ⊢ (levAts L lv : sProp 𝕄) := by
  unfold recs
  iintro ⟨-, -, H⟩; iexact H
theorem recs_mayWait (c : Dev nD) (k : CK) (n : ℕ) (hn : lvOf k < n) {O : Tal} (hO : Above n O) :
    recs m ρ K ⊢ MayWait (c : Thread nD τ) (csem k) () O := by
  have h0 : lv ((c : Thread nD τ), csem k) () < n := by rw [lv_cell]; exact hn
  have h1 := mayWait (F := F) c (csem k) n h0 hO
  have h2 := recs_lev m ρ K
  exact h2.trans h1
end Recs

/-- What device `c` owes, whatever it has waited for. -/
def OW (c : Dev nD) (O : Tal) : sProp 𝕄 := iprop(∃ W, owes (c : Thread nD τ) O W)

abbrev tok (c : Dev nD) (k : CK) (d : Dev nD) : sProp 𝕄 := dutyTok ER (cell c k) 0 d
abbrev pos (c : Dev nD) (k : CK) : sProp 𝕄 := atPos ER (cell c k) 0 ∅ 0
abbrev zeroAt (c : Dev nD) (k : CK) : sProp 𝕄 := semVal (cell c k) 0
abbrev crd (c : Dev nD) (k : CK) : sProp 𝕄 := cred (tal c k)

section Steps
variable (K : Dev nD × CK → ℕ) {α : Type} (c : Dev nD)

/-- A cell nothing pays closes. -/
theorem wp_close (k : CK) (hz : Zero c k) (p : P F α) (Q : α → sProp 𝕄) :
    iprop(recs m ρ K ∗ pos c k ∗ (zeroAt c k -∗ WP c p Q)) ⊢ WP c p Q := by
  iintro ⟨#HR, Hat, Hk⟩
  imod (Rounds.cell_close ER (Rd m ρ) (Set.mem_univ (K (c, k))) (fun h => h) (R := 0)
    (g := cell c k) (fun r _ => by
      rcases Nat.eq_zero_or_pos r with rfl | h
      · rw [duties_eq]; exact hz
      · exact duties_later m ρ _ r h)) $$ [Hat] with Hz
  · isplitr; · iapply (recs_inv m ρ K c k); iexact HR
    iexact Hat
  iapply Hk; iexact Hz

/-- A signal that pays peer `p`'s cell `ck`. -/
theorem wp_sigG (ck : CK) (p d : Dev nD) (sem : Sem sig) (hsm : csem ck = .reg sem) (hd : d ∈ dutyOf p ck) (n : ℕ) (hn : amtOf ck = n)
    (O : Tal) (k : PUnit → P F α) (Q : α → sProp 𝕄) :
    iprop(recs m ρ K ∗ OW c (O + tal p ck) ∗ tok p ck d ∗ payOf m ρ p ck d ∗ (OW c O -∗ WP c (k ⟨⟩) Q))
      ⊢ WP c (.op (.semSignal (p : Thread nD τ) sem n) k) Q := by
  have hg : ((p : Thread nD τ), .reg sem) = cell p ck := congrArg (Prod.mk (p : Thread nD τ)) hsm.symm
  have h1 := fun W => Rounds.wp_signal (defs := defs₀ (F := F)) (Γ := PendingWaitsCtx.empty) (Q := Q) 𝒱₀ ER (Rd m ρ) (c : Thread nD τ) none (dst := (p : Thread nD τ)) (sem := sem) (k := k) (κ := K (p, ck)) (r := 0)
      (d := d) (k' := n) (by rw [hg, duties_eq]; exact hd) (by rw [hg, amount_eq]; exact hn) () (O₀ := O + tal p ck) O (by rw [hg, ← hn]) (W := W) (Es := Set.univ)
  rw [hg, payload_eq] at h1
  unfold OW
  iintro ⟨#HR, ⟨%W, HO⟩, Ht, Hp, Hk⟩
  iapply (h1 W) $$ [HO Ht Hp]
  · isplitr; · iapply (recs_inv m ρ K p ck); iexact HR
    isplitl [HO]; · iexact HO
    isplitl [Ht]; · iexact Ht
    isplitl [Hp]; · iexact Hp
    iapply (recs_reached m ρ K p ck); iexact HR
  iintro HO
  iapply Hk; iexists W; iexact HO

/-- A wait for the whole round of the device's own cell `ck`, which then closes. -/
theorem wp_waitG (ck : CK) {w : TpuEff nD τ sig (Elt F) Λ₀ .tc PUnit} {sm : SemLoc sig} {k' : ℕ}
    (hw : ∀ T : PUnit → sProp 𝕄, wpE (defs₀ (F := F)) 𝒱₀ (c : Thread nD τ) none Set.univ w T = waitSpec (c : Thread nD τ) Set.univ sm k' T)
    (hsm : csem ck = sm) (hN : k' = (dutyOf c ck).card * amtOf ck)
    (n : ℕ) (hn : lvOf ck < n) (O : Tal) (hO : Above n O) (k : PUnit → P F α) (Q : α → sProp 𝕄) :
    iprop(recs m ρ K ∗ cred (tallyAt (cell c ck) () k') ∗ OW c O ∗ pos c ck
        ∗ ((OW c O ∗ bigSep (dutyOf c ck) (payOf m ρ c ck) ∗ zeroAt c ck) -∗ WP c (k ⟨⟩) Q))
      ⊢ WP c (.op w k) Q := by
  subst hsm
  have h1 := fun W => Rounds.wp_wait_rest_token (defs := defs₀ (F := F)) (Γ := PendingWaitsCtx.empty) (Q := Q) 𝒱₀ ER (Rd m ρ) (c : Thread nD τ) none (κ := K (c, ck)) (k := k)
      hw (Set.mem_univ _) () (O := O) (W := W) (R := 0) (m := 0) (T := ∅) (by rw [Nat.zero_add, hN]; exact (expect_eq m ρ c ck).symm)
  unfold OW
  iintro ⟨#HR, Hc, ⟨%W, HO⟩, Hat, Hk⟩
  iapply (h1 W) $$ [Hc HO Hat]
  · isplitr; · iapply (recs_inv m ρ K c ck); iexact HR
    isplitl [Hc]; · iexact Hc
    isplitl [HO]; · iexact HO
    isplitr; · iapply (recs_mayWait m ρ K c ck n hn hO); iexact HR
    iexact Hat
  iintro ⟨HO, Hat, -, Hpay⟩
  ihave Hp := (Entails.of_eq (rest_eq m ρ c ck)) $$ Hpay
  imod (Rounds.cell_close ER (Rd m ρ) (Set.mem_univ (K (c, ck))) (fun h => h) (R := 0 + 1) (duties_later m ρ (cell c ck))) $$ [Hat] with Hz
  · isplitr; · iapply (recs_inv m ρ K c ck); iexact HR
    iexact Hat
  iapply Hk
  isplitl [HO]; · iexists _; iexact HO
  isplitl [Hp]; · iexact Hp
  iexact Hz

/-- A wait for a transfer's end. -/
theorem wp_waitD (ck : CK) (h1 : One c ck) {sp sp' : Space} {s : Shape} {e : EltTy} {sem : DmaSem sig}
    {src : Memref sig .tc sp s e} {dst : Memref sig .tc sp' s e} {hs : src.view.WordExact} {hd : dst.view.WordExact}
    (hsm : csem ck = .dma sem) (hN : dst.view.dmaCredit = amtOf ck)
    (n : ℕ) (hn : lvOf ck < n) (O : Tal) (hO : Above n O) (k : PUnit → P F α) (Q : α → sProp 𝕄) :
    iprop(recs m ρ K ∗ crd c ck ∗ OW c O ∗ pos c ck
        ∗ ((OW c O ∗ payOf m ρ c ck 0 ∗ zeroAt c ck) -∗ WP c (k ⟨⟩) Q))
      ⊢ WP c (.op (.waitDma2 sem src dst hs hd) k) Q := by
  have h := wp_waitG m ρ K c ck (w := .waitDma2 sem src dst hs hd) (sm := .dma sem) (k' := amtOf ck)
    (fun T => hN ▸ wpE_waitDma2_eq 𝒱₀ (c : Thread nD τ) none Set.univ T) hsm
    (by rw [show dutyOf c ck = {0} from h1, Finset.card_singleton, Nat.one_mul]) n hn O hO k Q
  rw [show dutyOf c ck = {0} from h1, bigSep_singleton] at h
  exact h

/-- A local transfer that pays the device's own cell `ck`. -/
theorem wp_cpG (ck : CK) (h1 : One c ck) {sp sp' : Space} {s : Shape} {e : EltTy} {sem : DmaSem sig}
    {src : Memref sig .tc sp s e} {dst : Memref sig .tc sp' s e} {hs : src.view.WordExact} {hd : dst.view.WordExact} {ht}
    (hsm : csem ck = .dma sem) (hN : dst.view.dmaCredit = amtOf ck)
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ payOf m ρ c ck 0)
    (k : PUnit → P F α) (Q : α → sProp 𝕄) :
    iprop(recs m ρ K ∗ (src.view.loc (c : Thread nD τ) ↦[src.view.set]{fullShare} fs) ∗ (dst.view.loc (c : Thread nD τ) ↦[dst.view.set]{fullShare} fd) ∗ tok c ck 0
        ∗ (crd c ck -∗ WP c (k ⟨⟩) Q))
      ⊢ WP c (.op (.enqueueDma src (.here dst) (.dma sem) hs hd ht) k) Q := by
  have hg : ((c : Thread nD τ), .dma sem) = cell c ck := congrArg (Prod.mk (c : Thread nD τ)) hsm.symm
  have h2 := Rounds.wp_copy_pointsTo (defs := defs₀ (F := F)) (Γ := PendingWaitsCtx.empty) (Q := Q) 𝒱₀ ER (Rd m ρ) (c : Thread nD τ) none (src := src) (dst := dst) (sem := .dma sem) (hsrc := hs) (hdst := hd) (hsem := ht) (k := k) (κ := K (c, ck)) (r := 0)
      (d := 0) (q := fullShare) (fs := fs) (fd := fd) (by rw [hg, duties_eq, show dutyOf c ck = {0} from h1]; exact Finset.mem_singleton_self _) () (amtOf ck) hN
      (by rw [hg]; exact amount_eq m ρ c ck 0 0) (by rw [hg, payload_eq]; exact hpay) (Es := Set.univ)
  rw [hg] at h2
  iintro ⟨#HR, Hh, Hw, Ht, Hk⟩
  iapply h2 $$ [Hh Hw Ht]
  · isplitr; · iapply (recs_inv m ρ K c ck); iexact HR
    isplitl [Hh]; · iexact Hh
    isplitl [Hw]; · iexact Hw
    isplitl [Ht]; · iexact Ht
    iapply (recs_reached m ρ K c ck); iexact HR
  iintro Hc
  iapply Hk; iexact Hc

/-- A transfer to peer `j` that pays the device's own cell `ck` and the peer's cell `ck'`. -/
theorem wp_sndG (j : Dev nD) (ck ck' : CK) (h1 : One c ck) (h1' : One j ck') {sp sp' : Space} {s : Shape} {e : EltTy} {sem sem' : DmaSem sig}
    {src : Memref sig .tc sp s e} {dst : Memref sig .tc sp' s e} {hsc} {hs : src.view.WordExact} {hd : dst.view.WordExact} {ht}
    (hsm : csem ck = .dma sem) (hsm' : csem ck' = .dma sem') (hN : dst.view.dmaCredit = amtOf ck) (hN' : amtOf ck' = amtOf ck) (q : PosShare TreeShare)
    (fs : Buf (Elt F) (src.view.loc (c : Thread nD τ))) (fd : Buf (Elt F) (dst.view.loc (j : Thread nD τ)))
    (hpay : (src.view.loc (c : Thread nD τ) ↦[src.view.set]{q} fs) ⊢ payOf m ρ c ck 0)
    (hpay' : (dst.view.loc (j : Thread nD τ) ↦[dst.view.set]{fullShare} (dst.view.write (Elt F) fd (src.view.read (Elt F) fs) Finset.univ)) ⊢ payOf m ρ j ck' 0)
    (O : Tal) (k : PUnit → P F α) (Q : α → sProp 𝕄) :
    iprop(recs m ρ K ∗ OW c (O + tal j ck') ∗ (src.view.loc (c : Thread nD τ) ↦[src.view.set]{q} fs) ∗ (dst.view.loc (j : Thread nD τ) ↦[dst.view.set]{fullShare} fd)
        ∗ tok c ck 0 ∗ tok j ck' 0 ∗ ((OW c O ∗ crd c ck) -∗ WP c (k ⟨⟩) Q))
      ⊢ WP c (.op (.enqueueDma src (.remote (Dev.tc j : Thread nD τ) dst (.dma sem) hsc) (.dma sem') hs hd ht) k) Q := by
  have hg : ((c : Thread nD τ), .dma sem) = cell c ck := congrArg (Prod.mk (c : Thread nD τ)) hsm.symm
  have hg' : ((j : Thread nD τ), .dma sem') = cell j ck' := congrArg (Prod.mk (j : Thread nD τ)) hsm'.symm
  have h2 := fun W => Rounds.wp_send_pointsTo (defs := defs₀ (F := F)) (Γ := PendingWaitsCtx.empty) (Q := Q) 𝒱₀ ER (Rd m ρ) (c : Thread nD τ) none (c' := (j : Thread nD τ)) (src := src) (dst := dst) (hsc := hsc) (sS := .dma sem) (sem := .dma sem')
      (hsrc := hs) (hdst := hd) (hsem := ht) (k := k) (κ₁ := K (c, ck)) (κ₂ := K (j, ck')) (r₁ := 0) (r₂ := 0) (d₁ := 0) (d₂ := 0) (q := q) (fs := fs) (fd := fd)
      (by rw [hg, duties_eq, show dutyOf c ck = {0} from h1]; exact Finset.mem_singleton_self _)
      (by rw [hg', duties_eq, show dutyOf j ck' = {0} from h1']; exact Finset.mem_singleton_self _) () () (amtOf ck) hN
      (by rw [hg]; exact amount_eq m ρ c ck 0 0) (by rw [hg', amount_eq]; exact hN') (O₀ := O + tal j ck') O (by rw [hg', ← hN']) (W := W)
      (by rw [hg, payload_eq]; exact hpay) (by rw [hg', payload_eq]; exact hpay') (Es := Set.univ)
  rw [hg, hg'] at h2
  unfold OW
  iintro ⟨#HR, ⟨%W, HO⟩, Hy, Hr, Ht, Ht', Hk⟩
  iapply (h2 W) $$ [HO Hy Hr Ht Ht']
  · isplitr; · iapply (recs_inv m ρ K c ck); iexact HR
    isplitr; · iapply (recs_inv m ρ K j ck'); iexact HR
    isplitl [Hy]; · iexact Hy
    isplitl [Hr]; · iexact Hr
    isplitl [HO]; · iexact HO
    isplitl [Ht]; · iexact Ht
    isplitr; · iapply (recs_reached m ρ K c ck); iexact HR
    isplitl [Ht']; · iexact Ht'
    iapply (recs_reached m ρ K j ck'); iexact HR
  iintro ⟨Hc, HO⟩
  iapply Hk
  isplitl [HO]; · iexists W; iexact HO
  iexact Hc

/-! ### The rules at the operations -/

/-- An entry signal to peer `p`. -/
theorem wp_sig (p : Dev nD) (hp : p ≠ c) (O : Tal) (k : PUnit → P F α) (Q : α → sProp 𝕄) :
    iprop(recs m ρ K ∗ OW c (O + tal p kBar) ∗ tok p kBar c ∗ payOf m ρ p kBar c ∗ (OW c O -∗ WP c (k ⟨⟩) Q))
      ⊢ WP c (cSig p >>= k) Q :=
  wp_sigG m ρ K c kBar p c barS rfl (Finset.mem_erase.mpr ⟨hp.symm, Finset.mem_univ _⟩) _ (by decide) O k Q

/-- The entry wait: every peer's signal, with what each hands over. -/
theorem wp_waitB (O : Tal) (hO : Above 2 O) (k : PUnit → P F α) (Q : α → sProp 𝕄) :
    iprop(recs m ρ K ∗ cred (tallyAt (cell c kBar) () 31) ∗ OW c O ∗ pos c kBar
        ∗ ((OW c O ∗ bigSep (dutyOf c kBar) (payOf m ρ c kBar) ∗ zeroAt c kBar) -∗ WP c (k ⟨⟩) Q))
      ⊢ WP c (cWaitB >>= k) Q :=
  wp_waitG m ρ K c kBar (w := .semWait barS 31) (wpE_semWait_eq 𝒱₀ (c : Thread nD τ) none Set.univ) rfl
    (by
      show 31 = (Finset.univ.erase c).card * 1
      rw [Finset.card_erase_of_mem (Finset.mem_univ _), Finset.card_univ, Fintype.card_fin]; rfl) 2 (by decide) O hO k Q

/-- A turn's weights fetched to its slot, and waited for. -/
theorem wp_cp (u : Fin 8) (k : PUnit → P F α) (Q : α → sProp 𝕄) :
    iprop(recs m ρ K ∗ hPts c (chOf c u) (m ((c : Thread nD τ).loc main_arg1)) ∗ (∃ f, wPts (F := F) c u f) ∗ tok c (kW u) 0
        ∗ (crd c (kW u) -∗ WP c (k ⟨⟩) Q))
      ⊢ WP c (cCopy (chOf c u) u >>= k) Q := by
  iintro ⟨#HR, Hh, ⟨%f, Hw⟩, Ht, Hk⟩
  iapply (wp_cpG m ρ K c (kW u) (one_w c u) (src := hV ![0, 256 * (chOf c u).val] (hC_inb (chOf c u))) (dst := wV ![u.val, 0, 0] (wC_inb u)) (sem := semW u)
    rfl rfl (m ((c : Thread nD τ).loc main_arg1)) f
    (by rw [wV_set, hV_set]; exact Entails.of_eq (congrArg₂ _ (land_w m c u f) rfl)) k Q)
  isplitr; · iexact HR
  isplitl [Hh]; · rw [hV_set]; unfold hPts; iexact Hh
  isplitl [Hw]; · rw [wV_set]; unfold wPts; iexact Hw
  isplitl [Ht]; · iexact Ht
  iexact Hk

/-- A slice sent to peer `j`. -/
theorem wp_snd (j : Dev nD) (hj : j ≠ c) (O : Tal) (k : PUnit → P F α) (Q : α → sProp 𝕄) :
    iprop(recs m ρ K ∗ OW c (O + tal j (kRcv c)) ∗ yPts c j (ySrc m ρ c) ∗ (∃ f, rPts (F := F) j c f) ∗ tok c (kSnd j) 0 ∗ tok j (kRcv c) 0
        ∗ ((OW c O ∗ crd c (kSnd j)) -∗ WP c (k ⟨⟩) Q))
      ⊢ WP c (cSend c j >>= k) Q := by
  iintro ⟨#HR, HO, Hy, ⟨%f, Hr⟩, Ht, Ht', Hk⟩
  iapply (wp_sndG m ρ K c j (kSnd j) (kRcv c) (one_snd hj) (one_rcv hj.symm) (src := yV ![j.val, 0, 0] (yC_inb j)) (dst := rV ![128 * c.val, 0] (rC_inb c))
    (sem := semN cc0_scratch6 j) (sem' := semN cc0_scratch7 c) rfl rfl rfl rfl fullShare (ySrc m ρ c) f
    (by rw [yV_set]; exact BIBase.Entails.refl) (by rw [rV_set]; exact Entails.of_eq (land_r m ρ c j f)) O k Q)
  isplitr; · iexact HR
  isplitl [HO]; · iexact HO
  isplitl [Hy]; · rw [yV_set]; unfold yPts; iexact Hy
  isplitl [Hr]; · rw [rV_set]; unfold rPts; iexact Hr
  isplitl [Ht]; · iexact Ht
  isplitl [Ht']; · iexact Ht'
  iexact Hk

/-- The maximum sent to peer `j`. -/
theorem wp_sndA (j : Dev nD) (hj : j ≠ c) (O : Tal) (k : PUnit → P F α) (Q : α → sProp 𝕄) :
    iprop(recs m ρ K ∗ OW c (O + tal j (kAr c)) ∗ aPts c j (amaxA m ρ c) ∗ (∃ f, zPts (F := F) j c f) ∗ tok c (kAs j) 0 ∗ tok j (kAr c) 0
        ∗ ((OW c O ∗ crd c (kAs j)) -∗ WP c (k ⟨⟩) Q))
      ⊢ WP c (cSendA c j >>= k) Q := by
  iintro ⟨#HR, HO, Hy, ⟨%f, Hr⟩, Ht, Ht', Hk⟩
  iapply (wp_sndG m ρ K c j (kAs j) (kAr c) (one_as hj) (one_ar hj.symm) (src := aM) (dst := zV ![c.val, 0] (zC_inb c))
    (sem := semN cc0_scratch8 j) (sem' := semN cc0_scratch9 c) rfl rfl rfl rfl (ShareLeaves.leaf 5 fullShare j) (amaxA m ρ c) f
    (by rw [show aM.view.set = Finset.univ from View.set_whole _]; exact BIBase.Entails.refl)
    (by rw [zV_set]; exact Entails.of_eq (land_z m ρ c j f)) O k Q)
  isplitr; · iexact HR
  isplitl [HO]; · iexact HO
  isplitl [Hy]; · rw [show aM.view.set = Finset.univ from View.set_whole _]; unfold aPts; iexact Hy
  isplitl [Hr]; · rw [zV_set]; unfold zPts; iexact Hr
  isplitl [Ht]; · iexact Ht
  isplitl [Ht']; · iexact Ht'
  iexact Hk

theorem lvOf_lt : ∀ k : CK, lvOf k < 9
  | kBar => by show 1 < 9; decide
  | kW _ => by show 0 < 9; decide
  | kSnd _ => by show 0 < 9; decide
  | kRcv _ => by show 2 < 9; decide
  | kAs _ => by show 0 < 9; decide
  | kAr _ => by show 3 < 9; decide
theorem amt_y : (Memref.whole cc0_scratch1 : Memref sig .tc _ _ _).view.ref.dmaCredit S128x64 .bf16 = NY := by decide +kernel
theorem amt_a : (Memref.whole cc0_scratch3 : Memref sig .tc _ _ _).view.ref.dmaCredit S1x128 .f32 = NZ := by decide +kernel
theorem amt_y' (s : Dev nD) : (yV ![s.val, 0, 0] (yC_inb s)).view.dmaCredit = NY := amt_y
theorem amt_w' (u : Fin 8) : (wV ![u.val, 0, 0] (wC_inb u)).view.dmaCredit = NW := rfl
theorem amt_r' (s : Dev nD) : (rV ![128 * s.val, 0] (rC_inb s)).view.dmaCredit = NY := rfl
theorem amt_z' (s : Dev nD) : (zV ![s.val, 0] (zC_inb s)).view.dmaCredit = NZ := rfl
theorem amt_a' : (aM).view.dmaCredit = NZ := amt_a

/-- The waits for the transfers' ends. -/
theorem wp_waitW (u : Fin 8) (O : Tal) (hO : Above 1 O) (k : PUnit → P F α) (Q : α → sProp 𝕄) :
    iprop(recs m ρ K ∗ crd c (kW u) ∗ OW c O ∗ pos c (kW u)
        ∗ ((OW c O ∗ payOf m ρ c (kW u) 0 ∗ zeroAt c (kW u)) -∗ WP c (k ⟨⟩) Q))
      ⊢ WP c (cWaitW (chOf c u) u >>= k) Q :=
  wp_waitD m ρ K c (kW u) (one_w c u) (sem := semW u) rfl (amt_w' u) 1 Nat.zero_lt_one O hO k Q
theorem wp_waitR (s : Dev nD) (hs : s ≠ c) (k : PUnit → P F α) (Q : α → sProp 𝕄) :
    iprop(recs m ρ K ∗ crd c (kRcv s) ∗ OW c 0 ∗ pos c (kRcv s)
        ∗ ((OW c 0 ∗ payOf m ρ c (kRcv s) 0 ∗ zeroAt c (kRcv s)) -∗ WP c (k ⟨⟩) Q))
      ⊢ WP c (cWaitR s >>= k) Q :=
  wp_waitD m ρ K c (kRcv s) (one_rcv hs) (sem := semN cc0_scratch7 s) rfl (amt_r' s) 9 (lvOf_lt _) 0 (above_zero _) k Q
theorem wp_waitA (s : Dev nD) (hs : s ≠ c) (k : PUnit → P F α) (Q : α → sProp 𝕄) :
    iprop(recs m ρ K ∗ crd c (kAr s) ∗ OW c 0 ∗ pos c (kAr s)
        ∗ ((OW c 0 ∗ payOf m ρ c (kAr s) 0 ∗ zeroAt c (kAr s)) -∗ WP c (k ⟨⟩) Q))
      ⊢ WP c (cWaitA s >>= k) Q :=
  wp_waitD m ρ K c (kAr s) (one_ar hs) (sem := semN cc0_scratch9 s) rfl (amt_z' s) 9 (lvOf_lt _) 0 (above_zero _) k Q
theorem wp_waitS (s : Dev nD) (hs : s ≠ c) (k : PUnit → P F α) (Q : α → sProp 𝕄) :
    iprop(recs m ρ K ∗ crd c (kSnd s) ∗ OW c 0 ∗ pos c (kSnd s)
        ∗ ((OW c 0 ∗ payOf m ρ c (kSnd s) 0 ∗ zeroAt c (kSnd s)) -∗ WP c (k ⟨⟩) Q))
      ⊢ WP c (cWaitS c s >>= k) Q :=
  wp_waitD m ρ K c (kSnd s) (one_snd hs) (sem := semN cc0_scratch6 s) rfl (amt_y' s) 9 (lvOf_lt _) 0 (above_zero _) k Q
theorem wp_waitT (s : Dev nD) (hs : s ≠ c) (k : PUnit → P F α) (Q : α → sProp 𝕄) :
    iprop(recs m ρ K ∗ crd c (kAs s) ∗ OW c 0 ∗ pos c (kAs s)
        ∗ ((OW c 0 ∗ payOf m ρ c (kAs s) 0 ∗ zeroAt c (kAs s)) -∗ WP c (k ⟨⟩) Q))
      ⊢ WP c (cWaitT c s >>= k) Q :=
  wp_waitD m ρ K c (kAs s) (one_as hs) (sem := semN cc0_scratch8 s) rfl amt_a' 9 (lvOf_lt _) 0 (above_zero _) k Q

/-! ### Loads and stores -/

/-- The weights of a turn. -/
theorem wp_ldW (u : Fin 8) (k : Vec F S1x4096x256 .f32 → P F α) (Q : α → sProp 𝕄) :
    iprop(wPts c u (wVmem m c) ∗ (wPts c u (wVmem m c) -∗ WP c (k (wBlk m c u)) Q)) ⊢ WP c (cLoadW u >>= k) Q := by
  unfold cLoadW opLoadW
  simp only [Prog.lift, Prog.bind_op, Prog.bind_ret, Prog.pure_eq_ret]
  have h := wp_load_rect (defs := defs₀ (F := F)) (Γ := PendingWaitsCtx.empty) (Q := Q) 𝒱₀ (c : Thread nD τ) none Set.univ (m := wM) (r := wRc u) (hl := View.loadsAt_vmem h_S1x4096x256) (k := k)
    (S := (wRc u).set) (q := fullShare) (f := wVmem m c) (by rw [View.set_slice_whole])
  rw [read_w] at h
  unfold wPts
  iintro ⟨Hw, Hk⟩
  iapply h $$ Hw
  iexact Hk

/-- A slice stored to its slot. -/
theorem wp_slot (u : Fin 8) (t : Fin 4) (k : PUnit → P F α) (Q : α → sProp 𝕄) :
    iprop((∃ f, yPts (F := F) c (jOf c u t) f) ∗ (yPts c (jOf c u t) (ySrc m ρ c) -∗ WP c (k ⟨⟩) Q))
      ⊢ WP c (cLoadY (jOf c u t) >>= fun _ => cStoreY (jOf c u t) (slP (ybC m ρ c u) t) >>= k) Q := by
  generalize hj : jOf c u t = j
  unfold cLoadY opLoadY cStoreY opStoreY
  simp only [Prog.lift, Prog.bind_op, Prog.bind_ret, Prog.pure_eq_ret]
  unfold yPts
  iintro ⟨⟨%f, Hy⟩, Hk⟩
  iapply (wp_load_rect 𝒱₀ (c : Thread nD τ) none Set.univ (m := yM) (r := yRc j) (S := (yRc j).set) (q := fullShare) (f := f) (by rw [View.set_slice_whole])) $$ Hy
  iintro Hy
  iapply (wp_store 𝒱₀ (c : Thread nD τ) none Set.univ (m := yM) (r := yRc j) (Mk := Finset.univ) (S := (yRc j).set) (f := f)
    (by rw [View.setOn_univ, View.set_slice_whole])) $$ Hy
  iintro Hy
  iapply Hk
  subst hj
  ihave H := (Entails.of_eq (store_y m ρ c u t f)) $$ Hy
  unfold yPts
  iexact H

/-- The own slice kept. -/
theorem wp_own (k : PUnit → P F α) (Q : α → sProp 𝕄) :
    iprop(yPts c c (ySrc m ρ c) ∗ (∃ f, rPts (F := F) c c f) ∗ ((yPts c c (ySrc m ρ c) ∗ rPts c c (recvAll m ρ c)) -∗ WP c (k ⟨⟩) Q))
      ⊢ WP c (cOwn c >>= k) Q := by
  unfold cOwn cLoadY opLoadY cLoadR opLoadR cStoreR opStoreR
  simp only [Prog.lift, Prog.bind_op, Prog.bind_ret, Prog.pure_eq_ret]
  have hst := store_r m ρ c
  unfold yPts
  unfold rPts at hst ⊢
  iintro ⟨Hy, ⟨%f, Hr⟩, Hk⟩
  iapply (wp_load_rect 𝒱₀ (c : Thread nD τ) none Set.univ (m := yM) (r := yRc c) (S := (yRc c).set) (q := fullShare) (f := ySrc m ρ c) (by rw [View.set_slice_whole])) $$ Hy
  iintro Hy
  iapply (wp_load_rect 𝒱₀ (c : Thread nD τ) none Set.univ (m := rM) (r := rRc c) (S := (rRc c).set) (q := fullShare) (f := f) (by rw [View.set_slice_whole])) $$ Hr
  iintro Hr
  iapply (wp_store 𝒱₀ (c : Thread nD τ) none Set.univ (m := rM) (r := rRc c) (Mk := Finset.univ) (S := (rRc c).set) (f := f)
    (by rw [View.setOn_univ, View.set_slice_whole])) $$ Hr
  iintro Hr
  iapply Hk
  isplitl [Hy]; · iexact Hy
  ihave H := (Entails.of_eq (hst f)) $$ Hr
  iexact H

theorem hz2 : (![0, 0] : Fin 2 → Nat) = fun _ => 0 := funext fun a => by fin_cases a <;> rfl

/-- The maximum stored in its two buffers. -/
theorem wp_stA (k : PUnit → P F α) (Q : α → sProp 𝕄) :
    iprop((∃ f, ((c : Thread nD τ).loc cc0_scratch3) ↦{fullShare} f) ∗ (∃ f, zPts (F := F) c c f)
        ∗ (((((c : Thread nD τ).loc cc0_scratch3) ↦{fullShare} amaxA m ρ c) ∗ zPts c c (amaxAll m ρ)) -∗ WP c (k ⟨⟩) Q))
      ⊢ WP c (cLoadA >>= fun _ => cStoreA (k0_pay96 (mAll m ρ c)) >>= fun _ => cLoadZ c >>= fun _ => cStoreZ c (k0_pay98 (k0_pay97 (mAll m ρ c))) >>= k) Q := by
  unfold cLoadA cStoreA cLoadZ opLoadZ cStoreZ opStoreZ
  simp only [Prog.lift, Prog.bind_op, Prog.bind_ret, Prog.pure_eq_ret]
  have hst := store_z m ρ c
  unfold zPts at hst ⊢
  iintro ⟨⟨%f, Ha⟩, ⟨%g, Hz⟩, Hk⟩
  iapply (wp_load_rect 𝒱₀ (c : Thread nD τ) none Set.univ (m := aM) (r := (Rect.unit (s := S1x128) ![0, 0] S1x128.size inb_S1x128_S1x128_0_0)) (S := Finset.univ) (q := fullShare) (f := f) (Finset.subset_univ _)) $$ Ha
  iintro Ha
  iapply (wp_store 𝒱₀ (c : Thread nD τ) none Set.univ (m := aM) (r := (Rect.unit (s := S1x128) ![0, 0] S1x128.size inb_S1x128_S1x128_0_0)) (Mk := Finset.univ) (S := Finset.univ) (f := f) (Finset.subset_univ _)) $$ Ha
  iintro Ha
  iapply (wp_load_rect 𝒱₀ (c : Thread nD τ) none Set.univ (m := zM) (r := zRc c) (S := (zRc c).set) (q := fullShare) (f := g) (by rw [View.set_slice_whole])) $$ Hz
  iintro Hz
  iapply (wp_store 𝒱₀ (c : Thread nD τ) none Set.univ (m := zM) (r := zRc c) (Mk := Finset.univ) (S := (zRc c).set) (f := g)
    (by rw [View.setOn_univ, View.set_slice_whole])) $$ Hz
  iintro Hz
  iapply Hk
  isplitl [Ha]
  · have e : (aM.access (Rect.unit (s := S1x128) ![0, 0] S1x128.size inb_S1x128_S1x128_0_0)).write (Elt F) f (k0_pay96 (mAll m ρ c)) Finset.univ = amaxA m ρ c :=
      (Memref.write_access_unit_zero_univ (Elt F) cc0_scratch3 hz2 _ f _).trans (pay96_eq _)
    rw [e]
    iexact Ha
  ihave H := (Entails.of_eq (hst g)) $$ Hz
  iexact H

/-- The loads of whole buffers. -/
theorem wp_ldX (k : Vec F S128x4096 .f32 → P F α) (Q : α → sProp 𝕄) (f : (cc0_stg0_0 : Ref sig .tc).ty.Contents (Elt F)) :
    iprop((((c : Thread nD τ).loc cc0_stg0_0) ↦{fullShare} f) ∗ ((((c : Thread nD τ).loc cc0_stg0_0) ↦{fullShare} f) -∗ WP c (k f) Q))
      ⊢ WP c (cLoadX >>= k) Q := by
  unfold cLoadX
  simp only [Prog.lift, Prog.bind_op, Prog.bind_ret, Prog.pure_eq_ret]
  iintro ⟨Ha, Hk⟩
  iapply (wp_load 𝒱₀ (c : Thread nD τ) none Set.univ (m := xM) (Finset.subset_univ _)) $$ Ha
  have e : xM.view.readAt (Elt F) (Rect.unit (s := S128x4096) ![0, 0] S128x4096.size inb_S128x4096_S128x4096_0_0).toLoadRect f = f := Memref.readAt_unit_zero (Elt F) cc0_stg0_0 hz2 _ f
  rw [e]
  iexact Hk
theorem wp_ldZs (k : Vec F S32x128 .f32 → P F α) (Q : α → sProp 𝕄) (f : (cc0_scratch4 : Ref sig .tc).ty.Contents (Elt F)) :
    iprop((((c : Thread nD τ).loc cc0_scratch4) ↦{fullShare} f) ∗ ((((c : Thread nD τ).loc cc0_scratch4) ↦{fullShare} f) -∗ WP c (k f) Q))
      ⊢ WP c (cLoadZs >>= k) Q := by
  unfold cLoadZs
  simp only [Prog.lift, Prog.bind_op, Prog.bind_ret, Prog.pure_eq_ret]
  iintro ⟨Ha, Hk⟩
  iapply (wp_load 𝒱₀ (c : Thread nD τ) none Set.univ (m := zM) (Finset.subset_univ _)) $$ Ha
  have e : zM.view.readAt (Elt F) (Rect.unit (s := S32x128) ![0, 0] S32x128.size inb_S32x128_S32x128_0_0).toLoadRect f = f := Memref.readAt_unit_zero (Elt F) cc0_scratch4 hz2 _ f
  rw [e]
  iexact Hk
theorem wp_ldRs (k : Vec F S4096x64 .bf16 → P F α) (Q : α → sProp 𝕄) (f : (cc0_scratch2 : Ref sig .tc).ty.Contents (Elt F)) :
    iprop((((c : Thread nD τ).loc cc0_scratch2) ↦{fullShare} f) ∗ ((((c : Thread nD τ).loc cc0_scratch2) ↦{fullShare} f) -∗ WP c (k f) Q))
      ⊢ WP c (cLoadRs >>= k) Q := by
  unfold cLoadRs
  simp only [Prog.lift, Prog.bind_op, Prog.bind_ret, Prog.pure_eq_ret]
  iintro ⟨Ha, Hk⟩
  iapply (wp_load 𝒱₀ (c : Thread nD τ) none Set.univ (m := rM) (Finset.subset_univ _)) $$ Ha
  have e : rM.view.readAt (Elt F) (Rect.unit (s := S4096x64) ![0, 0] S4096x64.size inb_S4096x64_S4096x64_0_0).toLoadRect f = f := Memref.readAt_unit_zero (Elt F) cc0_scratch2 hz2 _ f
  rw [e]
  iexact Hk
/-- The result stored. -/
theorem wp_stO (v : FVec F S4096x64 .f32) (k : PUnit → P F α) (Q : α → sProp 𝕄) (f : (cc0_stg1_0 : Ref sig .tc).ty.Contents (Elt F)) :
    iprop((((c : Thread nD τ).loc cc0_stg1_0) ↦{fullShare} f) ∗ ((((c : Thread nD τ).loc cc0_stg1_0) ↦{fullShare} v) -∗ WP c (k ⟨⟩) Q))
      ⊢ WP c (cLoadO >>= fun _ => cStoreO v >>= k) Q := by
  unfold cLoadO cStoreO
  simp only [Prog.lift, Prog.bind_op, Prog.bind_ret, Prog.pure_eq_ret]
  iintro ⟨Ha, Hk⟩
  iapply (wp_load_rect 𝒱₀ (c : Thread nD τ) none Set.univ (m := oM) (r := (Rect.unit (s := S4096x64) ![0, 0] S4096x64.size inb_S4096x64_S4096x64_0_0)) (S := Finset.univ) (q := fullShare) (f := f) (Finset.subset_univ _)) $$ Ha
  iintro Ha
  iapply (wp_store 𝒱₀ (c : Thread nD τ) none Set.univ (m := oM) (r := (Rect.unit (s := S4096x64) ![0, 0] S4096x64.size inb_S4096x64_S4096x64_0_0)) (Mk := Finset.univ) (S := Finset.univ) (f := f) (Finset.subset_univ _)) $$ Ha
  have e : (oM.access (Rect.unit (s := S4096x64) ![0, 0] S4096x64.size inb_S4096x64_S4096x64_0_0)).write (Elt F) f v Finset.univ = v :=
    Memref.write_access_unit_zero_univ (Elt F) cc0_stg1_0 hz2 _ f v
  rw [e]
  iexact Hk
end Steps

end Cert.KProof

end
end
-- ==== Proof.Loops.lean ====
/-
The body's loops: a step's rule carried along a list, and the turns of the product.
-/
module

public import proofs.«01_k».proof.Proof.Rules

@[expose] public section

set_option maxRecDepth 20000

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Assertions along a list -/

section Lists
variable {M : Type} [Idealize.SL.RA.URA M]

/-- The assertions `Φ i`, `i` along a list. -/
def sepL {ι : Type} (Φ : ι → sProp 𝕄) : List ι → sProp 𝕄
  | [] => iprop(emp)
  | i :: l => iprop(Φ i ∗ sepL Φ l)

omit [FloatOps F] in
theorem sepL_eq {ι : Type} [DecidableEq ι] (Φ : ι → sProp 𝕄) : ∀ l : List ι, l.Nodup → sepL Φ l = bigSep l.toFinset Φ
  | [], _ => rfl
  | i :: l, h => by
    have h' := List.nodup_cons.mp h
    rw [List.toFinset_cons, BI.bigSep_insert (by rw [List.mem_toFinset]; exact h'.1), ← sepL_eq Φ l h'.2]; rfl
omit [FloatOps F] in
theorem sepL_map {ι κ : Type} (Φ : κ → sProp 𝕄) (g : ι → κ) : ∀ l : List ι, sepL Φ (l.map g) = sepL (fun i => Φ (g i)) l
  | [] => rfl
  | i :: l => congrArg (fun X => iprop(Φ (g i) ∗ X)) (sepL_map Φ g l)
omit [FloatOps F] in
theorem sepL_congr {ι : Type} {Φ Ψ : ι → sProp 𝕄} (h : ∀ i, Φ i = Ψ i) (l : List ι) : sepL Φ l = sepL Ψ l := by
  rw [funext h]
omit [FloatOps F] in
theorem univ8 (Φ : Fin 8 → sProp 𝕄) : bigSep Finset.univ Φ = sepL Φ L8 :=
  ((sepL_eq Φ L8 (by decide)).trans (by rw [show L8.toFinset = Finset.univ from by decide])).symm
omit [FloatOps F] in
theorem univ4 (Φ : Fin 4 → sProp 𝕄) : bigSep Finset.univ Φ = sepL Φ L4 :=
  ((sepL_eq Φ L4 (by decide)).trans (by rw [show L4.toFinset = Finset.univ from by decide])).symm
theorem l32_nodup : L32.Nodup := by decide +kernel
theorem l32_univ : L32.toFinset = Finset.univ := by decide +kernel
omit [FloatOps F] in
theorem univ32 (Φ : Dev nD → sProp 𝕄) : bigSep Finset.univ Φ = sepL Φ L32 :=
  ((sepL_eq Φ L32 l32_nodup).trans (by rw [l32_univ])).symm
theorem peers_nodup : ∀ c : Dev nD, (L31.map (pOf c)).Nodup := by decide +kernel
theorem peers_fin : ∀ c : Dev nD, (L31.map (pOf c)).toFinset = Finset.univ.erase c := by decide +kernel
theorem pOf_ne : ∀ (c : Dev nD) (i : Fin 31), pOf c i ≠ c := by decide +kernel
omit [FloatOps F] in
theorem peers (c : Dev nD) (Φ : Dev nD → sProp 𝕄) : bigSep (Finset.univ.erase c) Φ = sepL (fun i => Φ (pOf c i)) L31 := by
  rw [← peers_fin, ← sepL_eq Φ _ (peers_nodup c), sepL_map]
omit [FloatOps F] in
theorem own_peers (c : Dev nD) (Φ : Dev nD → sProp 𝕄) : bigSep Finset.univ Φ = iprop(Φ c ∗ bigSep (Finset.univ.erase c) Φ) :=
  BI.bigSep_erase (Finset.mem_univ c)
/-- `A` at the device itself, `B s` at a peer `s`. -/
def atOwn (c s : Dev nD) (A B : sProp 𝕄) : sProp 𝕄 := if s = c then A else B
omit [FloatOps F] in
theorem atOwn_own (c : Dev nD) (A B : sProp 𝕄) : atOwn c c A B = A := if_pos rfl
omit [FloatOps F] in
theorem atOwn_ne {c s : Dev nD} (h : s ≠ c) (A B : sProp 𝕄) : atOwn c s A B = B := if_neg h
omit [FloatOps F] in
theorem atOwn_all (c : Dev nD) (A B : Dev nD → sProp 𝕄) :
    bigSep Finset.univ (fun s => atOwn c s (A s) (B s)) = iprop(A c ∗ bigSep (Finset.univ.erase c) B) := by
  rw [own_peers c, atOwn_own]
  congr 1
  exact BI.bigSep_congr fun s hs => atOwn_ne (Finset.ne_of_mem_erase hs) _ _
/-- The slices by turn. -/
def jEq (c : Dev nD) : Fin 8 × Fin 4 ≃ Dev nD where
  toFun p := jOf c p.1 p.2
  invFun j := (uOf c j, tOf j)
  left_inv p := Prod.ext (uOf_jOf c p.1 p.2) (tOf_jOf c p.1 p.2)
  right_inv j := jOf_uOf c j
omit [FloatOps F] in
theorem slices (c : Dev nD) (Φ : Dev nD → sProp 𝕄) :
    bigSep Finset.univ Φ = sepL (fun u => sepL (fun t => Φ (jOf c u t)) L4) L8 := by
  rw [BI.bigSep_univ_equiv (jEq c) Φ, BI.bigSep_univ_prod, univ8]
  exact sepL_congr (fun u => univ4 _) _
theorem chOf_inj : ∀ c : Dev nD, Function.Bijective (chOf c) := by decide +kernel
omit [FloatOps F] in
theorem turns (c : Dev nD) (Φ : Fin 8 → sProp 𝕄) : bigSep Finset.univ Φ = sepL (fun u => Φ (chOf c u)) L8 := by
  rw [BI.bigSep_univ_equiv (Equiv.ofBijective _ (chOf_inj c)) Φ, univ8]; rfl
end Lists

/-! ## The loops -/

section Loops
variable (K : Dev nD × CK → ℕ) {α : Type} (c : Dev nD)

/-- A step's rule carried along a list. -/
theorem wp_loop {ι : Type} (f : ι → P F PUnit) (X : List ι → sProp 𝕄) (Φ Ψ : ι → sProp 𝕄)
    (step : ∀ (i : ι) (l : List ι) (k : PUnit → P F α) (Q : α → sProp 𝕄),
      iprop(recs m ρ K ∗ X (i :: l) ∗ Φ i ∗ ((X l ∗ Ψ i) -∗ WP c (k ⟨⟩) Q)) ⊢ WP c (f i >>= k) Q)
    (k : P F α) (Q : α → sProp 𝕄) : ∀ l : List ι,
      iprop(recs m ρ K ∗ X l ∗ sepL Φ l ∗ ((X [] ∗ sepL Ψ l) -∗ WP c k Q)) ⊢ WP c (runK f l k) Q
  | [] => by
    iintro ⟨-, HX, HE, Hk⟩
    iapply Hk
    isplitl [HX]; · iexact HX
    iexact HE
  | i :: l => by
    have ih := wp_loop f X Φ Ψ step k Q l
    have hs := step i l (fun _ => runK f l k) Q
    show _ ⊢ WP c (f i >>= fun _ => runK f l k) Q
    unfold sepL
    iintro ⟨#HR, HX, ⟨Hi, Hl⟩, Hk⟩
    iapply hs
    isplitr; · iexact HR
    isplitl [HX]; · iexact HX
    isplitl [Hi]; · iexact Hi
    iintro ⟨HX, Hψ⟩
    iapply ih
    isplitr; · iexact HR
    isplitl [HX]; · iexact HX
    isplitl [Hl]; · iexact Hl
    iintro ⟨HX, Hψs⟩
    iapply Hk
    isplitl [HX]; · iexact HX
    isplitl [Hψ]; · iexact Hψ
    iexact Hψs

/-! ### The slices -/

/-- What a slice takes and what it leaves. -/
def slIn (j : Dev nD) : sProp 𝕄 :=
  iprop((∃ f, yPts (F := F) c j f) ∗ (∃ f, rPts (F := F) j c f) ∗ tok c (kSnd j) 0 ∗ tok j (kRcv c) 0)
def slOut (j : Dev nD) : sProp 𝕄 := atOwn c j iprop(yPts c j (ySrc m ρ c) ∗ rPts c j (recvAll m ρ c)) (crd c (kSnd j))

theorem wp_slice (u : Fin 8) (t : Fin 4) (O : Tal) (k : PUnit → P F α) (Q : α → sProp 𝕄) :
    iprop(recs m ρ K ∗ OW c (O + talR c (jOf c u t)) ∗ slIn c (jOf c u t) ∗ ((OW c O ∗ slOut m ρ c (jOf c u t)) -∗ WP c (k ⟨⟩) Q))
      ⊢ WP c (cSlice c u (ybC m ρ c u) t >>= k) Q := by
  have h0 := wp_slot m ρ (α := α) c u t
  unfold cSlice slIn slOut
  generalize jOf c u t = j at *
  simp only [Prog.bind_assoc]
  by_cases hj : j = c
  · subst hj
    unfold cIf
    simp only [ne_eq, not_true_eq_false, if_true, if_false, Prog.bind_ret]
    rw [atOwn_own, show talR j j = 0 from if_pos rfl, add_zero]
    iintro ⟨#HR, HO, ⟨Hy, Hr, -, -⟩, Hk⟩
    iapply h0
    isplitl [Hy]; · iexact Hy
    iintro Hy
    iapply (wp_own m ρ (α := α) j)
    isplitl [Hy]; · iexact Hy
    isplitl [Hr]; · iexact Hr
    iintro Hyr
    iapply Hk
    isplitl [HO]; · iexact HO
    iexact Hyr
  · unfold cIf
    simp only [ne_eq, hj, not_false_eq_true, if_true, if_false, Prog.bind_ret]
    rw [atOwn_ne hj, show talR c j = tal j (kRcv c) from if_neg hj]
    iintro ⟨#HR, HO, ⟨Hy, Hr, Ht, Ht'⟩, Hk⟩
    iapply h0
    isplitl [Hy]; · iexact Hy
    iintro Hy
    iapply (wp_snd m ρ K c j hj O)
    isplitr; · iexact HR
    isplitl [HO]; · iexact HO
    isplitl [Hy]; · iexact Hy
    isplitl [Hr]; · iexact Hr
    isplitl [Ht]; · iexact Ht
    isplitl [Ht']; · iexact Ht'
    iexact Hk

/-- The turn's slices. -/
theorem wp_slices (u : Fin 8) (b : Tal) (k : P F α) (Q : α → sProp 𝕄) :
    iprop(recs m ρ K ∗ OW c (ow (fun t => talR c (jOf c u t)) L4 b) ∗ sepL (fun t => slIn (F := F) c (jOf c u t)) L4
        ∗ ((OW c b ∗ sepL (fun t => slOut m ρ c (jOf c u t)) L4) -∗ WP c k Q))
      ⊢ WP c (runK (cSlice c u (ybC m ρ c u)) L4 k) Q :=
  wp_loop m ρ K c _ (fun l => OW c (ow (fun t => talR c (jOf c u t)) l b)) _ _
    (fun t l k Q => wp_slice m ρ K c u t _ k Q) k Q L4

/-- What a turn takes and what it leaves. -/
def chIn (u : Fin 8) : sProp 𝕄 :=
  iprop(crd c (kW u) ∗ pos c (kW u) ∗ sepL (fun t => slIn (F := F) c (jOf c u t)) L4)
def chOut (u : Fin 8) : sProp 𝕄 :=
  iprop(wPts c u (wVmem m c) ∗ hPts c (chOf c u) (m ((c : Thread nD τ).loc main_arg1)) ∗ zeroAt c (kW u) ∗ sepL (fun t => slOut m ρ c (jOf c u t)) L4)

theorem wp_chunks (k : F .f32 → P F α) (Q : α → sProp 𝕄) : ∀ (l : List (Fin 8)) (v : F .f32),
    iprop(recs m ρ K ∗ OW c (owR c l) ∗ sepL (chIn (F := F) c) l
        ∗ ((OW c (owR c []) ∗ sepL (chOut m ρ c) l) -∗ WP c (k (mxR m ρ c l v)) Q))
      ⊢ WP c (chunks c (k0_pay1 (xstg m ρ c)) l v k) Q
  | [], v => by
    iintro ⟨-, HX, HE, Hk⟩
    iapply Hk
    isplitl [HX]; · iexact HX
    iexact HE
  | u :: l, v => by
    have ih := wp_chunks k Q l (mxP (k0_pay1 (xstg m ρ c)) v (wBlk m c u))
    have hs := wp_slices m ρ K c u (owR c l) (chunks c (k0_pay1 (xstg m ρ c)) l (mxP (k0_pay1 (xstg m ρ c)) v (wBlk m c u)) k) Q
    have hw := wp_ldW m c u (fun w => runK (cSlice c u (ybP (k0_pay1 (xstg m ρ c)) w)) L4 (chunks c (k0_pay1 (xstg m ρ c)) l (mxP (k0_pay1 (xstg m ρ c)) v w) k)) Q
    have hv := wp_waitW m ρ K c u (owR c (u :: l)) (above_owR c (by decide) _) (fun _ => cLoadW u >>= fun w => runK (cSlice c u (ybP (k0_pay1 (xstg m ρ c)) w)) L4 (chunks c (k0_pay1 (xstg m ρ c)) l (mxP (k0_pay1 (xstg m ρ c)) v w) k)) Q
    rw [show payOf m ρ c (kW u) 0 = iprop(wPts c u (wVmem m c) ∗ hPts c (chOf c u) (m ((c : Thread nD τ).loc main_arg1))) from rfl] at hv
    show _ ⊢ WP c (cWaitW (chOf c u) u >>= fun _ => cLoadW u >>= fun w => runK (cSlice c u (ybP (k0_pay1 (xstg m ρ c)) w)) L4 (chunks c (k0_pay1 (xstg m ρ c)) l (mxP (k0_pay1 (xstg m ρ c)) v w) k)) Q
    unfold sepL chIn chOut
    unfold chIn chOut at ih
    iintro ⟨#HR, HO, ⟨⟨Hc, Hp, Hs⟩, Hl⟩, Hk⟩
    iapply hv
    isplitr; · iexact HR
    isplitl [Hc]; · iexact Hc
    isplitl [HO]; · iexact HO
    isplitl [Hp]; · iexact Hp
    iintro ⟨HO, ⟨Hw, Hh⟩, Hz⟩
    iapply hw
    isplitl [Hw]; · iexact Hw
    iintro Hw
    iapply hs
    isplitr; · iexact HR
    isplitl [HO]; · iexact HO
    isplitl [Hs]; · iexact Hs
    iintro ⟨HO, Hs⟩
    iapply ih
    isplitr; · iexact HR
    isplitl [HO]; · iexact HO
    isplitl [Hl]; · iexact Hl
    iintro ⟨HO, Hl⟩
    iapply Hk
    isplitl [HO]; · iexact HO
    isplitr [Hl]
    · isplitl [Hw]; · iexact Hw
      isplitl [Hh]; · iexact Hh
      isplitl [Hz]; · iexact Hz
      iexact Hs
    iexact Hl

/-! ### The waits -/

/-- The wait for what peer `s` sends, or the close of the device's own cell. -/
theorem wp_inA (s : Dev nD) (k : PUnit → P F α) (Q : α → sProp 𝕄) :
    iprop(recs m ρ K ∗ OW c 0 ∗ (pos c (kAr s) ∗ atOwn c s (zPts c s (amaxAll m ρ)) (crd c (kAr s)))
        ∗ ((OW c 0 ∗ (zPts c s (amaxAll m ρ) ∗ zeroAt c (kAr s))) -∗ WP c (k ⟨⟩) Q))
      ⊢ WP c (cIf (s ≠ c) (cWaitA s) >>= k) Q := by
  by_cases hs : s = c
  · subst hs
    unfold cIf
    simp only [ne_eq, not_true_eq_false, if_false, Prog.bind_ret]
    rw [atOwn_own]
    iintro ⟨#HR, HO, ⟨Hp, Hz⟩, Hk⟩
    iapply (wp_close m ρ K s (kAr s) (zero_ar s))
    isplitr; · iexact HR
    isplitl [Hp]; · iexact Hp
    iintro H0
    iapply Hk
    isplitl [HO]; · iexact HO
    isplitl [Hz]; · iexact Hz
    iexact H0
  · unfold cIf
    simp only [ne_eq, hs, not_false_eq_true, if_true]
    rw [atOwn_ne hs]
    iintro ⟨#HR, HO, ⟨Hp, Hz⟩, Hk⟩
    iapply (wp_waitA m ρ K c s hs)
    isplitr; · iexact HR
    isplitl [Hz]; · iexact Hz
    isplitl [HO]; · iexact HO
    isplitl [Hp]; · iexact Hp
    iexact Hk

theorem wp_inR (s : Dev nD) (k : PUnit → P F α) (Q : α → sProp 𝕄) :
    iprop(recs m ρ K ∗ OW c 0 ∗ (pos c (kRcv s) ∗ atOwn c s (rPts c s (recvAll m ρ c)) (crd c (kRcv s)))
        ∗ ((OW c 0 ∗ (rPts c s (recvAll m ρ c) ∗ zeroAt c (kRcv s))) -∗ WP c (k ⟨⟩) Q))
      ⊢ WP c (cIf (s ≠ c) (cWaitR s) >>= k) Q := by
  by_cases hs : s = c
  · subst hs
    unfold cIf
    simp only [ne_eq, not_true_eq_false, if_false, Prog.bind_ret]
    rw [atOwn_own]
    iintro ⟨#HR, HO, ⟨Hp, Hz⟩, Hk⟩
    iapply (wp_close m ρ K s (kRcv s) (zero_rcv s))
    isplitr; · iexact HR
    isplitl [Hp]; · iexact Hp
    iintro H0
    iapply Hk
    isplitl [HO]; · iexact HO
    isplitl [Hz]; · iexact Hz
    iexact H0
  · unfold cIf
    simp only [ne_eq, hs, not_false_eq_true, if_true]
    rw [atOwn_ne hs]
    iintro ⟨#HR, HO, ⟨Hp, Hz⟩, Hk⟩
    iapply (wp_waitR m ρ K c s hs)
    isplitr; · iexact HR
    isplitl [Hz]; · iexact Hz
    isplitl [HO]; · iexact HO
    isplitl [Hp]; · iexact Hp
    iexact Hk

/-- The waits for the sends' ends. -/
theorem wp_outS (s : Dev nD) (k : PUnit → P F α) (Q : α → sProp 𝕄) :
    iprop(recs m ρ K ∗ OW c 0
        ∗ (pos c (kSnd s) ∗ pos c (kAs s) ∗ atOwn c s iprop(yPts c s (ySrc m ρ c) ∗ aPts c s (amaxA m ρ c)) iprop(crd c (kSnd s) ∗ crd c (kAs s)))
        ∗ ((OW c 0 ∗ (yPts c s (ySrc m ρ c) ∗ aPts c s (amaxA m ρ c) ∗ zeroAt c (kSnd s) ∗ zeroAt c (kAs s))) -∗ WP c (k ⟨⟩) Q))
      ⊢ WP c ((cIf (s ≠ c) (cWaitS c s) >>= fun _ => cIf (s ≠ c) (cWaitT c s)) >>= k) Q := by
  rw [Prog.bind_assoc]
  by_cases hs : s = c
  · subst hs
    unfold cIf
    simp only [ne_eq, not_true_eq_false, if_false, Prog.bind_ret]
    rw [atOwn_own]
    iintro ⟨#HR, HO, ⟨Hp, Hp', ⟨Hy, Ha⟩⟩, Hk⟩
    iapply (wp_close m ρ K s (kSnd s) (zero_snd s))
    isplitr; · iexact HR
    isplitl [Hp]; · iexact Hp
    iintro H0
    iapply (wp_close m ρ K s (kAs s) (zero_as s))
    isplitr; · iexact HR
    isplitl [Hp']; · iexact Hp'
    iintro H1
    iapply Hk
    isplitl [HO]; · iexact HO
    isplitl [Hy]; · iexact Hy
    isplitl [Ha]; · iexact Ha
    isplitl [H0]; · iexact H0
    iexact H1
  · unfold cIf
    simp only [ne_eq, hs, not_false_eq_true, if_true]
    rw [atOwn_ne hs, show yPts c s (ySrc m ρ c) = payOf m ρ c (kSnd s) 0 from rfl, show aPts c s (amaxA m ρ c) = payOf m ρ c (kAs s) 0 from rfl]
    iintro ⟨#HR, HO, ⟨Hp, Hp', ⟨Hc, Hc'⟩⟩, Hk⟩
    iapply (wp_waitS m ρ K c s hs)
    isplitr; · iexact HR
    isplitl [Hc]; · iexact Hc
    isplitl [HO]; · iexact HO
    isplitl [Hp]; · iexact Hp
    iintro ⟨HO, Hy, H0⟩
    iapply (wp_waitT m ρ K c s hs)
    isplitr; · iexact HR
    isplitl [Hc']; · iexact Hc'
    isplitl [HO]; · iexact HO
    isplitl [Hp']; · iexact Hp'
    iintro ⟨HO, Ha, H1⟩
    iapply Hk
    isplitl [HO]; · iexact HO
    isplitl [Hy]; · iexact Hy
    isplitl [Ha]; · iexact Ha
    isplitl [H0]; · iexact H0
    iexact H1
end Loops

end Cert.KProof

end
end
-- ==== Proof.Sound.lean ====
/-
The body of device `c`, stage by stage: the entry, the fetches, the product and its slices, the maxima, the quantiser,
the ends of the sends.
-/
module

public import proofs.«01_k».proof.Proof.Loops

@[expose] public section

set_option maxRecDepth 20000

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Sound
variable (K : Dev nD × CK → ℕ) (c : Dev nD)

/-! ## What the stages take and leave -/

omit [FloatOps F] in
theorem ex_mono {A : Type} {Φ Ψ : A → sProp 𝕄} (h : ∀ a, Φ a ⊢ Ψ a) : iprop(∃ a, Φ a) ⊢ iprop(∃ a, Ψ a) := by
  iintro ⟨%a, H⟩
  iexists a
  iapply (h a); iexact H
omit [FloatOps F] in
/-- A family that each hold of one content, each of some content. -/
theorem some_all {I B : Type} [Fintype I] (Φ : I → B → sProp 𝕄) (f : B) :
    bigSep Finset.univ (fun i => Φ i f) ⊢ bigSep Finset.univ (fun i => iprop(∃ f, Φ i f)) :=
  BI.bigSep_mono fun i _ => by
    have h : Φ i f ⊢ iprop(∃ f, Φ i f) := by iintro H; iexists f; iexact H
    exact h
omit [FloatOps F] in
theorem w_some : iprop(∃ f, ((c : Thread nD τ).loc cc0_scratch0) ↦{fullShare} f) ⊢ bigSep Finset.univ (fun u => iprop(∃ f, wPts (F := F) c u f)) := by
  iintro ⟨%f, H⟩
  iapply (some_all (fun u f => wPts (F := F) c u f) f)
  rw [wPts_all]; iexact H
omit [FloatOps F] in
theorem y_some : iprop(∃ f, ((c : Thread nD τ).loc cc0_scratch1) ↦{fullShare} f) ⊢ bigSep Finset.univ (fun j => iprop(∃ f, yPts (F := F) c j f)) := by
  iintro ⟨%f, H⟩
  iapply (some_all (fun u f => yPts (F := F) c u f) f)
  rw [yPts_all]; iexact H
omit [FloatOps F] in
theorem r_some : iprop(∃ f, ((c : Thread nD τ).loc cc0_scratch2) ↦{fullShare} f) ⊢ bigSep Finset.univ (fun j => iprop(∃ f, rPts (F := F) c j f)) := by
  iintro ⟨%f, H⟩
  iapply (some_all (fun u f => rPts (F := F) c u f) f)
  rw [rPts_all]; iexact H
omit [FloatOps F] in
theorem z_some : iprop(∃ f, ((c : Thread nD τ).loc cc0_scratch4) ↦{fullShare} f) ⊢ bigSep Finset.univ (fun j => iprop(∃ f, zPts (F := F) c j f)) := by
  iintro ⟨%f, H⟩
  iapply (some_all (fun u f => zPts (F := F) c u f) f)
  rw [zPts_all]; iexact H

/-! ## The entry -/

/-- The signals: each peer gets this device's rows, the device keeps its own. -/
theorem wp_entry {α : Type} (k : P F α) (Q : α → sProp 𝕄) :
    iprop(recs m ρ K ∗ OW c (owB c L31)
        ∗ (bigSep Finset.univ fun p => tok (F := F) p kBar c)
        ∗ (bigSep Finset.univ fun j => iprop(∃ f, rPts (F := F) c j f)) ∗ (bigSep Finset.univ fun j => iprop(∃ f, zPts (F := F) c j f))
        ∗ ((OW c (owR c L8) ∗ (∃ f, rPts (F := F) c c f) ∗ (∃ f, zPts (F := F) c c f)) -∗ WP c k Q))
      ⊢ WP c (runK (fun i => cSig (pOf c i)) L31 k) Q := by
  have hl := wp_loop m ρ K c (α := α) (fun i => cSig (pOf c i)) (fun l => OW c (owB c l))
    (fun i => iprop(tok (F := F) (pOf c i) kBar c ∗ (∃ f, rPts (F := F) c (pOf c i) f) ∗ (∃ f, zPts (F := F) c (pOf c i) f))) (fun _ => iprop(emp))
    (fun i l k Q => by
      have h := wp_sig m ρ K c (α := α) (pOf c i) (pOf_ne c i) (owB c l) k Q
      rw [show payOf m ρ (pOf c i) kBar c = iprop((∃ f, rPts (F := F) c (pOf c i) f) ∗ (∃ f, zPts (F := F) c (pOf c i) f)) from rfl] at h
      iintro ⟨#HR, HO, ⟨Ht, Hr, Hz⟩, Hk⟩
      iapply h
      isplitr; · iexact HR
      isplitl [HO]; · iexact HO
      isplitl [Ht]; · iexact Ht
      isplitl [Hr Hz]
      · isplitl [Hr]; · iexact Hr
        iexact Hz
      iintro HO
      iapply Hk
      isplitl [HO]; · iexact HO
      iempintro) k Q L31
  rw [own_peers c (fun p => tok (F := F) p kBar c), own_peers c (fun j => iprop(∃ f, rPts (F := F) c j f)), own_peers c (fun j => iprop(∃ f, zPts (F := F) c j f))]
  rw [← peers c (fun p => iprop(tok (F := F) p kBar c ∗ (∃ f, rPts (F := F) c p f) ∗ (∃ f, zPts (F := F) c p f))), bigSep_sep', bigSep_sep'] at hl
  iintro ⟨#HR, HO, ⟨-, Ht⟩, ⟨Hr0, Hr⟩, ⟨Hz0, Hz⟩, Hk⟩
  iapply hl
  isplitr; · iexact HR
  isplitl [HO]; · iexact HO
  isplitl [Ht Hr Hz]
  · isplitl [Ht]; · iexact Ht
    isplitl [Hr]; · iexact Hr
    iexact Hz
  iintro ⟨HO, -⟩
  iapply Hk
  isplitl [HO]; · iexact HO
  isplitl [Hr0]; · iexact Hr0
  iexact Hz0

/-- The wait: every peer's rows for this device, its own rows kept, and the cell closed. -/
theorem wp_gate {α : Type} (k : PUnit → P F α) (Q : α → sProp 𝕄) :
    iprop(recs m ρ K ∗ OW c (owR c L8) ∗ cred (tallyAt (cell c kBar) () 31) ∗ pos c kBar
        ∗ (∃ f, rPts (F := F) c c f) ∗ (∃ f, zPts (F := F) c c f)
        ∗ ((OW c (owR c L8) ∗ (bigSep Finset.univ fun p => iprop(∃ f, rPts (F := F) p c f)) ∗ (bigSep Finset.univ fun p => iprop(∃ f, zPts (F := F) p c f))
            ∗ zeroAt c kBar) -∗ WP c (k ⟨⟩) Q))
      ⊢ WP c (cWaitB >>= k) Q := by
  have h := wp_waitB m ρ K c (α := α) (owR c L8) (above_owR c (by decide) _) k Q
  rw [show bigSep (dutyOf c kBar) (payOf m ρ c kBar) = bigSep (Finset.univ.erase c) (fun p => iprop((∃ f, rPts (F := F) p c f) ∗ (∃ f, zPts (F := F) p c f))) from rfl,
    bigSep_sep'] at h
  rw [own_peers c (fun p => iprop(∃ f, rPts (F := F) p c f)), own_peers c (fun p => iprop(∃ f, zPts (F := F) p c f))]
  iintro ⟨#HR, HO, Hc, Hp, Hr0, Hz0, Hk⟩
  iapply h
  isplitr; · iexact HR
  isplitl [Hc]; · iexact Hc
  isplitl [HO]; · iexact HO
  isplitl [Hp]; · iexact Hp
  iintro ⟨HO, ⟨Hr, Hz⟩, H0⟩
  iapply Hk
  isplitl [HO]; · iexact HO
  isplitl [Hr0 Hr]
  · isplitl [Hr0]; · iexact Hr0
    iexact Hr
  isplitl [Hz0 Hz]
  · isplitl [Hz0]; · iexact Hz0
    iexact Hz
  iexact H0

/-! ## The fetches and the product -/

theorem wp_fetch {α : Type} (k : P F α) (Q : α → sProp 𝕄) :
    iprop(recs m ρ K ∗ (((c : Thread nD τ).loc main_arg1) ↦{fullShare} m ((c : Thread nD τ).loc main_arg1))
        ∗ (∃ f, ((c : Thread nD τ).loc cc0_scratch0) ↦{fullShare} f) ∗ (bigSep Finset.univ fun u => tok (F := F) c (kW u) 0)
        ∗ ((bigSep Finset.univ fun u => crd (F := F) c (kW u)) -∗ WP c k Q))
      ⊢ WP c (runK (fun u => cCopy (chOf c u) u) L8 k) Q := by
  have hl := wp_loop m ρ K c (α := α) (fun u => cCopy (chOf c u) u) (fun l => iprop(emp))
    (fun u => iprop(hPts c (chOf c u) (m ((c : Thread nD τ).loc main_arg1)) ∗ (∃ f, wPts (F := F) c u f) ∗ tok c (kW u) 0)) (fun u => crd (F := F) c (kW u))
    (fun u l k Q => by
      have h := wp_cp m ρ K c (α := α) u k Q
      iintro ⟨#HR, -, ⟨Hh, Hw, Ht⟩, Hk⟩
      iapply h
      isplitr; · iexact HR
      isplitl [Hh]; · iexact Hh
      isplitl [Hw]; · iexact Hw
      isplitl [Ht]; · iexact Ht
      iintro Hc
      iapply Hk
      isplitr; · iempintro
      iexact Hc) k Q L8
  have hh := (turns c fun k => hPts c k (m ((c : Thread nD τ).loc main_arg1))).symm.trans (hPts_all c (m ((c : Thread nD τ).loc main_arg1)))
  rw [← univ8 (fun u => hPts c (chOf c u) (m ((c : Thread nD τ).loc main_arg1)))] at hh
  rw [← univ8, ← univ8, bigSep_sep', bigSep_sep', hh] at hl
  iintro ⟨#HR, Hh, Hw, Ht, Hk⟩
  iapply hl
  isplitr; · iexact HR
  isplitr; · iempintro
  isplitl [Hh Hw Ht]
  · isplitl [Hh]; · iexact Hh
    isplitl [Hw]; · iapply (w_some (F := F) c); iexact Hw
    iexact Ht
  iintro ⟨-, H⟩
  iapply Hk
  iexact H

theorem wp_product {α : Type} (k : F .f32 → P F α) (Q : α → sProp 𝕄) :
    iprop(recs m ρ K ∗ OW c (owR c L8) ∗ (bigSep Finset.univ fun u => crd (F := F) c (kW u)) ∗ (bigSep Finset.univ fun u => pos (F := F) c (kW u))
        ∗ (∃ f, ((c : Thread nD τ).loc cc0_scratch1) ↦{fullShare} f) ∗ (bigSep Finset.univ fun p => iprop(∃ f, rPts (F := F) p c f))
        ∗ (bigSep Finset.univ fun j => tok (F := F) c (kSnd j) 0) ∗ (bigSep Finset.univ fun j => tok (F := F) j (kRcv c) 0)
        ∗ ((OW c (owZ c L31) ∗ (((c : Thread nD τ).loc cc0_scratch0) ↦{fullShare} wVmem m c)
            ∗ (((c : Thread nD τ).loc main_arg1) ↦{fullShare} m ((c : Thread nD τ).loc main_arg1))
            ∗ (bigSep Finset.univ fun u => zeroAt (F := F) c (kW u))
            ∗ (yPts c c (ySrc m ρ c) ∗ rPts c c (recvAll m ρ c)) ∗ (bigSep (Finset.univ.erase c) fun j => crd (F := F) c (kSnd j))) -∗ WP c (k (mAll m ρ c)) Q))
      ⊢ WP c (chunks c (k0_pay1 (xstg m ρ c)) L8 m₀ k) Q := by
  have hl := wp_chunks m ρ K c k Q L8 m₀
  have hin : sepL (chIn (F := F) c) L8 = iprop((bigSep Finset.univ fun u => crd (F := F) c (kW u)) ∗ (bigSep Finset.univ fun u => pos (F := F) c (kW u))
      ∗ (bigSep Finset.univ fun j => iprop(∃ f, yPts (F := F) c j f)) ∗ (bigSep Finset.univ fun p => iprop(∃ f, rPts (F := F) p c f))
      ∗ (bigSep Finset.univ fun j => tok (F := F) c (kSnd j) 0) ∗ (bigSep Finset.univ fun j => tok (F := F) j (kRcv c) 0)) := by
    rw [← univ8, show chIn (F := F) c = fun u => iprop(crd c (kW u) ∗ pos c (kW u) ∗ sepL (fun t => slIn (F := F) c (jOf c u t)) L4) from rfl,
      bigSep_sep', bigSep_sep', univ8 (fun u => sepL (fun t => slIn (F := F) c (jOf c u t)) L4), ← slices c (slIn (F := F) c),
      show slIn (F := F) c = fun j => iprop((∃ f, yPts (F := F) c j f) ∗ (∃ f, rPts (F := F) j c f) ∗ tok c (kSnd j) 0 ∗ tok j (kRcv c) 0) from rfl,
      bigSep_sep', bigSep_sep', bigSep_sep']
  have hout : sepL (chOut m ρ c) L8 = iprop((((c : Thread nD τ).loc cc0_scratch0) ↦{fullShare} wVmem m c)
      ∗ (((c : Thread nD τ).loc main_arg1) ↦{fullShare} m ((c : Thread nD τ).loc main_arg1))
      ∗ (bigSep Finset.univ fun u => zeroAt (F := F) c (kW u))
      ∗ (yPts c c (ySrc m ρ c) ∗ rPts c c (recvAll m ρ c)) ∗ (bigSep (Finset.univ.erase c) fun j => crd (F := F) c (kSnd j))) := by
    rw [← univ8, show chOut m ρ c = fun u => iprop(wPts c u (wVmem m c) ∗ hPts c (chOf c u) (m ((c : Thread nD τ).loc main_arg1)) ∗ zeroAt c (kW u) ∗ sepL (fun t => slOut m ρ c (jOf c u t)) L4) from rfl,
      bigSep_sep', bigSep_sep', bigSep_sep', wPts_all, univ8 (fun u => hPts c (chOf c u) (m ((c : Thread nD τ).loc main_arg1))),
      ← turns c (fun k => hPts c k (m ((c : Thread nD τ).loc main_arg1))), hPts_all,
      univ8 (fun u => sepL (fun t => slOut m ρ c (jOf c u t)) L4), ← slices c (slOut m ρ c),
      own_peers c (slOut m ρ c), show slOut m ρ c c = iprop(yPts c c (ySrc m ρ c) ∗ rPts c c (recvAll m ρ c)) from atOwn_own c _ _,
      BI.bigSep_congr (s := Finset.univ.erase c) (Φ := slOut m ρ c) (Ψ := fun j => crd (F := F) c (kSnd j)) fun j hj => atOwn_ne (Finset.ne_of_mem_erase hj) _ _]
  rw [hin, hout] at hl
  iintro ⟨#HR, HO, Hc, Hp, Hy, Hr, Ht, Ht', Hk⟩
  iapply hl
  isplitr; · iexact HR
  isplitl [HO]; · iexact HO
  isplitl [Hc Hp Hy Hr Ht Ht']
  · isplitl [Hc]; · iexact Hc
    isplitl [Hp]; · iexact Hp
    isplitl [Hy]; · iapply (y_some (F := F) c); iexact Hy
    isplitl [Hr]; · iexact Hr
    isplitl [Ht]; · iexact Ht
    iexact Ht'
  iintro ⟨HO, H⟩
  iapply Hk
  isplitl [HO]; · iexact HO
  iexact H

/-! ## The maxima -/

theorem wp_maxima {α : Type} (k : Vec F S32x128 .f32 → P F α) (Q : α → sProp 𝕄) :
    iprop(recs m ρ K ∗ OW c (owZ c L31) ∗ (∃ f, ((c : Thread nD τ).loc cc0_scratch3) ↦{fullShare} f)
        ∗ (bigSep Finset.univ fun p => iprop(∃ f, zPts (F := F) p c f))
        ∗ (bigSep Finset.univ fun j => tok (F := F) c (kAs j) 0) ∗ (bigSep Finset.univ fun j => tok (F := F) j (kAr c) 0)
        ∗ (bigSep Finset.univ fun j => pos (F := F) c (kAr j)) ∗ (bigSep (Finset.univ.erase c) fun j => crd (F := F) c (kAr j))
        ∗ ((OW c 0 ∗ aPts c c (amaxA m ρ c) ∗ (bigSep (Finset.univ.erase c) fun j => crd (F := F) c (kAs j))
            ∗ (((c : Thread nD τ).loc cc0_scratch4) ↦{fullShare} amaxAll m ρ) ∗ (bigSep Finset.univ fun j => zeroAt (F := F) c (kAr j)))
          -∗ WP c (k (amaxAll m ρ)) Q))
      ⊢ WP c (cLoadA >>= fun _ => cStoreA (k0_pay96 (mAll m ρ c)) >>= fun _ => cLoadZ c >>= fun _ => cStoreZ c (k0_pay98 (k0_pay97 (mAll m ρ c))) >>= fun _ =>
          runK (fun i => cSendA c (pOf c i)) L31 <| runK (fun s => cIf (s ≠ c) (cWaitA s)) L32 <| cLoadZs >>= k) Q := by
  have hs := wp_loop m ρ K c (α := α) (fun i => cSendA c (pOf c i)) (fun l => OW c (owZ c l))
    (fun i => iprop(aPts c (pOf c i) (amaxA m ρ c) ∗ (∃ f, zPts (F := F) (pOf c i) c f) ∗ tok c (kAs (pOf c i)) 0 ∗ tok (pOf c i) (kAr c) 0)) (fun i => crd (F := F) c (kAs (pOf c i)))
    (fun i l k Q => by
      have h := wp_sndA m ρ K c (α := α) (pOf c i) (pOf_ne c i) (owZ c l) k Q
      iintro ⟨#HR, HO, ⟨Ha, Hz, Ht, Ht'⟩, Hk⟩
      iapply h
      isplitr; · iexact HR
      isplitl [HO]; · iexact HO
      isplitl [Ha]; · iexact Ha
      isplitl [Hz]; · iexact Hz
      isplitl [Ht]; · iexact Ht
      isplitl [Ht']; · iexact Ht'
      iexact Hk) (runK (fun s => cIf (s ≠ c) (cWaitA s)) L32 <| cLoadZs >>= k) Q L31
  rw [← peers c (fun p => iprop(aPts c p (amaxA m ρ c) ∗ (∃ f, zPts (F := F) p c f) ∗ tok c (kAs p) 0 ∗ tok p (kAr c) 0)), ← peers c (fun p => crd (F := F) c (kAs p)),
    bigSep_sep', bigSep_sep', bigSep_sep'] at hs
  have hw := wp_loop m ρ K c (α := α) (fun s => cIf (s ≠ c) (cWaitA s)) (fun _ => OW c 0) _ _ (fun s _ k Q => wp_inA m ρ K c s k Q) (cLoadZs >>= k) Q L32
  rw [← univ32, ← univ32, bigSep_sep', bigSep_sep', atOwn_all] at hw
  rw [show bigSep Finset.univ (fun s => zPts c s (amaxAll m ρ)) = _ from zPts_all c (amaxAll m ρ)] at hw
  have hall := aPts_all c (amaxA m ρ c)
  rw [own_peers c (fun p => aPts c p (amaxA m ρ c))] at hall
  rw [own_peers c (fun p => iprop(∃ f, zPts (F := F) p c f)), own_peers c (fun p => tok (F := F) c (kAs p) 0), own_peers c (fun p => tok (F := F) p (kAr c) 0)]
  have hst := wp_stA m ρ (α := α) c (fun _ => runK (fun i => cSendA c (pOf c i)) L31 <| runK (fun s => cIf (s ≠ c) (cWaitA s)) L32 <| cLoadZs >>= k) Q
  have hld := wp_ldZs c k Q (amaxAll m ρ)
  rw [← hall] at hst
  iintro ⟨#HR, HO, Ha, ⟨Hz0, Hz⟩, ⟨-, Ht⟩, ⟨-, Ht'⟩, Hp, Hc, Hk⟩
  iapply hst
  isplitl [Ha]; · iexact Ha
  isplitl [Hz0]; · iexact Hz0
  iintro ⟨⟨Ha0, Ha⟩, Hz0⟩
  iapply hs
  isplitr; · iexact HR
  isplitl [HO]; · iexact HO
  isplitl [Ha Hz Ht Ht']
  · isplitl [Ha]; · iexact Ha
    isplitl [Hz]; · iexact Hz
    isplitl [Ht]; · iexact Ht
    iexact Ht'
  iintro ⟨HO, Has⟩
  iapply hw
  isplitr; · iexact HR
  isplitl [HO]; · iexact HO
  isplitl [Hp Hz0 Hc]
  · isplitl [Hp]; · iexact Hp
    isplitl [Hz0]; · iexact Hz0
    iexact Hc
  iintro ⟨HO, Hz, H0⟩
  iapply hld
  isplitl [Hz]; · iexact Hz
  iintro Hz
  iapply Hk
  isplitl [HO]; · iexact HO
  isplitl [Ha0]; · iexact Ha0
  isplitl [Has]; · iexact Has
  isplitl [Hz]; · iexact Hz
  iexact H0

/-! ## The quantiser and the ends of the sends -/

theorem wp_quant {α : Type} (k : P F α) (Q : α → sProp 𝕄) :
    iprop(recs m ρ K ∗ OW c 0 ∗ (bigSep Finset.univ fun j => pos (F := F) c (kRcv j))
        ∗ rPts c c (recvAll m ρ c) ∗ (bigSep (Finset.univ.erase c) fun j => crd (F := F) c (kRcv j))
        ∗ (∃ f, ((c : Thread nD τ).loc cc0_stg1_0) ↦{fullShare} f)
        ∗ ((OW c 0 ∗ (((c : Thread nD τ).loc cc0_scratch2) ↦{fullShare} recvAll m ρ c) ∗ (bigSep Finset.univ fun j => zeroAt (F := F) c (kRcv j))
            ∗ (((c : Thread nD τ).loc cc0_stg1_0) ↦{fullShare} outAt m ρ c)) -∗ WP c k Q))
      ⊢ WP c (runK (fun s => cIf (s ≠ c) (cWaitR s)) L32 <|
          cLoadRs >>= fun r => cLoadO >>= fun _ => cStoreO (k0_pay102 (k0_pay100 (amaxAll m ρ)) (k0_pay101 (amaxAll m ρ)) r) >>= fun _ => k) Q := by
  have hw := wp_loop m ρ K c (α := α) (fun s => cIf (s ≠ c) (cWaitR s)) (fun _ => OW c 0) _ _ (fun s _ k Q => wp_inR m ρ K c s k Q)
    (cLoadRs >>= fun r => cLoadO >>= fun _ => cStoreO (k0_pay102 (k0_pay100 (amaxAll m ρ)) (k0_pay101 (amaxAll m ρ)) r) >>= fun _ => k) Q L32
  rw [← univ32, ← univ32, bigSep_sep', bigSep_sep', atOwn_all] at hw
  rw [show bigSep Finset.univ (fun s => rPts c s (recvAll m ρ c)) = _ from rPts_all c (recvAll m ρ c)] at hw
  have hld := wp_ldRs c (fun r => cLoadO >>= fun _ => cStoreO (k0_pay102 (k0_pay100 (amaxAll m ρ)) (k0_pay101 (amaxAll m ρ)) r) >>= fun _ => k) Q (recvAll m ρ c)
  have hst := fun f => wp_stO c (k0_pay102 (k0_pay100 (amaxAll m ρ)) (k0_pay101 (amaxAll m ρ)) (recvAll m ρ c)) (fun _ => k) Q f
  iintro ⟨#HR, HO, Hp, Hr, Hc, ⟨%fo, Ho⟩, Hk⟩
  iapply hw
  isplitr; · iexact HR
  isplitl [HO]; · iexact HO
  isplitl [Hp Hr Hc]
  · isplitl [Hp]; · iexact Hp
    isplitl [Hr]; · iexact Hr
    iexact Hc
  iintro ⟨HO, Hr, H0⟩
  iapply hld
  isplitl [Hr]; · iexact Hr
  iintro Hr
  iapply (hst fo)
  isplitl [Ho]; · iexact Ho
  iintro Ho
  iapply Hk
  isplitl [HO]; · iexact HO
  isplitl [Hr]; · iexact Hr
  isplitl [H0]; · iexact H0
  iexact Ho

theorem wp_tail (Q : PUnit → sProp 𝕄) :
    iprop(recs m ρ K ∗ OW c 0 ∗ (bigSep Finset.univ fun j => pos (F := F) c (kSnd j)) ∗ (bigSep Finset.univ fun j => pos (F := F) c (kAs j))
        ∗ yPts c c (ySrc m ρ c) ∗ aPts c c (amaxA m ρ c)
        ∗ (bigSep (Finset.univ.erase c) fun j => crd (F := F) c (kSnd j)) ∗ (bigSep (Finset.univ.erase c) fun j => crd (F := F) c (kAs j))
        ∗ ((OW c 0 ∗ (((c : Thread nD τ).loc cc0_scratch1) ↦{fullShare} ySrc m ρ c) ∗ (((c : Thread nD τ).loc cc0_scratch3) ↦{fullShare} amaxA m ρ c)
            ∗ (bigSep Finset.univ fun j => zeroAt (F := F) c (kSnd j)) ∗ (bigSep Finset.univ fun j => zeroAt (F := F) c (kAs j))) -∗ Q ⟨⟩))
      ⊢ WP c (tailP c) Q := by
  have hw := wp_loop m ρ K c (α := PUnit) (fun s => cIf (s ≠ c) (cWaitS c s) >>= fun _ => cIf (s ≠ c) (cWaitT c s)) (fun _ => OW c 0) _ _
    (fun s _ k Q => wp_outS m ρ K c s k Q) (.ret ⟨⟩) Q L32
  rw [← univ32, ← univ32, bigSep_sep', bigSep_sep', bigSep_sep', bigSep_sep', bigSep_sep', atOwn_all, bigSep_sep'] at hw
  rw [show bigSep Finset.univ (fun s => yPts c s (ySrc m ρ c)) = _ from yPts_all c (ySrc m ρ c),
    show bigSep Finset.univ (fun s => aPts c s (amaxA m ρ c)) = _ from aPts_all c (amaxA m ρ c)] at hw
  unfold tailP
  iintro ⟨#HR, HO, Hp, Hp', Hy, Ha, Hc, Hc', Hk⟩
  iapply hw
  isplitr; · iexact HR
  isplitl [HO]; · iexact HO
  isplitl [Hp Hp' Hy Ha Hc Hc']
  · isplitl [Hp]; · iexact Hp
    isplitl [Hp']; · iexact Hp'
    isplitl [Hy Ha]
    · isplitl [Hy]; · iexact Hy
      iexact Ha
    isplitl [Hc]; · iexact Hc
    iexact Hc'
  iintro H
  unfold WP
  rw [wp_ret]; imodintro
  iapply Hk
  iexact H

/-! ## The whole body -/

/-- What device `c` starts from besides the cells' records and its debts: its tokens, positions and credits, -/
def toks : sProp 𝕄 :=
  iprop((bigSep Finset.univ fun p => tok (F := F) p kBar c) ∗ (bigSep Finset.univ fun u => tok (F := F) c (kW u) 0)
    ∗ (bigSep Finset.univ fun j => tok (F := F) c (kSnd j) 0) ∗ (bigSep Finset.univ fun j => tok (F := F) j (kRcv c) 0)
    ∗ (bigSep Finset.univ fun j => tok (F := F) c (kAs j) 0) ∗ (bigSep Finset.univ fun j => tok (F := F) j (kAr c) 0))
/-- a family over the device's cells, kind by kind, -/
def kinds (Φ : CK → sProp 𝕄) : sProp 𝕄 :=
  iprop(Φ kBar ∗ (bigSep Finset.univ fun u => Φ (kW u)) ∗ (bigSep Finset.univ fun j => Φ (kSnd j)) ∗ (bigSep Finset.univ fun j => Φ (kRcv j))
    ∗ (bigSep Finset.univ fun j => Φ (kAs j)) ∗ (bigSep Finset.univ fun j => Φ (kAr j)))
def creds : sProp 𝕄 :=
  iprop(cred (tallyAt (cell c kBar) () 31) ∗ (bigSep (Finset.univ.erase c) fun j => crd (F := F) c (kRcv j))
    ∗ (bigSep (Finset.univ.erase c) fun j => crd (F := F) c (kAr j)))
/-- and its scratch buffers. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))
abbrev wHbm : sProp 𝕄 := ((c : Thread nD τ).loc main_arg1) ↦{fullShare} m ((c : Thread nD τ).loc main_arg1)

theorem wp_body (Q : PUnit → sProp 𝕄) :
    iprop(recs m ρ K ∗ OW c (O₀ c) ∗ toks (F := F) c ∗ kinds (F := F) (pos c) ∗ creds (F := F) c ∗ scr (F := F) c ∗ wHbm m c
        ∗ (((c : Thread nD τ).loc cc0_stg0_0) ↦{fullShare} xstg m ρ c)
        ∗ (∃ f : Buf (Elt F) ((c : Thread nD τ).loc cc0_stg1_0), ((c : Thread nD τ).loc cc0_stg1_0) ↦{fullShare} f)
        ∗ ((OW c 0 ∗ kinds (F := F) (zeroAt c) ∗ scr (F := F) c ∗ wHbm m c ∗ (((c : Thread nD τ).loc cc0_stg0_0) ↦{fullShare} xstg m ρ c)
            ∗ (((c : Thread nD τ).loc cc0_stg1_0) ↦{fullShare} outAt m ρ c)) -∗ Q ⟨⟩))
      ⊢ WP c (bodyP c) Q := by
  unfold bodyP amaxP quantP O₀ toks kinds creds scr
  iintro ⟨#HR, HO, ⟨HtB, HtW, HtS, HtR, HtA, HtZ⟩, ⟨HpB, HpW, HpS, HpR, HpA, HpZ⟩, ⟨HcB, HcR, HcZ⟩, ⟨Hw, Hy, Hr, Ha, Hz⟩, Hh, Hx, Ho, Hk⟩
  iapply (wp_entry m ρ K c)
  isplitr; · iexact HR
  isplitl [HO]; · iexact HO
  isplitl [HtB]; · iexact HtB
  isplitl [Hr]; · iapply (r_some (F := F) c); iexact Hr
  isplitl [Hz]; · iapply (z_some (F := F) c); iexact Hz
  iintro ⟨HO, Hr0, Hz0⟩
  iapply (wp_gate m ρ K c)
  isplitr; · iexact HR
  isplitl [HO]; · iexact HO
  isplitl [HcB]; · iexact HcB
  isplitl [HpB]; · iexact HpB
  isplitl [Hr0]; · iexact Hr0
  isplitl [Hz0]; · iexact Hz0
  iintro ⟨HO, Hr, Hz, H0B⟩
  iapply (wp_fetch m ρ K c)
  isplitr; · iexact HR
  isplitl [Hh]; · iexact Hh
  isplitl [Hw]; · iexact Hw
  isplitl [HtW]; · iexact HtW
  iintro HcW
  iapply (wp_ldX c _ Q (xstg m ρ c))
  isplitl [Hx]; · iexact Hx
  iintro Hx
  iapply (wp_product m ρ K c)
  isplitr; · iexact HR
  isplitl [HO]; · iexact HO
  isplitl [HcW]; · iexact HcW
  isplitl [HpW]; · iexact HpW
  isplitl [Hy]; · iexact Hy
  isplitl [Hr]; · iexact Hr
  isplitl [HtS]; · iexact HtS
  isplitl [HtR]; · iexact HtR
  iintro ⟨HO, Hw, Hh, H0W, ⟨Hy0, Hr0⟩, HcS⟩
  iapply (wp_maxima m ρ K c)
  isplitr; · iexact HR
  isplitl [HO]; · iexact HO
  isplitl [Ha]; · iexact Ha
  isplitl [Hz]; · iexact Hz
  isplitl [HtA]; · iexact HtA
  isplitl [HtZ]; · iexact HtZ
  isplitl [HpZ]; · iexact HpZ
  isplitl [HcZ]; · iexact HcZ
  iintro ⟨HO, Ha0, HcA, Hz, H0Z⟩
  iapply (wp_quant m ρ K c)
  isplitr; · iexact HR
  isplitl [HO]; · iexact HO
  isplitl [HpR]; · iexact HpR
  isplitl [Hr0]; · iexact Hr0
  isplitl [HcR]; · iexact HcR
  isplitl [Ho]; · iexact Ho
  iintro ⟨HO, Hr, H0R, Ho⟩
  iapply (wp_tail m ρ K c)
  isplitr; · iexact HR
  isplitl [HO]; · iexact HO
  isplitl [HpS]; · iexact HpS
  isplitl [HpA]; · iexact HpA
  isplitl [Hy0]; · iexact Hy0
  isplitl [Ha0]; · iexact Ha0
  isplitl [HcS]; · iexact HcS
  isplitl [HcA]; · iexact HcA
  iintro ⟨HO, Hy, Ha, H0S, H0A⟩
  iapply Hk
  isplitl [HO]; · iexact HO
  isplitl [H0B H0W H0S H0R H0A H0Z]
  · isplitl [H0B]; · iexact H0B
    isplitl [H0W]; · iexact H0W
    isplitl [H0S]; · iexact H0S
    isplitl [H0R]; · iexact H0R
    isplitl [H0A]; · iexact H0A
    iexact H0Z
  isplitl [Hw Hy Hr Ha Hz]
  · isplitl [Hw]; · iexists _; iexact Hw
    isplitl [Hy]; · iexists _; iexact Hy
    isplitl [Hr]; · iexists _; iexact Hr
    isplitl [Ha]; · iexists _; iexact Ha
    iexists _; iexact Hz
  isplitl [Hh]; · iexact Hh
  isplitl [Hx]; · iexact Hx
  iexact Ho
end Sound

end Cert.KProof

end
end
-- ==== Proof.Ghost.lean ====
/-
Before the run: every cell of every device opened at its round, the tokens dealt to the devices that pay them, and
the credit each device starts with, read off what the others owe it.
-/
module

public import proofs.«01_k».proof.Proof.Sound

@[expose] public section

set_option maxRecDepth 20000

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem kcell_inj : Function.Injective (kcell : Dev nD × CK → GSem nD τ sig) := fun a b h => by
  have h' := cell_inj h
  exact Prod.ext h'.1 h'.2
/-- Every cell of the mesh, -/
def allCells : Finset (GSem nD τ sig) := Finset.univ.map ⟨kcell, kcell_inj⟩
/-- and for each a token in every device's name. -/
def tokAt (x : (Dev nD × CK) × Dev nD) : GSem nD τ sig × ℕ × Dev nD := (kcell x.1, 0, x.2)
theorem tokAt_inj : Function.Injective tokAt := fun a b h => by
  have h1 := kcell_inj (congrArg (fun z : GSem nD τ sig × ℕ × Dev nD => z.1) h)
  have h2 : a.2 = b.2 := congrArg (fun z : GSem nD τ sig × ℕ × Dev nD => z.2.2) h
  exact Prod.ext h1 h2
def allToks : Finset (GSem nD τ sig × ℕ × Dev nD) := Finset.univ.map ⟨tokAt, tokAt_inj⟩

omit [FloatOps F] in
/-- A family over all kinds of a device's cells, kind by kind. -/
theorem all_kinds (Φ : CK → sProp 𝕄) : bigSep Finset.univ Φ = kinds Φ := by
  unfold kinds
  rw [BI.bigSep_univ_sum, BI.bigSep_univ_sum, BI.bigSep_univ_sum, BI.bigSep_univ_sum, BI.bigSep_univ_sum,
    BI.bigSep_univ_eq_bigSepL [()] (by decide) (by decide)]
  rfl

/-- What a device holds of the ghost state at first: its cells' states, positions and marks, and every token of its cells. -/
def dealt (c : Dev nD) : sProp 𝕄 :=
  iprop((bigSep Finset.univ fun k : CK => roundState ER (Rd m ρ) (cell c k) 0)
    ∗ (bigSep Finset.univ fun k : CK => reached ER (cell c k) 0)
    ∗ (bigSep Finset.univ fun k : CK => pos (F := F) c k)
    ∗ (bigSep Finset.univ fun k : CK => bigSep Finset.univ fun d : Dev nD => tok (F := F) c k d))

theorem deal : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : CK => Φ (cell c k) := by
    unfold allCells; rw [BI.bigSep_map, BI.bigSep_univ_prod]; rfl
  have hT : bigSep allToks (fun x => (dutyTok ER x.1 x.2.1 x.2.2 : sProp 𝕄))
      = bigSep Finset.univ fun c : Dev nD => bigSep Finset.univ fun k : CK => bigSep Finset.univ fun d : Dev nD => tok (F := F) c k d := by
    unfold allToks; rw [BI.bigSep_map, BI.bigSep_univ_prod, BI.bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hr]; · iexact Hr
  isplitl [Hat]; · iexact Hat
  iexact Htok

/-! ## The invariants -/

/-- A device's own scoped semaphores, by kind. -/
abbrev osem (k : KO) : SemLoc sig := csem (.inr k)
theorem unscoped_bar : (unscopedSems0 (Ix := Unit) (Val := Elt F) (Name := ℕ) (U := UU) (Lvl := ℕ) (nD := nD) (τ := τ) (sig := sig)) = fun c => zeroAt (F := F) c kBar := by
  funext c
  unfold unscopedSems0; rw [bigSep_eq_bigSepL_of_eq [SemLoc.reg barS] (by decide) (by decide)]; rfl
theorem own_kinds (c : Dev nD) :
    iprop(Pipeline.ownSems0 (Ix := Unit) (Name := ℕ) (U := UU) (Lvl := ℕ) (Val := Elt F) (τ := τ) osem c ∗ unscopedSems0 c)
      ⊢ (bigSep Finset.univ fun k : CK => zeroAt (F := F) c k) := by
  rw [unscoped_bar, BI.bigSep_univ_sum, BI.bigSep_univ_eq_bigSepL [()] (by decide) (by decide)]
  show iprop((bigSep Finset.univ fun k : KO => zeroAt (F := F) c (.inr k)) ∗ zeroAt (F := F) c kBar)
    ⊢ iprop(zeroAt (F := F) c kBar ∗ bigSep Finset.univ fun k : KO => zeroAt (F := F) c (.inr k))
  iintro ⟨Ho, Hb⟩
  isplitl [Hb]; · iexact Hb
  iexact Ho

/-- All cells' invariants under the names `K`, and that each has reached its round. -/
def opened (K : Dev nD × CK → ℕ) : sProp 𝕄 :=
  iprop((bigSep Finset.univ fun ck => cellInv ER (Rd m ρ) (K ck) (kcell ck)) ∗ (bigSep Finset.univ fun ck => reached ER (kcell ck) 0))
instance opened_persistent (K) : BI.Persistent (opened (F := F) m ρ K) := by unfold opened; infer_instance
/-- What a device goes into the run with. -/
def ready (c : Dev nD) : sProp 𝕄 := iprop(∃ K, opened m ρ K ∗ toks (F := F) c ∗ kinds (F := F) (pos c))

theorem open_core (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : CK => iprop(∃ κ : ℕ, cellInv ER (Rd m ρ) κ (cell c k)))
        ∗ (bigSep Finset.univ fun k : CK => reached ER (cell c k) 0) ∗ (bigSep Finset.univ fun k : CK => pos (F := F) c k)
        ∗ (bigSep Finset.univ fun k : CK => bigSep Finset.univ fun d : Dev nD => tok (F := F) c k d)) := by
  unfold dealt
  iintro ⟨Hos, Hus, Hst, Hr, Hat, Htok⟩
  ihave Hv := (own_kinds (F := F) c) $$ [Hos Hus]
  · isplitl [Hos] <;> iassumption
  have hal : iprop((bigSep Finset.univ fun k : CK => zeroAt (F := F) c k) ∗ bigSep Finset.univ fun k : CK => roundState ER (Rd m ρ) (cell c k) 0)
      ⊢ (|={Set.univ}=> bigSep Finset.univ fun k : CK => iprop(∃ κ : ℕ, cellInv ER (Rd m ρ) κ (cell c k)) : sProp 𝕄) := by
    rw [← bigSep_sep']
    exact (bigSep_mono fun k _ => (Rounds.body_intro ER (Rd m ρ) (cell c k)).trans inv_alloc).trans (bigSep_fupd _ _)
  imod hal $$ [Hv Hst] with Hinv
  · isplitl [Hv] <;> iassumption
  imodintro
  isplitl [Hinv]; · iexact Hinv
  isplitl [Hr]; · iexact Hr
  isplitl [Hat]; · iexact Hat
  iexact Htok

omit [FloatOps F] in
/-- Of the tokens of one kind of cell, those in device `0`'s name; -/
theorem pick0 {I : Type} [Fintype I] [DecidableEq I] (Φ : I → Dev nD → sProp 𝕄) :
    (bigSep Finset.univ fun i => bigSep Finset.univ fun d => Φ i d) ⊢ bigSep Finset.univ fun i => Φ i 0 :=
  bigSep_mono fun i _ => bigSep_elim (Finset.mem_univ 0)
omit [FloatOps F] in
/-- dealt to the devices that pay them. -/
theorem deal_toks : (bigSep Finset.univ fun c : Dev nD => bigSep Finset.univ fun k : CK => bigSep Finset.univ fun d : Dev nD => tok (F := F) c k d)
    ⊢ (bigSep Finset.univ fun c : Dev nD => toks (F := F) c : sProp 𝕄) := by
  have h1 : ∀ c : Dev nD, (bigSep Finset.univ fun k : CK => bigSep Finset.univ fun d : Dev nD => tok (F := F) c k d)
      ⊢ iprop((bigSep Finset.univ fun d => tok (F := F) c kBar d) ∗ (bigSep Finset.univ fun u => tok (F := F) c (kW u) 0)
        ∗ (bigSep Finset.univ fun j => tok (F := F) c (kSnd j) 0) ∗ (bigSep Finset.univ fun j => tok (F := F) c (kRcv j) 0)
        ∗ (bigSep Finset.univ fun j => tok (F := F) c (kAs j) 0) ∗ (bigSep Finset.univ fun j => tok (F := F) c (kAr j) 0)) := fun c => by
    rw [all_kinds]; unfold kinds
    exact BI.sep_mono (BI.Entails.refl _) (BI.sep_mono (pick0 _) (BI.sep_mono (pick0 _) (BI.sep_mono (pick0 _) (BI.sep_mono (pick0 _) (pick0 _)))))
  refine (bigSep_mono fun c _ => h1 c).trans ?_
  unfold toks
  simp only [bigSep_sep']
  rw [BI.bigSep_univ_comm (fun c d : Dev nD => tok (F := F) c kBar d),
    BI.bigSep_univ_comm (fun c j : Dev nD => tok (F := F) c (kRcv j) 0),
    BI.bigSep_univ_comm (fun c j : Dev nD => tok (F := F) c (kAr j) 0)]
  exact BI.Entails.refl _

omit [FloatOps F] in
/-- A persistent fact goes to every member of a family. -/
theorem share_fact {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem ready_intro (K : Dev nD × CK → ℕ) (c : Dev nD) :
    iprop(opened m ρ K ∗ (toks (F := F) c ∗ bigSep Finset.univ fun k : CK => pos (F := F) c k)) ⊢ ready m ρ c := by
  rw [all_kinds]; unfold ready
  iintro ⟨#HI, Ht, Hp⟩
  iexists K
  isplitr; · iexact HI
  isplitl [Ht]; · iexact Ht
  iexact Hp

theorem gather_ready :
    (bigSep Finset.univ fun c : Dev nD => iprop((bigSep Finset.univ fun k : CK => iprop(∃ κ : ℕ, cellInv ER (Rd m ρ) κ (cell c k)))
        ∗ (bigSep Finset.univ fun k : CK => reached ER (cell c k) 0) ∗ (bigSep Finset.univ fun k : CK => pos (F := F) c k)
        ∗ (bigSep Finset.univ fun k : CK => bigSep Finset.univ fun d : Dev nD => tok (F := F) c k d)) : sProp 𝕄)
      ⊢ bigSep Finset.univ (ready m ρ) := by
  simp only [bigSep_sep']
  rw [← BI.bigSep_univ_prod (fun ck : Dev nD × CK => iprop(∃ κ : ℕ, cellInv ER (Rd m ρ) κ (kcell ck))),
    ← BI.bigSep_univ_prod (fun ck : Dev nD × CK => (reached ER (kcell ck) 0 : sProp 𝕄))]
  iintro ⟨HI, #HR, Hat, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (deal_toks (F := F)) $$ Htok
  iapply (share_fact (R := opened m ρ K) fun c _ => ready_intro m ρ K c)
  isplitr
  · unfold opened; isplitl; · iexact HI
    iexact HR
  · simp only [bigSep_sep']
    isplitl [Htk]; · iexact Htk
    iexact Hat

/-- Every device's semaphores at zero and its share of the ghost state make every device ready. -/
theorem open_all : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => open_core m ρ c).trans (bigSep_fupd _ _)).trans (BI.fupd_mono (gather_ready m ρ))

/-! ## The credit at launch -/

theorem tal_apply (p c : Dev nD) (k k' : CK) : (tal p k') (cell c k) () = if c = p ∧ k = k' then amtOf k' else 0 := by
  rw [tallyAt_apply]
  by_cases h : c = p ∧ k = k'
  · rw [if_pos h, if_pos ⟨by rw [h.1, h.2], rfl⟩]
  · rw [if_neg h, if_neg fun h' => h (cell_inj h'.1)]
theorem ow_apply {ι : Type} (f : ι → Tal) (g : GSem nD τ sig) : ∀ (l : List ι) (b : Tal), ow f l b g () = b g () + (l.map fun i => f i g ()).sum
  | [], b => rfl
  | i :: l, b => by
    show (ow f l b + f i) g () = _
    rw [Pi.add_apply, Finsupp.add_apply, ow_apply f g l b, List.map_cons, List.sum_cons]; omega
theorem sum_none {ι : Type} {f : ι → ℕ} (h : ∀ i, f i = 0) : ∀ l : List ι, (l.map f).sum = 0
  | [] => rfl
  | i :: l => by rw [List.map_cons, List.sum_cons, h i, sum_none h l]
theorem sum_some {ι : Type} (P : ι → Prop) [DecidablePred P] (n : ℕ) : ∀ l : List ι, (l.map fun i => if P i then n else 0).sum = (l.countP P) * n
  | [] => (Nat.zero_mul n).symm
  | i :: l => by
    rw [List.map_cons, List.sum_cons, sum_some P n l, List.countP_cons]
    by_cases h : P i
    · simp [h, Nat.add_mul, Nat.add_comm]
    · simp [h]

/-- The slices' part of what is owed to a cell, turn by turn. -/
theorem owR_apply (d : Dev nD) (g : GSem nD τ sig) : ∀ l, owR d l g () = (owZ d L31) g () + (l.map fun u => (L4.map fun t => (talR d (jOf d u t)) g ()).sum).sum
  | [] => rfl
  | u :: l => by
    show (ow (fun t => talR d (jOf d u t)) L4 (owR d l)) g () = _
    rw [ow_apply, owR_apply d g l, List.map_cons (f := fun u => (L4.map fun t => (talR d (jOf d u t)) g ()).sum), List.sum_cons, Nat.add_assoc]
    exact congrArg _ (Nat.add_comm _ _)
theorem O₀_apply (d c : Dev nD) (k : CK) : (O₀ d) (cell c k) () =
    (L31.map fun i => if c = pOf d i ∧ k = kAr d then NZ else 0).sum
    + (L8.map fun u => (L4.map fun t => if jOf d u t ≠ d ∧ c = jOf d u t ∧ k = kRcv d then NY else 0).sum).sum
    + (L31.map fun i => if c = pOf d i ∧ k = kBar then 1 else 0).sum := by
  have hR : ∀ j, (talR d j) (cell c k) () = if j ≠ d ∧ c = j ∧ k = kRcv d then NY else 0 := fun j => by
    unfold talR
    by_cases h : j = d
    · rw [if_pos h, if_neg fun h' => h'.1 h]; rfl
    · rw [if_neg h, tal_apply]
      by_cases h' : c = j ∧ k = kRcv d
      · rw [if_pos h', if_pos ⟨h, h'⟩]; rfl
      · rw [if_neg h', if_neg fun h'' => h' h''.2]
  unfold O₀ owB
  rw [ow_apply, owR_apply]
  unfold owZ
  rw [ow_apply]
  simp only [hR, tal_apply]
  show 0 + _ + _ + _ = _
  rw [Nat.zero_add]
  rfl

theorem count_peer : ∀ d c : Dev nD, (L31.countP fun i => decide (c = pOf d i)) = if d = c then 0 else 1 := by decide +kernel
theorem count_slice : ∀ d c : Dev nD, (L8.map fun u => L4.countP fun t => decide (jOf d u t ≠ d ∧ c = jOf d u t)).sum = if d = c then 0 else 1 := by decide +kernel
theorem sum_mul (f : Fin 8 → ℕ) (n : ℕ) : ∀ l : List (Fin 8), (l.map fun u => f u * n).sum = (l.map f).sum * n
  | [] => (Nat.zero_mul n).symm
  | u :: l => by rw [List.map_cons, List.sum_cons, sum_mul f n l, List.map_cons, List.sum_cons, Nat.add_mul]

theorem owed_bar (d c : Dev nD) : (O₀ d) (cell c kBar) () = if d = c then 0 else 1 := by
  rw [O₀_apply, sum_none (fun i => if_neg fun h => by cases h.2), sum_none (fun u => sum_none (fun t => if_neg fun h => by cases h.2.2) _), ← count_peer d c]
  simp only [and_true]
  rw [sum_some, Nat.mul_one]
  exact Nat.zero_add _
theorem owed_rcv (d c s : Dev nD) (hs : s ≠ c) : (O₀ d) (cell c (kRcv s)) () = if d = s then NY else 0 := by
  rw [O₀_apply, sum_none (fun i => if_neg fun h => by cases h.2), sum_none (l := L31) (fun i => if_neg fun h => by cases h.2), Nat.zero_add, Nat.add_zero]
  by_cases hd : d = s
  · subst hd
    simp only [and_true, sum_some]
    rw [sum_mul, count_slice, if_neg hs, if_pos True.intro, Nat.one_mul]
  · rw [if_neg hd]
    exact sum_none (fun u => sum_none (fun t => if_neg fun h => hd (by have := h.2.2; injections; subst_vars; rfl)) _) _
theorem kAr_inj {s d : Dev nD} (h : kAr s = kAr d) : d = s :=
  (congrArg (fun k : CK => match k with | kAr j => j | _ => s) h).symm
theorem owed_ar (d c s : Dev nD) (hs : s ≠ c) : (O₀ d) (cell c (kAr s)) () = if d = s then NZ else 0 := by
  rw [O₀_apply, sum_none (f := fun u => _) (fun u => sum_none (fun t => if_neg fun h => by cases h.2.2) _) L8, sum_none (f := fun i => if c = pOf d i ∧ kAr s = kBar then 1 else 0) (fun i => if_neg fun h => by cases h.2)]
  by_cases hd : d = s
  · subst hd
    simp only [and_true, sum_some]
    rw [count_peer, if_neg hs, if_pos True.intro, Nat.one_mul]; rfl
  · rw [if_neg hd]
    rw [sum_none (f := fun i => if c = pOf d i ∧ kAr s = kAr d then NZ else 0) (fun i => if_neg fun h => hd (kAr_inj h.2)) L31]

theorem bar_total : ∀ c : Dev nD, (∑ d : Dev nD, if d = c then 0 else 1) = 31 := by decide +kernel

/-- The credit of a cell is what the devices owe it. -/
theorem credit_at (c : Dev nD) (k : CK) (n : ℕ) (h : (∑ d : Dev nD, (O₀ d) (cell c k) ()) = n) :
    tallyOn (cell c k) (launchCredit (Pipeline.owing O₀) 0 (cell c k)) = (tallyAt (cell c k) () n : Tal) := by
  unfold tallyAt; refine congrArg _ (Finsupp.ext fun u => ?_); cases u
  rw [Pipeline.launchCredit_owing, h, Finsupp.single_eq_same]

omit [FloatOps F] in
theorem creds_intro (c : Dev nD) : (Pipeline.launchCred O₀ c : sProp 𝕄) ⊢ creds (F := F) c := by
  unfold Pipeline.launchCred
  have hB := credit_at c kBar 31 (by rw [Finset.sum_congr rfl fun d _ => owed_bar d c]; exact bar_total c)
  have hR : ∀ s ∈ Finset.univ.erase c, tallyOn (cell c (kRcv s)) (launchCredit (Pipeline.owing O₀) 0 (cell c (kRcv s))) = tal c (kRcv s) := fun s hs =>
    credit_at c (kRcv s) NY (by rw [Finset.sum_congr rfl fun d _ => owed_rcv d c s (Finset.ne_of_mem_erase hs), Finset.sum_ite_eq' Finset.univ s, if_pos (Finset.mem_univ _)])
  have hA : ∀ s ∈ Finset.univ.erase c, tallyOn (cell c (kAr s)) (launchCredit (Pipeline.owing O₀) 0 (cell c (kAr s))) = tal c (kAr s) := fun s hs =>
    credit_at c (kAr s) NZ (by rw [Finset.sum_congr rfl fun d _ => owed_ar d c s (Finset.ne_of_mem_erase hs), Finset.sum_ite_eq' Finset.univ s, if_pos (Finset.mem_univ _)])
  have eB : (cred (tallyOn (cell c kBar) (launchCredit (Pipeline.owing O₀) 0 (cell c kBar))) : sProp 𝕄) ⊢ cred (tallyAt (cell c kBar) () 31) := Entails.of_eq (congrArg cred hB)
  have eR : (bigSep Finset.univ fun s => (cred (tallyOn (cell c (kRcv s)) (launchCredit (Pipeline.owing O₀) 0 (cell c (kRcv s)))) : sProp 𝕄))
      ⊢ bigSep (Finset.univ.erase c) fun s => crd (F := F) c (kRcv s) :=
    (bigSep_subset (Finset.erase_subset c _)).trans (bigSep_mono fun s hs => Entails.of_eq (congrArg cred (hR s hs)))
  have eA : (bigSep Finset.univ fun s => (cred (tallyOn (cell c (kAr s)) (launchCredit (Pipeline.owing O₀) 0 (cell c (kAr s)))) : sProp 𝕄))
      ⊢ bigSep (Finset.univ.erase c) fun s => crd (F := F) c (kAr s) :=
    (bigSep_subset (Finset.erase_subset c _)).trans (bigSep_mono fun s hs => Entails.of_eq (congrArg cred (hA s hs)))
  have hk : kinds (fun k => (cred (tallyOn (cell c k) (launchCredit (Pipeline.owing O₀) 0 (cell c k))) : sProp 𝕄)) ⊢ creds (F := F) c := by
    unfold kinds creds
    iintro ⟨HB, -, -, HR, -, HA⟩
    isplitl [HB]; · iapply eB; iexact HB
    isplitl [HR]; · iapply eR; iexact HR
    iapply eA; iexact HA
  refine (bigSep_subset (Finset.subset_univ (Finset.univ.map ⟨csem, fun _ _ h => csem_inj h⟩))).trans ?_
  rw [BI.bigSep_map, all_kinds]
  exact hk

end Cert.KProof

end
end
-- ==== Proof.Launch.lean ====
/-
The whole run: every device starts ready, runs the kernel's body, and ends with its columns of the result, its
arguments as they were and every semaphore at zero.
-/
module

public import proofs.«01_k».proof.Proof.Ghost
public import Idealize.ShloMosaic.Lib.Pipeline.CollectiveSegs

@[expose] public section

set_option maxRecDepth 20000

noncomputable section

namespace Cert.KProof

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What holds before and after the body -/

/-- Before it a device is ready, has its credits and the levels, its copy of the weights and its scratch buffers; -/
def startsWith (c : Dev nD) : sProp 𝕄 := iprop(ready m ρ c ∗ levAts L lv ∗ creds (F := F) c ∗ wHbm m c)
def Φin (c : Dev nD) : sProp 𝕄 := iprop(startsWith m ρ c ∗ scr (F := F) c)
/-- after it all its semaphores are at zero. -/
def Φout (c : Dev nD) : sProp 𝕄 := iprop(kinds (F := F) (zeroAt c) ∗ scr (F := F) c ∗ wHbm m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φin m ρ c
    | ⟨_ + 1, _⟩ => Φout m c
  q _ := fullShare
  owed t := match t with
    | ⟨0, _⟩ => O₀ c
    | ⟨_ + 1, _⟩ => 0

theorem owns_all (c : Dev nD) (b : Ref sig .tc) (q : PosShare TreeShare) (X : b.ty.Contents (Elt F)) :
    (owns (c : Thread nD τ) (Memref.whole b) q X : sProp 𝕄) = iprop(∃ f : Buf (Elt F) ((c : Thread nD τ).loc b), ⌜f = X⌝ ∗ (((c : Thread nD τ).loc b) ↦{q} f)) := by
  unfold owns; simp only [Memref.view_whole, View.read_whole, View.set_whole]

/-- A staging buffer at the contents `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def givenBody (c : Dev nD) : sProp 𝕄 :=
  iprop(Φin m ρ c ∗ (dats m ρ 0 c).owesAt () t0_0.castSucc
    ∗ (∃ d, holds c cc0_stg0_0 ((dats m ρ 0 c).before (0 : Fin 2) t0_0 d))
    ∗ (∃ d, holds c cc0_stg1_0 ((dats m ρ 0 c).before (1 : Fin 2) t0_0 d)))
def leftBody (c : Dev nD) : sProp 𝕄 :=
  iprop(Φout m c ∗ (dats m ρ 0 c).owesAt () t0_0.succ ∗ holds c cc0_stg0_0 (xstg m ρ c) ∗ holds c cc0_stg1_0 (outAt m ρ c))

theorem run_body (c : Dev nD) :
    givenBody m ρ c ⊢ wp frame (wpE (defs₀ (F := F)) 𝒱₀ (c : Thread nD τ) none) Set.univ
      (cc0_body (F := F) xM (Memref.isWhole_whole _) hM (Memref.isWhole_whole _) oM (Memref.isWhole_whole _) wM (Memref.isWhole_whole _) yM (Memref.isWhole_whole _) rM (Memref.isWhole_whole _) aM (Memref.isWhole_whole _) zM (Memref.isWhole_whole _) cc0_scratch5 cc0_scratch6 cc0_scratch7 cc0_scratch8 cc0_scratch9)
      (fun _ => leftBody m ρ c) := by
  rw [body_eq]
  unfold Prog.lift
  rw [Prog.bind_op, wp_deviceId, Prog.bind_ret]
  unfold givenBody Φin startsWith ready Dat.owesAt Pipeline.owesWithin
  iintro ⟨⟨⟨⟨%K, HI, Ht, Hp⟩, Hl, Hc, Hw⟩, Hs⟩, ⟨%W, %hW, HO⟩, ⟨%d0, %g0, %hg0, Hx⟩, ⟨%d1, %g1, %hg1, Ho⟩⟩
  have hx : g0 = xstg m ρ c := by rw [hg0]; unfold Dat.before; rw [if_pos (fetch0_0 t0_0)]; rfl
  subst hx
  rw [show (dats m ρ 0 c).owed t0_0.castSucc = O₀ c from rfl]
  iapply (wp_body m ρ K c fun _ => leftBody m ρ c)
  isplitl [HI Hl]
  · unfold recs opened
    icases HI with ⟨H1, H2⟩
    isplitl [H1]; · iexact H1
    isplitl [H2]; · iexact H2
    iexact Hl
  isplitl [HO]; · unfold OW; iexists W; iexact HO
  isplitl [Ht]; · iexact Ht
  isplitl [Hp]; · iexact Hp
  isplitl [Hc]; · iexact Hc
  isplitl [Hs]; · iexact Hs
  isplitl [Hw]; · iexact Hw
  isplitl [Hx]; · iexact Hx
  isplitl [Ho]; · iexists g1; iexact Ho
  unfold leftBody Φout OW Dat.owesAt Pipeline.owesWithin
  rw [show (dats m ρ 0 c).owed t0_0.succ = 0 from rfl]
  iintro ⟨⟨%W', HO⟩, Hz, Hs, Hw, Hx, Ho⟩
  isplitl [Hz Hs Hw]
  · isplitl [Hz]; · iexact Hz
    isplitl [Hs] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

theorem body_ok (c : Dev nD) : BodyObligation (dats (F := F) m ρ 0 c) (defs₀ (F := F)) 𝒱₀ () Set.univ := fun t => by
  rw [fin_N0 t]
  rw [bigSep_W0, bigSep_W0]
  simp only [owns_all]
  exact run_body m ρ c

/-! ## The launch -/

theorem ownSemFacts : Pipeline.OwnSemFacts cfg0.spec osem :=
  ⟨by decide +kernel, fun a b h => Sum.inr.inj (csem_inj h), by decide +kernel⟩

theorem share_eq (c : Dev nD) (w : Fin cfg0.W) : (dats m ρ 0 c).share w = fullShare := by unfold Dat.share; split <;> rfl

theorem starts (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(startsWith m ρ c ∗ emp) := by
  rw [Pipeline.unscopedRestP_none, unscopedRest0_eq]
  unfold startsWith
  iintro ⟨Hw, Hl, Hc, -, Hr⟩
  imodintro
  isplitl
  · isplitl [Hr]; · iexact Hr
    isplitl [Hl]; · iexact Hl
    isplitl [Hc]; · iapply (creds_intro (F := F) c); iexact Hc
    iexact Hw
  · iempintro

theorem enters (c : Dev nD) :
    iprop(startsWith m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φin m ρ c from rfl, scopedRest0_eq]
  unfold Φin scr
  iintro ⟨Hs, -, Hr⟩
  isplitl [Hs]; · iexact Hs
  iexact Hr

theorem leaves (c : Dev nD) :
    (dats m ρ 0 c).Φ (Fin.last cfg0.N) ⊢ iprop((unscopedSems0 c ∗ wHbm m c) ∗ Pipeline.ownSems0 osem c ∗ Pipeline.scopedRest cfg0.spec c) := by
  have hk : kinds (F := F) (zeroAt c) ⊢ iprop(unscopedSems0 c ∗ Pipeline.ownSems0 (Ix := Unit) (Name := ℕ) (U := UU) (Lvl := ℕ) (Val := Elt F) (τ := τ) osem c) := by
    rw [← all_kinds, BI.bigSep_univ_sum, unscoped_bar, BI.bigSep_univ_eq_bigSepL [()] (by decide) (by decide)]
    exact BI.Entails.refl _
  rw [show (dats m ρ 0 c).Φ (Fin.last cfg0.N) = Φout m c from rfl, scopedRest0_eq]
  unfold Φout scr
  iintro ⟨Hz, Hs, Hw⟩
  ihave Hz := hk $$ Hz
  icases Hz with ⟨Hb, Hz⟩
  isplitl [Hb Hw]
  · isplitl [Hb] <;> iassumption
  isplitl [Hz]; · iexact Hz
  iexact Hs

theorem stage_low : ∀ (w : Fin cfg0.W) (s : Fin (cfg0.spec w).nbuf), kind (.dma ((cfg0.spec w).sem s)) = none := by decide +kernel

theorem waits (c : Dev nD) : (levAts L lv : sProp 𝕄) ⊢ Pipeline.cellsWaits cfgs (dats m ρ) () 0 c :=
  Pipeline.cellsWaits_intro cfgs (dats m ρ) () 0 c fun w s t =>
    mayWait c _ 1 (by
      show (match kind (.dma ((cfg0.spec w).sem s)) with | some k => lvOf k | none => 0) < 1
      rw [stage_low w s]; exact Nat.one_pos) (by
      rcases t with ⟨_ | _, ht⟩
      · exact above_owB c L31 (Nat.le_refl 1)
      · exact above_zero 1)

def finalA (c : Dev nD) (w : Fin cfg0.W) : Buf (Elt F) ((cfg0.win w).arr.view.loc (c : Thread nD τ)) := (dats m ρ 0 c).arrAt w cfg0.N

/-- What a final state holds on a device besides its window's arrays. -/
def atEnd (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

theorem read_end (c : Dev nD) (s' : Phys nD τ sig (Elt F)) :
    iprop((unscopedSems0 c ∗ wHbm m c) ∗ emp ∗ SI s') ⊢ (|={Set.univ}=> iprop(⌜atEnd m c s'.mem⌝ ∗ SI s') : sProp 𝕄) := by
  iintro ⟨⟨Hu, Hw⟩, -, HSI⟩
  imod (Pipeline.unscopedSems0_read (X := unscopedSems0 c) (c := c) fupd_intro s') $$ [Hu HSI] with ⟨%hs, HSI⟩
  · isplitl [Hu] <;> iassumption
  ihave %hm := (SI_pointsTo_agree (st := s')) $$ [HSI Hw]
  · isplitl [HSI] <;> iassumption
  imodintro
  isplitr
  · ipureintro; exact ⟨hs, funext fun i => hm i (Finset.mem_univ i)⟩
  iexact HSI

/-- The final states: the windows' arrays at the computed contents, the weights as they were, every semaphore at zero. -/
def Final (r : PUnit × MemSt nD τ sig (Elt F)) : Prop :=
  (∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)) ∧ r.2.sem = fun _ => 0

def u₀ : UU :=
  (initOf (Pipeline.cells cfgs cellOf_inj) (Pipeline.launchToks cfgs cellOf_inj), initOf allCells allToks)

/-- From any memory with zero counters, every weakly fair execution ends, in a state of `Final`. -/
theorem run_final : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_ok m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := open_all m ρ)
    (hA := fun _ _ => rfl) (hpf := fun _ k => k.elim0)
    (X := startsWith m ρ) (Y := fun c => iprop(unscopedSems0 c ∗ wHbm m c)) (Z := fun _ => iprop(emp))
    (hX := starts m ρ) (hin := enters m ρ) (hout := leaves m ρ)
    (QY := atEnd m) (hY := read_end m)
    (hQ := fun _ h hs => ⟨fun c => ⟨fun w => (h c).1 w, (h c).2.2.2⟩, sem_eq_zero hs fun c => (h c).2.2.1⟩)

/-- The array of `x` ends as it was, -/
theorem final_x (c : Dev nD) : finalA m ρ c (0 : Fin 2) = m ((c : Thread nD τ).loc main_arg0) :=
  (dats (F := F) m ρ 0 c).arrAt_in (0 : Fin 2) rfl _

end Cert.KProof

end
end
-- ==== Proof.Quant.lean ====
/-
  The quantiser's arithmetic over the extended reals. The kernel multiplies by 127 / g where the reference divides by
  g / 127; rounded, clipped and scaled back by g / 127 the two agree, for every entry `y` with |y| ≤ g: also where the
  maximum `g` is zero or infinite.
-/
module

public import Idealize.ShloMosaic.PureOps.Ideal

@[expose] public section

noncomputable section

namespace Cert.KProof

open Idealize.ShloMosaic

/-- The quantiser's bound, 127, and its negative, as the programs' words give them. -/
abbrev hi : EReal := Ideal.ofBits .f32 0x42FE0000#32
abbrev lo : EReal := Ideal.ofBits .f32 0xC2FE0000#32

theorem hi_eq : hi = ((127 : ℝ) : EReal) := by
  simp [hi, Ideal.ofBits, Ideal.ieee]
  rw [← EReal.coe_mul]
  norm_num

theorem lo_eq : lo = ((-127 : ℝ) : EReal) := by
  simp [lo, Ideal.ofBits, Ideal.ieee]
  rw [← EReal.coe_mul]
  norm_num

/-- Rounded to the nearest integer, halves to even, and clipped. -/
def clip8 (z : EReal) : EReal := min hi (max lo (Ideal.liftRound Ideal.roundHalfEven z))

/-- The absolute value is not negative. -/
theorem abs_nonneg_ereal (y : EReal) : 0 ≤ max y (-y) := by
  rcases le_total 0 y with h | h
  · exact le_max_of_le_left h
  · exact le_max_of_le_right (EReal.neg_nonneg.2 h)

/-- The two quantisers agree. -/
theorem quant_eq (y g : EReal) (h : max y (-y) ≤ g) :
    clip8 (y * Ideal.div hi g) * Ideal.div g hi = clip8 (Ideal.div y (Ideal.div g hi)) * Ideal.div g hi := by
  have hg : 0 ≤ g := (abs_nonneg_ereal y).trans h
  have hd : Ideal.div g hi = g * ((1 / 127 : ℝ) : EReal) := by rw [hi_eq, Ideal.div_coe (by norm_num)]
  induction g with
  | bot => simp at hg
  | top =>
    have e : Ideal.div ⊤ hi = ⊤ := by
      rw [hd]; exact EReal.top_mul_coe_of_pos (by norm_num)
    have e1 : Ideal.div hi ⊤ = 0 := by rw [Ideal.div, if_neg (by simp), EReal.inv_top, mul_zero]
    have e2 : Ideal.div y ⊤ = 0 := by rw [Ideal.div, if_neg (by simp), EReal.inv_top, mul_zero]
    rw [e, e1, e2, mul_zero]
  | coe g =>
    have hb : (-g : ℝ) ≤ y ∧ y ≤ (g : EReal) := by
      refine ⟨?_, (le_max_left _ _).trans h⟩
      have := (le_max_right y (-y)).trans h
      rw [EReal.coe_neg]; exact EReal.neg_le.1 this
    rcases (EReal.coe_nonneg.1 hg).eq_or_lt with h0 | h0
    · subst h0
      rw [hd]; simp
    · have hy : y ≠ ⊥ ∧ y ≠ ⊤ := ⟨fun e => by simp [e] at hb, fun e => by simp [e] at hb⟩
      lift y to ℝ using ⟨hy.2, hy.1⟩
      have e1 : Ideal.div hi g = ((127 / g : ℝ) : EReal) := by
        rw [hi_eq, Ideal.div_coe h0.ne', ← EReal.coe_mul]; congr 1; ring
      have e2 : Ideal.div (g : EReal) hi = ((g / 127 : ℝ) : EReal) := by
        rw [hd, ← EReal.coe_mul]; congr 1; ring
      have e3 : Ideal.div (y : EReal) ((g / 127 : ℝ) : EReal) = ((y * (127 / g) : ℝ) : EReal) := by
        rw [Ideal.div_coe (by positivity), ← EReal.coe_mul]; congr 1; field_simp
      rw [e1, e2, e3, ← EReal.coe_mul]

end Cert.KProof

end

end
-- ==== Proof.Entries.lean ====
/-
  What the kernel multiplies and sends, over the extended reals: every block of a product that a device computes holds
  entries of the whole product, and the slices that a device is sent are all the rows of its columns.
-/
module

public import proofs.«01_k».proof.Proof.Launch
public import proofs.«01_k».proof.Proof.Quant
public import Idealize.ShloMosaic.Lib.Layout
public import Idealize.ShloMosaic.Lib.MatmulPlain
public import Idealize.ShloMosaic.PureOps.Ideal.Laws
public import Idealize.ShloMosaic.Lib.Pipeline.Value

@[expose] public section

set_option maxRecDepth 20000

noncomputable section

namespace Cert.KProof

open Cert.KernelIdeal Cert.KernelIdeal.Gen
open Idealize.ShloMosaic
open Idealize.ShloMosaic.TcCoe
open Idealize.ShloMosaic.ValueIdx
open Idealize.SL Idealize.SL.Sem

/-! ## The windows are whole buffers -/

section Windows
variable {F : FTy → Type} [FloatOps F]
variable (m : (ℓ : Loc nD τ sig) → Buf (Elt F) ℓ) (ρ : Dev nD → PrngReg)

/-- The staged rows of `x` are the argument's buffer. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) (m ((c : Thread nD τ).loc main_arg0))

/-- The result's buffer ends as the body left its staging buffer. -/
theorem final_out (c : Dev nD) : finalA m ρ c (1 : Fin 2) = outAt m ρ c := by
  have hz : (fun a => (win0_1.index (0 : Fin 1)) a * main_v1.ty.shape.size a) = fun _ => 0 :=
    funext fun a => by fin_cases a <;> decide
  have hr := Memref.read_access_unit_zero (Elt F) main_v1 hz (fun a => by fin_cases a <;> decide) (finalA m ρ c (1 : Fin 2))
  have ho : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact hr.symm.trans ho

end Windows

/-! ## Entries of the product -/

/-- The entry of the whole product at row `i`, column `j`. -/
def Y (X : (⟨2, ![4096, 4096]⟩ : Shape).Idx → EReal) (W : S4096x2048.Idx → EReal) (i : Fin 4096) (j : Fin 2048) : EReal :=
  ∑ k : Fin 4096, X (ix2 i k) * W (ix2 k j)

/-- A block of the product: the device's rows times 256 columns. -/
theorem pay14_apply (x : FVec Ideal S128x4096 .bf16) (w : Vec Ideal S1x4096x256 .f32) (r : Fin 128) (q : Fin 256) :
    k0_pay14 (F := Ideal) x w (ix2 r q) = ∑ k : Fin 4096, x (ix2 r k) * w (ix3 0 k q) := by
  have hw : ∀ k : Fin 4096, shapeCast S4096x256 w shapeCasts_S1x4096x256_S4096x256 (ix2 k q) = w (ix3 0 k q) := fun k =>
    (shapeCast_dropUnit_apply ![4096, 256] w shapeCasts_S1x4096x256_S4096x256 (ix2 k q)).trans
      (congrArg w (funext fun a => match a with | ⟨0, _⟩ => rfl | ⟨1, _⟩ => rfl | ⟨2, _⟩ => rfl))
  refine (Ideal.matmul_plain_apply (M := 128) (K := 4096) (N := 256) none x
    (truncf .bf16 (shapeCast S4096x256 w shapeCasts_S1x4096x256_S4096x256) bitsLt_bf16_f32) (constant S128x256 .f32 0x00000000#32) r q).trans ?_
  show Ideal.ofBits .f32 0x00000000#32 + _ = _
  rw [Ideal.ofBits_zero_f32, zero_add]
  exact Finset.sum_congr rfl fun k _ => congrArg (x (ix2 r k) * ·) (hw k)

/-- A slice of a product block: 64 of its columns. -/
theorem slP_apply (yb : FVec Ideal S128x256 .bf16) (t : Fin 4) (r : Fin 128) (q : Fin 64) :
    slP (F := Ideal) yb t (ix3 0 r q) = yb (ix2 r ⟨64 * t.val + q.val, by omega⟩) := by
  unfold slP
  rw [shapeCast_self]
  refine (shapeCast_addUnit_apply ![128, 64] _ shapeCasts_S128x64_S1x128x64 (ix3 0 r q)).trans ?_
  refine extractStridedSlice_apply _ _ _ _ _ fun a => ?_
  match a with
  | ⟨0, _⟩ => exact (Nat.zero_add _).symm
  | ⟨1, _⟩ => rfl

/-- The turn in which device `d` multiplies by the columns of device `c` reads the chunk that holds them. -/
theorem ch_uOf : ∀ d c : Dev nD, (chOf d (uOf d c)).val = c.val / 4 := by decide +kernel

section Block
variable (m : (ℓ : Loc nD τ sig) → Buf (Elt Ideal) ℓ) (ρ : Dev nD → PrngReg)
variable (X : (⟨2, ![4096, 4096]⟩ : Shape).Idx → EReal) (W : S4096x2048.Idx → EReal)

/-- Each device's buffers hold its rows of `X`, and `W`. -/
def Parts : Prop := ∀ c : Dev nD,
  m ((c : Thread nD τ).loc main_arg0) = Layout.block ⟨2, ![128, 4096]⟩ ⟨2, ![4096, 4096]⟩ 0 32 c X
    ∧ m ((c : Thread nD τ).loc main_arg1) = W

variable {m X W} (h : Parts m X W)
include h

/-- Row `r` of device `c` is row `128 c + r` of `X`. -/
theorem row_apply (c : Dev nD) (r : Fin 128) (k : Fin 4096) :
    k0_pay1 (F := Ideal) (xstg m ρ c) (ix2 r k) = X (ix2 ⟨128 * c.val + r.val, by have : c.val < 32 := c.isLt; omega⟩ k) := by
  have e : k0_pay1 (F := Ideal) (xstg m ρ c) (ix2 r k) = xstg m ρ c (ix2 r k) :=
    congrFun (shapeCast_self (s := S128x4096) (xstg m ρ c) shapeCasts_S128x4096_S128x4096) (ix2 r k)
  rw [e, xstg_eq, (h c).1]
  refine congrArg X (funext fun a => Fin.ext ?_)
  match a with
  | ⟨0, _⟩ => exact congrArg (· + r.val) (Nat.mul_comm _ _)
  | ⟨1, _⟩ => rfl

/-- The entry at (r, q) of the block that turn `u` of device `c` computes. -/
theorem blk_apply (c : Dev nD) (u : Fin 8) (r : Fin 128) (q : Fin 256) :
    k0_pay14 (F := Ideal) (k0_pay1 (xstg m ρ c)) (wBlk m c u) (ix2 r q)
      = Y X W ⟨128 * c.val + r.val, by have : c.val < 32 := c.isLt; omega⟩
          ⟨256 * (chOf c u).val + q.val, by have := (chOf c u).isLt; omega⟩ := by
  rw [pay14_apply]
  refine Finset.sum_congr rfl fun k _ => ?_
  rw [row_apply ρ h]
  refine congrArg (_ * ·) ?_
  show m ((c : Thread nD τ).loc main_arg1) _ = _
  rw [(h c).2]

/-- What device `c` ends up with: all the rows of its 64 columns of the product. -/
theorem recv_apply (c : Dev nD) (i : Fin 4096) (q : Fin 64) :
    recvAll (F := Ideal) m ρ c (ix2 i q) = Y X W i ⟨64 * c.val + q.val, by have : c.val < 32 := c.isLt; omega⟩ := by
  have e : recvAll (F := Ideal) m ρ c (ix2 i q)
      = slP (ybC m ρ ⟨i.val / 128, by have := i.isLt; show _ < 32; omega⟩ (uOf ⟨i.val / 128, by have := i.isLt; show _ < 32; omega⟩ c)) (tOf c)
          (ix3 0 ⟨i.val % 128, Nat.mod_lt _ (by decide)⟩ q) := rfl
  rw [e, slP_apply]
  refine (blk_apply ρ h _ _ _ _).trans ?_
  have h1 := ch_uOf ⟨i.val / 128, by have := i.isLt; show _ < 32; omega⟩ c
  refine congrArg₂ (Y X W) (Fin.ext ?_) (Fin.ext ?_)
  · show 128 * (i.val / 128) + i.val % 128 = i.val
    omega
  · show 256 * (chOf _ _).val + (64 * (c.val % 4) + q.val) = 64 * c.val + q.val
    rw [h1]; omega

end Block

end Cert.KProof

end

end
-- ==== Proof.Maxima.lean ====
/-
  The maximum of the absolute values, as the kernel finds it: a running maximum over a device's eight blocks, then one
  over the 32 devices. A maximum is described by its upper bounds, in which no order of taking it appears.
-/
module

public import proofs.«01_k».proof.Proof.Entries
public import Idealize.ShloMosaic.PureOps.Reduce

@[expose] public section

set_option maxRecDepth 20000

noncomputable section

namespace Cert.KProof

open Cert.KernelIdeal Cert.KernelIdeal.Gen
open Idealize.ShloMosaic
open Idealize.ShloMosaic.TcCoe
open Idealize.ShloMosaic.ValueIdx
open Idealize.SL Idealize.SL.Sem

/-! ## Upper bounds of a fold of maxima -/

theorem foldl_max_le {α : Type} (f : α → EReal) (b : EReal) :
    ∀ (l : List α) (v : EReal), l.foldl (fun r i => max r (f i)) v ≤ b ↔ v ≤ b ∧ ∀ i ∈ l, f i ≤ b
  | [], v => by simp
  | a :: l, v => by
    rw [List.foldl_cons, foldl_max_le f b l, max_le_iff, List.forall_mem_cons, and_assoc]

/-- The word a maximum starts from is −∞. -/
theorem start_bot : Ideal.ofBits .f32 0xFF800000#32 = ⊥ := by
  simp [Ideal.ofBits, Ideal.ieee]

/-- A maximum over a whole vector lies below `b` when every element does. -/
theorem total_le {s t : Shape} {axes : List (Fin s.rank)} (x : FVec Ideal s .f32) (h : s.Reduces axes t) (ht : ∀ a, t.size a = 1)
    (hφ : FKind.Formats .f32) (hacc : (0xFF800000#32 : BitVec FTy.f32.bits) = FKind.maximumf.neutral .f32 hφ) (j : t.Idx) (b : EReal) :
    multiReduction (F := Ideal) .maximumf axes t x 0xFF800000#32 h hφ hacc j ≤ b ↔ ∀ i, x i ≤ b := by
  show reduceFold h (fun a c : EReal => max a c) (Ideal.ofBits .f32 0xFF800000#32) x j ≤ b ↔ _
  rw [reduceFold_eq_foldl_of_size_one h ht, start_bot, foldl_max_le]
  refine ⟨fun H i => H.2 i ?_, fun H => ⟨bot_le, fun i _ => H i⟩⟩
  exact List.mem_map.2 ⟨s.rowMajor i, List.mem_finRange _, by simp⟩

/-- The same of the host's reduction to a scalar. -/
theorem host_total_le {s t u : Shape} {axes : List (Fin s.rank)} (x : s.Idx → EReal) (v : u.Idx → EReal) (h : s.ReducesTo axes t)
    (hu : 0 < u.numel) (hv : ∀ k, v k = ⊥) (ht : t.rank = 0) (j : t.Idx) (b : EReal) :
    Host.reduce (fun a c : EReal => max a c) x v h hu j ≤ b ↔ ∀ i, x i ≤ b := by
  rw [Host.reduce_eq_foldl, hv, foldl_max_le]
  refine ⟨fun H i => H.2 i ?_, fun H => ⟨bot_le, fun i _ => H i⟩⟩
  refine List.mem_filter.2 ⟨List.mem_map.2 ⟨s.rowMajor i, List.mem_finRange _, by simp⟩, decide_eq_true ?_⟩
  funext a
  exact absurd a.isLt (by omega)

/-! ## The kernel's maxima -/

theorem size_S1 : ∀ a, S1.size a = 1 := by decide

/-- The larger of two numbers. -/
theorem larger_le (v w b : EReal) : Scalar.maximumf (F := Ideal) (φ := .f32) v w ≤ b ↔ v ≤ b ∧ w ≤ b :=
  max_le_iff (α := EReal)

/-- The maximum of a block. -/
theorem block_le (z : FVec Ideal S1x128x256 .f32) (hφ : FKind.Formats .f32)
    (hacc : (0xFF800000#32 : BitVec FTy.f32.bits) = FKind.maximumf.neutral .f32 hφ) (b : EReal) :
    (extractAt ![0, 0, 0] (shapeCast S1x1x1
      (multiReduction (F := Ideal) .maximumf [1, 2] S1 z 0xFF800000#32 reduces_S1x128x256_S1 hφ hacc)
      shapeCasts_S1_S1x1x1) inpos_S1x1x1_p0_0_0 : EReal) ≤ b ↔ ∀ i, (z i : EReal) ≤ b :=
  total_le z reduces_S1x128x256_S1 size_S1 hφ hacc
    (Shape.reshapeEquiv shapeCasts_S1_S1x1x1 fun a => ⟨![0, 0, 0] a, inpos_S1x1x1_p0_0_0 a⟩) b

/-- The larger of a number and the maximum of a block. -/
theorem step_le (z : FVec Ideal S1x128x256 .f32) (hφ : FKind.Formats .f32)
    (hacc : (0xFF800000#32 : BitVec FTy.f32.bits) = FKind.maximumf.neutral .f32 hφ) (v b : EReal) :
    Scalar.maximumf (F := Ideal) (φ := .f32) v (extractAt ![0, 0, 0] (shapeCast S1x1x1
      (multiReduction (F := Ideal) .maximumf [1, 2] S1 z 0xFF800000#32 reduces_S1x128x256_S1 hφ hacc)
      shapeCasts_S1_S1x1x1) inpos_S1x1x1_p0_0_0) ≤ b ↔ v ≤ b ∧ ∀ i, (z i : EReal) ≤ b :=
  Iff.trans (larger_le _ _ b) (and_congr_right fun _ => block_le z hφ hacc b)

/-- The absolute values of a block, read at an index of the cast block. -/
theorem abs_cast (y : FVec Ideal S128x256 .f32) (i : S1x128x256.Idx) :
    shapeCast S1x128x256 (absf (F := Ideal) y) shapeCasts_S128x256_S1x128x256 i
      = max (y (ix2 (i 1) (i 2))) (-(y (ix2 (i 1) (i 2)) : EReal)) := by
  refine (shapeCast_addUnit_apply ![128, 256] _ shapeCasts_S128x256_S1x128x256 i).trans ?_
  have hi' : (fun a : Fin 2 => i a.succ) = ix2 (n0 := 128) (n1 := 256) (i 1) (i 2) :=
    funext fun a => match a with | ⟨0, _⟩ => rfl | ⟨1, _⟩ => rfl
  exact (congrArg (absf (F := Ideal) y) hi').trans rfl

/-- The larger of a number and the greatest absolute value of a block. -/
theorem step_abs_le (y : FVec Ideal S128x256 .f32) (hφ : FKind.Formats .f32)
    (hacc : (0xFF800000#32 : BitVec FTy.f32.bits) = FKind.maximumf.neutral .f32 hφ) (v b : EReal) :
    Scalar.maximumf (F := Ideal) (φ := .f32) v (extractAt ![0, 0, 0] (shapeCast S1x1x1
      (multiReduction (F := Ideal) .maximumf [1, 2] S1
        (shapeCast S1x128x256 (absf (F := Ideal) y) shapeCasts_S128x256_S1x128x256)
        0xFF800000#32 reduces_S1x128x256_S1 hφ hacc)
      shapeCasts_S1_S1x1x1) inpos_S1x1x1_p0_0_0) ≤ b
      ↔ v ≤ b ∧ ∀ (r : Fin 128) (q : Fin 256), max (y (ix2 r q)) (-(y (ix2 r q) : EReal)) ≤ b := by
  refine Iff.trans (step_le _ hφ hacc v b) (and_congr_right fun _ => ?_)
  exact ⟨fun H r q => (abs_cast y (ix3 0 r q)) ▸ H (ix3 0 r q), fun H i => (abs_cast y i).symm ▸ H _ _⟩

/-- The running maximum after a block. -/
theorem pay15_le (x : FVec Ideal S128x4096 .bf16) (v : EReal) (w : Vec Ideal S1x4096x256 .f32) (b : EReal) :
    k0_pay15 (F := Ideal) x v w ≤ b
      ↔ v ≤ b ∧ ∀ (r : Fin 128) (q : Fin 256),
          max (k0_pay14 (F := Ideal) x w (ix2 r q)) (-(k0_pay14 (F := Ideal) x w (ix2 r q) : EReal)) ≤ b := by
  unfold k0_pay15
  exact step_abs_le (k0_pay14 (F := Ideal) x w) _ _ v b

/-- The maximum over the devices' table. -/
theorem pay99_le (a : Vec Ideal S32x128 .f32) (b : EReal) : k0_pay99 (F := Ideal) a ≤ b ↔ ∀ i, (a i : EReal) ≤ b := by
  refine Iff.trans (total_le (shapeCast S1x32x128 a shapeCasts_S32x128_S1x32x128) reduces_S1x32x128_S1 size_S1 (.inl rfl) rfl _ b) ?_
  have e : ∀ i : S1x32x128.Idx, shapeCast S1x32x128 a shapeCasts_S32x128_S1x32x128 i = a (ix2 (i 1) (i 2)) := fun i =>
    (shapeCast_addUnit_apply ![32, 128] _ shapeCasts_S32x128_S1x32x128 i).trans
      (congrArg a (funext fun a => match a with | ⟨0, _⟩ => rfl | ⟨1, _⟩ => rfl))
  refine ⟨fun H i => ?_, fun H i => (e i).symm ▸ H _⟩
  have := H (ix3 0 (i 0) (i 1))
  rw [e] at this
  rw [eq_ix2 i]
  exact this

section Whole
variable (m : (ℓ : Loc nD τ sig) → Buf (Elt Ideal) ℓ) (ρ : Dev nD → PrngReg)
variable (X : (⟨2, ![4096, 4096]⟩ : Shape).Idx → EReal) (W : S4096x2048.Idx → EReal)

/-- The running maximum over a list of turns. -/
theorem mxR_le (c : Dev nD) (b : EReal) : ∀ (l : List (Fin 8)) (v : EReal), mxR (F := Ideal) m ρ c l v ≤ b
    ↔ v ≤ b ∧ ∀ u ∈ l, ∀ (r : Fin 128) (q : Fin 256),
      max (k0_pay14 (F := Ideal) (k0_pay1 (xstg m ρ c)) (wBlk m c u) (ix2 r q))
        (-(k0_pay14 (F := Ideal) (k0_pay1 (xstg m ρ c)) (wBlk m c u) (ix2 r q) : EReal)) ≤ b
  | [], v => by simp [mxR]
  | u :: l, v => by
    rw [List.forall_mem_cons, ← and_assoc, ← pay15_le]
    exact mxR_le c b l _

theorem mem_L8 : ∀ u : Fin 8, u ∈ L8 := by decide
/-- The place of a column: its chunk, and the turn in which device `c` reads that chunk. -/
theorem ch_turn : ∀ (c : Dev nD) (p : Fin 8), ∃ u : Fin 8, (chOf c u).val = p.val := by decide +kernel

variable {m X W} (h : Parts m X W)
include h

/-- The maximum every device divides by: the largest absolute value in the product. -/
theorem amax_le (b : EReal) : k0_pay99 (F := Ideal) (amaxAll m ρ) ≤ b ↔ ∀ (i : Fin 4096) (j : Fin 2048), max (Y X W i j) (-(Y X W i j)) ≤ b := by
  rw [pay99_le]
  have e : (∀ i : S32x128.Idx, (amaxAll m ρ i : EReal) ≤ b) ↔ ∀ d : Dev nD, (mxR (F := Ideal) m ρ d L8 m₀ : EReal) ≤ b :=
    ⟨fun H d => H (ix2 d 0), fun H i => H (i 0)⟩
  have z : (m₀ (F := Ideal) : EReal) = 0 := Ideal.ofBits_zero_f32
  rw [e]
  constructor
  · intro H i j
    obtain ⟨u, hu⟩ := ch_turn ⟨i.val / 128, by have := i.isLt; show _ < 32; omega⟩ ⟨j.val / 256, by omega⟩
    have H1 := ((mxR_le m ρ _ b L8 _).1 (H ⟨i.val / 128, by have := i.isLt; show _ < 32; omega⟩)).2 u (mem_L8 u)
      ⟨i.val % 128, Nat.mod_lt _ (by decide)⟩ ⟨j.val % 256, Nat.mod_lt _ (by decide)⟩
    have e1 := (blk_apply ρ h ⟨i.val / 128, by have := i.isLt; show _ < 32; omega⟩ u
      ⟨i.val % 128, Nat.mod_lt _ (by decide)⟩ ⟨j.val % 256, Nat.mod_lt _ (by decide)⟩).trans
      (congrArg₂ (Y X W) (x' := i) (y' := j) (Fin.ext (Nat.div_add_mod _ _)) (Fin.ext (by
        show 256 * (chOf _ u).val + _ = _
        rw [hu]; exact Nat.div_add_mod _ _)))
    rw [e1] at H1
    exact H1
  · intro H d
    refine (mxR_le m ρ d b L8 _).2 ⟨?_, fun u _ r q => ?_⟩
    · exact z.le.trans ((abs_nonneg_ereal _).trans (H 0 0))
    · rw [blk_apply ρ h]
      exact H _ _

end Whole

end Cert.KProof

end

end
-- ==== Proof.Value.lean ====
/-
  The two results over the extended reals: the reference's, entry by entry, and the kernel's equality with its block.
-/
module

public import proofs.«01_k».proof.Proof.Maxima
public import proofs.«01_k».proof.Proof.Gen.ReferenceIdeal.Run
public import Idealize.ShloMosaic.Lib.StackMember

@[expose] public section

set_option maxRecDepth 20000

noncomputable section

namespace Cert.KProof

open Idealize.ShloMosaic
open Idealize.ShloMosaic.TcCoe
open Idealize.ShloMosaic.ValueIdx
open Idealize.SL Idealize.SL.Sem

section Reference
open Cert.ReferenceIdeal Cert.ReferenceIdeal.Gen

variable (X : FVec Ideal S4096x4096 .f32) (W : FVec Ideal S4096x2048 .f32)

/-- The reference's product. -/
def rDot : FVec Ideal S4096x2048 .f32 := Host.dotGeneral dot_S4096x4096_S4096x2048_S4096x2048_1_0_0_1_n_n none X W

/-- The reference's greatest absolute value. -/
def rMax : FVec Ideal S_ .f32 :=
  Host.reduce FloatOps.maximumf (Host.absf (rDot X W)) (constant S_ .f32 0xFF800000#32) reducesTo_S4096x2048_S_d0_1 h_S_

/-- The reference's scale. -/
def rScale : FVec Ideal S_ .f32 := Host.divf (rMax X W) (constant S_ .f32 0x42FE0000#32)

/-- The reference's result. -/
def rOut : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf (rDot X W) (broadcastInDim S4096x2048 ![] bcast_S_S4096x2048 (rScale X W))))))
    (broadcastInDim S4096x2048 ![] bcast_S_S4096x2048 (rScale X W))

/-- The index of a scalar. -/
def pt : S_.Idx := fun a => a.elim0

theorem pt_eq (k : S_.Idx) : k = pt := funext fun a => a.elim0

/-- The reference's product, entry by entry. -/
theorem rDot_apply (i : Fin 4096) (j : Fin 2048) : rDot X W (ix2 i j) = Y X W i j :=
  StackMember.dotGeneral_plain_apply (m := 4096) (k := 4096) (n := 2048) none X W i j

/-- The upper bounds of a maximum that the host takes. -/
theorem hmax_le (Z : FVec Ideal S4096x2048 .f32) (v : FVec Ideal S_ .f32) (hv : ∀ k, (v k : EReal) = ⊥) (b : EReal) :
    (Host.reduce (FloatOps.maximumf (F := Ideal) (φ := .f32)) Z v reducesTo_S4096x2048_S_d0_1 h_S_ pt : EReal) ≤ b ↔ ∀ i, (Z i : EReal) ≤ b :=
  host_total_le Z v reducesTo_S4096x2048_S_d0_1 h_S_ hv rfl pt b

/-- The upper bounds of the reference's maximum. -/
theorem rMax_le (b : EReal) : (rMax X W pt : EReal) ≤ b ↔ ∀ (i : Fin 4096) (j : Fin 2048), max (Y X W i j) (-(Y X W i j)) ≤ b := by
  have e : ∀ i j, (Host.absf (rDot X W) (ix2 i j) : EReal) = max (Y X W i j) (-(Y X W i j)) := fun i j =>
    (congrArg (fun z : EReal => max z (-z)) (rDot_apply X W i j))
  unfold rMax
  refine Iff.trans (hmax_le (Host.absf (rDot X W)) (constant S_ .f32 0xFF800000#32) (fun _ => start_bot) b) ⟨fun H i j => (e i j) ▸ H (ix2 i j), fun H k => ?_⟩
  rw [eq_ix2 k]
  exact (e (k 0) (k 1)).symm ▸ H (k 0) (k 1)

/-- The reference's result, entry by entry. -/
theorem rOut_apply (i : Fin 4096) (j : Fin 2048) : (rOut X W (ix2 i j) : EReal)
    = clip8 (Ideal.div (Y X W i j) (Ideal.div (rMax X W pt) hi)) * Ideal.div (rMax X W pt) hi := by
  have hs : ∀ k, (broadcastInDim S4096x2048 ![] bcast_S_S4096x2048 (rScale X W) k : EReal) = Ideal.div (rMax X W pt) hi := fun k =>
    congrArg (fun z => Ideal.div (rMax X W z) hi) (pt_eq _)
  have hd := rDot_apply X W i j
  show min hi (max lo (Ideal.liftRound Ideal.roundHalfEven
    (Ideal.div (rDot X W (ix2 i j)) (broadcastInDim S4096x2048 ![] bcast_S_S4096x2048 (rScale X W) (ix2 i j)))))
      * (broadcastInDim S4096x2048 ![] bcast_S_S4096x2048 (rScale X W) (ix2 i j) : EReal) = _
  rw [hs, hd]
  rfl

end Reference

section Kernel
open Cert.KernelIdeal Cert.KernelIdeal.Gen

/-- The kernel's quantisation, entry by entry. -/
theorem pay102_apply (g : EReal) (a b : EReal) (ha : a = Ideal.div hi g) (hb : b = Ideal.div g hi) (r : FVec Ideal S4096x64 .bf16)
    (k : S4096x64.Idx) : (k0_pay102 (F := Ideal) a b r k : EReal) = clip8 (r k * Ideal.div hi g) * Ideal.div g hi := by
  subst ha hb
  rfl

/-- The factor before rounding. -/
theorem pay100_eq (a : Vec Ideal S32x128 .f32) : (k0_pay100 (F := Ideal) a : EReal) = Ideal.div hi (k0_pay99 (F := Ideal) a) := by
  unfold k0_pay100
  generalize k0_pay99 (F := Ideal) a = g
  rfl

/-- The factor after rounding. -/
theorem pay101_eq (a : Vec Ideal S32x128 .f32) : (k0_pay101 (F := Ideal) a : EReal) = Ideal.div (k0_pay99 (F := Ideal) a) hi := by
  unfold k0_pay101
  generalize k0_pay99 (F := Ideal) a = g
  rfl

variable (m : (ℓ : Loc nD τ sig) → Buf (Elt Ideal) ℓ) (ρ : Dev nD → PrngReg)
variable {X : FVec Ideal ⟨2, ![4096, 4096]⟩ .f32} {W : FVec Ideal S4096x2048 .f32}

/-- Both find the same greatest absolute value. -/
theorem max_same (h : Parts m X W) : (k0_pay99 (F := Ideal) (amaxAll m ρ) : EReal) = rMax X W pt :=
  eq_of_forall_ge_iff fun b => (amax_le ρ h b).trans (rMax_le X W b).symm

/-- A device's result is its block of the reference's. -/
theorem out_same (h : Parts m X W) (c : Dev nD) :
    outAt (F := Ideal) m ρ c = Layout.block ⟨2, ![4096, 64]⟩ ⟨2, ![4096, 2048]⟩ 1 32 c (rOut X W) := by
  funext k
  obtain ⟨i, q, rfl⟩ : ∃ (i : Fin 4096) (q : Fin 64), k = ix2 i q := ⟨k 0, k 1, eq_ix2 k⟩
  have hc : c.val < 32 := c.isLt
  have hk : (outAt (F := Ideal) m ρ c (ix2 i q) : EReal)
      = clip8 (recvAll (F := Ideal) m ρ c (ix2 i q) * Ideal.div hi (k0_pay99 (F := Ideal) (amaxAll m ρ)))
          * Ideal.div (k0_pay99 (F := Ideal) (amaxAll m ρ)) hi :=
    pay102_apply (k0_pay99 (F := Ideal) (amaxAll m ρ)) (k0_pay100 (F := Ideal) (amaxAll m ρ)) (k0_pay101 (F := Ideal) (amaxAll m ρ))
      (pay100_eq _) (pay101_eq _)
      (recvAll (F := Ideal) m ρ c) (ix2 i q)
  have hr : (show FVec Ideal S4096x64 .f32 from Layout.block ⟨2, ![4096, 64]⟩ ⟨2, ![4096, 2048]⟩ 1 32 c (rOut X W)) (ix2 i q)
      = rOut X W (ix2 i ⟨64 * c.val + q.val, by omega⟩) := by
    refine congrArg (rOut X W) (funext fun a => Fin.ext ?_)
    match a with
    | ⟨0, _⟩ => rfl
    | ⟨1, _⟩ => exact congrArg (· + q.val) (Nat.mul_comm _ _)
  refine hk.trans (Eq.trans ?_ hr.symm)
  rw [rOut_apply, recv_apply ρ h, max_same m ρ h]
  exact quant_eq _ _ ((rMax_le X W _).1 le_rfl _ _)

end Kernel

end Cert.KProof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.KProof

/-- What a frame says of a run of the kernel from `m`, over any float values and for the body table `d`. -/
def Frame {F : FTy → Type} [FloatOps F]
    (d : Defs Cert.KernelIdeal.nD Cert.KernelIdeal.τ Cert.KernelIdeal.sig (Elt F)
      (Pipeline.Sig Cert.KernelIdeal.Λ₀ (Fin 1) fun p => (Cert.KernelIdeal.pcfgs (F := F) p).Adm))
    (m : (ℓ : Loc Cert.KernelIdeal.nD Cert.KernelIdeal.τ Cert.KernelIdeal.sig) → Buf (Elt F) ℓ) (ρ : Dev Cert.KernelIdeal.nD → PrngReg) : Prop :=
  θ_run d (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)

/-- The kernel's run with the contents dropped: its arguments end as they were, its semaphores at zero. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) : Frame (Cert.KernelIdeal.defs (F := F)) m ρ :=
  (θ_run (Cert.KernelIdeal.defs (F := F)) _ _).mono
    (fun _ h => ⟨fun c => ⟨((h.1 c).1 (0 : Fin 2)).trans (final_x m ρ c), (h.1 c).2⟩, h.2⟩) (run_final (F := F) m ρ)

/-- The two programs have the same body, -/
theorem body_same {F : FTy → Type} [FloatOps F] : Cert.Kernel.defs₀ (F := F) = Cert.KernelIdeal.defs₀ (F := F) := by
  refine congrArg (Defs.onTc (τ := Cert.KernelIdeal.τ) (nD := Cert.KernelIdeal.nD)) ?_
  funext l a
  obtain ⟨n, hn⟩ := l
  match n, hn, a with
  | 0, _, (t, s) => exact rfl
  | n + 1, h, _ => exact absurd h (by omega)

/-- and so the same body table. -/
theorem defs_same {F : FTy → Type} [FloatOps F] : Cert.Kernel.defs (F := F) = Cert.KernelIdeal.defs (F := F) :=
  congrArg (Pipeline.defs (Cert.KernelIdeal.pcfgs (F := F))) body_same

/-- The kernel's frame over the extended reals. -/
theorem frame_kernelIdeal : Cert.quiescent_KernelIdeal := fun m ρ _ => run_frame (F := Ideal) m ρ

/-- The kernel's frame over the machine's floats: its program has the same text. -/
theorem frame_kernel : Cert.quiescent_Kernel := fun m ρ _ =>
  (congrArg (fun d => Frame (F := Bits) d m ρ) (defs_same (F := Bits))).mpr (run_frame (F := Bits) m ρ)

/-- The reference's frame: host operations only, so no semaphore is ever touched. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The kernel and the reference end with the same result: each device holds its columns of it. -/
theorem algebraic : Cert.algebraic_KernelIdeal_ReferenceIdeal := fun m ρ m' ρ' _ h => by
  refine ⟨rOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun r H c => ⟨(((H.1 c).1 (1 : Fin 2)).trans (final_out m ρ c)).trans (out_same m ρ h c),
        ((H.1 c).1 (0 : Fin 2)).trans (final_x m ρ c), (H.1 c).2⟩) (run_final (F := Ideal) m ρ)
  · exact (θ_run (Cert.ReferenceIdeal.defs (F := Ideal)) _ _).mono
      (fun r H => ⟨(H 0).1, (H 0).2⟩) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
